-- ==== Defs.lean ====
def Pre_Kernel [hPre_cat_in_range : Cert.Pre_cat_in_range.Facts] (m : (ℓ : Loc Cert.Kernel.nD Cert.Kernel.τ Cert.Kernel.sig) → Buf (Elt Bits) ℓ) : Prop :=
  ∀ c : Dev Cert.Kernel.nD,
    (Cert.Pre_cat_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_cat_in_range : Cert.Pre_cat_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_cat_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cat_in_range [hPre_cat_in_range : Cert.Pre_cat_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cat_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] [hPre_cat_in_range : Cert.Pre_cat_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_cat_in_range : Cert.Pre_cat_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_cat_in_range [hReferenceIdeal : Cert.ReferenceIdeal.Facts] [hPre_cat_in_range : Cert.Pre_cat_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cat_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_cat_in_range : Cert.Pre_cat_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_cat_in_range : Cert.Pre_cat_in_range.Facts),
    quiescent_Kernel (hKernel := hKernel) (hPre_cat_in_range := hPre_cat_in_range)
    ∧ quiescent_KernelIdeal (hKernelIdeal := hKernelIdeal) (hPre_cat_in_range := hPre_cat_in_range)
    ∧ quiescent_ReferenceIdeal (hReferenceIdeal := hReferenceIdeal)
    ∧ quiescent_ReferenceIdeal_pre_cat_in_range (hReferenceIdeal := hReferenceIdeal) (hPre_cat_in_range := hPre_cat_in_range)
    ∧ preserves_Kernel_KernelIdeal
    ∧ algebraic_KernelIdeal_ReferenceIdeal (hKernelIdeal := hKernelIdeal) (hReferenceIdeal := hReferenceIdeal) (hPre_cat_in_range := hPre_cat_in_range)
-- ==== Pre_cat_in_range.lean ====
abbrev S4096x39 : Shape := ⟨2, ![4096, 39]⟩
abbrev S_ : Shape := ⟨0, ![]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S2600000x128 : Shape := ⟨2, ![2600000, 128]⟩
abbrev S506x1024 : Shape := ⟨2, ![506, 1024]⟩
abbrev S1024 : Shape := ⟨1, ![1024]⟩
abbrev S1024x1024 : Shape := ⟨2, ![1024, 1024]⟩
abbrev S1024x512 : Shape := ⟨2, ![1024, 512]⟩
abbrev S256x1 : Shape := ⟨2, ![256, 1]⟩
abbrev S1 : Shape := ⟨1, ![1]⟩
abbrev S4096x26 : Shape := ⟨2, ![4096, 26]⟩

class Facts : Prop where
  slices_S4096x39_S4096x26_0_13 : S4096x39.Slices ![0, 13] S4096x26
  bcast_S_S4096x26 : S_.BroadcastsInDim S4096x26 (![] : Fin 0 → Fin S4096x26.rank)
  reducesTo_S4096x26_S_d0_1 : S4096x26.ReducesTo [0, 1] S_
  h_S_ : 0 < S_.numel

variable [Facts]

def fn {F : FTy → Type} [FloatOps F] (main_arg0 : FVec F S4096x39 .f32) (main_arg1 : IVec S_ 32) (main_arg2 : FVec F S13x512 .f32) (main_arg3 : FVec F S512 .f32) (main_arg4 : FVec F S512x256 .f32) (main_arg5 : FVec F S256 .f32) (main_arg6 : FVec F S256x128 .f32) (main_arg7 : FVec F S128 .f32) (main_arg8 : FVec F S2600000x128 .f32) (main_arg9 : FVec F S506x1024 .f32) (main_arg10 : FVec F S1024 .f32) (main_arg11 : FVec F S1024x1024 .f32) (main_arg12 : FVec F S1024 .f32) (main_arg13 : FVec F S1024x512 .f32) (main_arg14 : FVec F S512 .f32) (main_arg15 : FVec F S512x256 .f32) (main_arg16 : FVec F S256 .f32) (main_arg17 : FVec F S256x1 .f32) (main_arg18 : FVec F S1 .f32) : IVec S_ 1 :=
  let main_v0 : FVec F S4096x26 .f32 := (extractStridedSlice S4096x26 ![0, 13] · slices_S4096x39_S4096x26_0_13) main_arg0
  let main_v1 : IVec S4096x26 32 := fptosi 32 main_v0
  let main_c : IVec S_ 32 := constantI S_ 32 0#32
  let main_v2 : IVec S4096x26 32 := broadcastInDim S4096x26 ![] bcast_S_S4096x26 main_c
  let main_v3 : IVec S4096x26 1 := cmpi .sge main_v1 main_v2
  let main_c_0 : IVec S_ 32 := constantI S_ 32 100000#32
  let main_v4 : IVec S4096x26 32 := broadcastInDim S4096x26 ![] bcast_S_S4096x26 main_c_0
  let main_v5 : IVec S4096x26 1 := cmpi .slt main_v1 main_v4
  let main_v6 : IVec S4096x26 1 := andi main_v3 main_v5
  let main_c_1 : IVec S_ 1 := constantI S_ 1 1#1
  let main_v7 : IVec S_ 1 := (fun x v => Host.reduce IntOp.andi x v reducesTo_S4096x26_S_d0_1 h_S_) main_v6 main_c_1
  main_v7
-- ==== Kernel.lean ====
abbrev S4096x39 : Shape := ⟨2, ![4096, 39]⟩
abbrev S_ : Shape := ⟨0, ![]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S2600000x128 : Shape := ⟨2, ![2600000, 128]⟩
abbrev S506x1024 : Shape := ⟨2, ![506, 1024]⟩
abbrev S1024 : Shape := ⟨1, ![1024]⟩
abbrev S1024x1024 : Shape := ⟨2, ![1024, 1024]⟩
abbrev S1024x512 : Shape := ⟨2, ![1024, 512]⟩
abbrev S256x1 : Shape := ⟨2, ![256, 1]⟩
abbrev S1 : Shape := ⟨1, ![1]⟩
abbrev S729 : Shape := ⟨1, ![729]⟩
abbrev S729x1 : Shape := ⟨2, ![729, 1]⟩
abbrev S4096x26 : Shape := ⟨2, ![4096, 26]⟩
abbrev S26 : Shape := ⟨1, ![26]⟩
abbrev S1x26 : Shape := ⟨2, ![1, 26]⟩
abbrev S106496 : Shape := ⟨1, ![106496]⟩
abbrev S128x1024 : Shape := ⟨2, ![128, 1024]⟩
abbrev S378x1024 : Shape := ⟨2, ![378, 1024]⟩
abbrev S1x1 : Shape := ⟨2, ![1, 1]⟩
abbrev S729x1024 : Shape := ⟨2, ![729, 1024]⟩
abbrev S1x512 : Shape := ⟨2, ![1, 512]⟩
abbrev S1x256 : Shape := ⟨2, ![1, 256]⟩
abbrev S1x128 : Shape := ⟨2, ![1, 128]⟩
abbrev S1x1024 : Shape := ⟨2, ![1, 1024]⟩
abbrev S53248 : Shape := ⟨1, ![53248]⟩
abbrev S1x53248 : Shape := ⟨2, ![1, 53248]⟩
abbrev S53248x128 : Shape := ⟨2, ![53248, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256x128 : Shape := ⟨3, ![1, 256, 128]⟩
abbrev S2048x39 : Shape := ⟨2, ![2048, 39]⟩
abbrev S2048x1 : Shape := ⟨2, ![2048, 1]⟩
abbrev S512x39 : Shape := ⟨2, ![512, 39]⟩
abbrev S13312x128 : Shape := ⟨2, ![13312, 128]⟩
abbrev S512x1 : Shape := ⟨2, ![512, 1]⟩
abbrev S512x13 : Shape := ⟨2, ![512, 13]⟩
abbrev S512x512 : Shape := ⟨2, ![512, 512]⟩
abbrev S512x128 : Shape := ⟨2, ![512, 128]⟩
abbrev S512x26x128 : Shape := ⟨3, ![512, 26, 128]⟩
abbrev S512x1x128 : Shape := ⟨3, ![512, 1, 128]⟩
abbrev S512x27x128 : Shape := ⟨3, ![512, 27, 128]⟩
abbrev S512x27x27 : Shape := ⟨3, ![512, 27, 27]⟩
abbrev S512x729 : Shape := ⟨2, ![512, 729]⟩
abbrev S512x1024 : Shape := ⟨2, ![512, 1024]⟩
abbrev S4096x1 : Shape := ⟨2, ![4096, 1]⟩

abbrev nBuf : Table → Nat
  | .hbm => 84
  | .local .tc .vmem => 46
  | .local .scVector .vmem => 4
  | _ => 0

abbrev bufTy : (tb : Table) → Fin (nBuf tb) → BufTy
  | .hbm, ⟨0, _⟩ => ⟨S4096x39, .f32⟩
  | .hbm, ⟨1, _⟩ => ⟨S_, .i32⟩
  | .hbm, ⟨2, _⟩ => ⟨S13x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S2600000x128, .f32⟩
  | .hbm, ⟨9, _⟩ => ⟨S506x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S512x256, .f32⟩
  | .hbm, ⟨16, _⟩ => ⟨S256, .f32⟩
  | .hbm, ⟨17, _⟩ => ⟨S256x1, .f32⟩
  | .hbm, ⟨18, _⟩ => ⟨S1, .f32⟩
  | .hbm, ⟨19, _⟩ => ⟨S729, .i32⟩
  | .hbm, ⟨20, _⟩ => ⟨S729, .f32⟩
  | .hbm, ⟨21, _⟩ => ⟨S729x1, .f32⟩
  | .hbm, ⟨22, _⟩ => ⟨S4096x26, .f32⟩
  | .hbm, ⟨23, _⟩ => ⟨S4096x26, .i32⟩
  | .hbm, ⟨24, _⟩ => ⟨S26, .i32⟩
  | .hbm, ⟨25, _⟩ => ⟨S_, .i32⟩
  | .hbm, ⟨26, _⟩ => ⟨S26, .i32⟩
  | .hbm, ⟨27, _⟩ => ⟨S26, .i32⟩
  | .hbm, ⟨28, _⟩ => ⟨S1x26, .i32⟩
  | .hbm, ⟨29, _⟩ => ⟨S4096x26, .i32⟩
  | .hbm, ⟨30, _⟩ => ⟨S4096x26, .i32⟩
  | .hbm, ⟨31, _⟩ => ⟨S106496, .i32⟩
  | .hbm, ⟨32, _⟩ => ⟨S128x1024, .f32⟩
  | .hbm, ⟨33, _⟩ => ⟨S378x1024, .f32⟩
  | .hbm, ⟨34, _⟩ => ⟨S_, .i32⟩
  | .hbm, ⟨35, _⟩ => ⟨S729, .i32⟩
  | .hbm, ⟨36, _⟩ => ⟨S729, .i1⟩
  | .hbm, ⟨37, _⟩ => ⟨S_, .i32⟩
  | .hbm, ⟨38, _⟩ => ⟨S729, .i32⟩
  | .hbm, ⟨39, _⟩ => ⟨S729, .i32⟩
  | .hbm, ⟨40, _⟩ => ⟨S729, .i32⟩
  | .hbm, ⟨41, _⟩ => ⟨S729x1, .i32⟩
  | .hbm, ⟨42, _⟩ => ⟨S1, .i32⟩
  | .hbm, ⟨43, _⟩ => ⟨S_, .i32⟩
  | .hbm, ⟨44, _⟩ => ⟨S729x1, .i32⟩
  | .hbm, ⟨45, _⟩ => ⟨S729x1, .i1⟩
  | .hbm, ⟨46, _⟩ => ⟨S1x1, .i32⟩
  | .hbm, ⟨47, _⟩ => ⟨S729x1, .i32⟩
  | .hbm, ⟨48, _⟩ => ⟨S729x1, .i1⟩
  | .hbm, ⟨49, _⟩ => ⟨S729x1, .i1⟩
  | .hbm, ⟨50, _⟩ => ⟨S_, .i1⟩
  | .hbm, ⟨51, _⟩ => ⟨S729, .i1⟩
  | .hbm, ⟨52, _⟩ => ⟨S729x1024, .f32⟩
  | .hbm, ⟨53, _⟩ => ⟨S729x1024, .i1⟩
  | .hbm, ⟨54, _⟩ => ⟨S_, .f32⟩
  | .hbm, ⟨55, _⟩ => ⟨S729x1024, .f32⟩
  | .hbm, ⟨56, _⟩ => ⟨S729x1024, .f32⟩
  | .hbm, ⟨57, _⟩ => ⟨S729x1024, .f32⟩
  | .hbm, ⟨58, _⟩ => ⟨S729x1024, .f32⟩
  | .hbm, ⟨59, _⟩ => ⟨S1x512, .f32⟩
  | .hbm, ⟨60, _⟩ => ⟨S1x256, .f32⟩
  | .hbm, ⟨61, _⟩ => ⟨S1x128, .f32⟩
  | .hbm, ⟨62, _⟩ => ⟨S1x1024, .f32⟩
  | .hbm, ⟨63, _⟩ => ⟨S1x1024, .f32⟩
  | .hbm, ⟨64, _⟩ => ⟨S1x512, .f32⟩
  | .hbm, ⟨65, _⟩ => ⟨S1x256, .f32⟩
  | .hbm, ⟨66, _⟩ => ⟨S1x1, .f32⟩
  | .hbm, ⟨67, _⟩ => ⟨S_, .i32⟩
  | .hbm, ⟨68, _⟩ => ⟨S53248, .i32⟩
  | .hbm, ⟨69, _⟩ => ⟨S1x53248, .i32⟩
  | .hbm, ⟨70, _⟩ => ⟨S53248x128, .f32⟩
  | .hbm, ⟨71, _⟩ => ⟨S_, .i32⟩
  | .hbm, ⟨72, _⟩ => ⟨S53248, .i32⟩
  | .hbm, ⟨73, _⟩ => ⟨S1x53248, .i32⟩
  | .hbm, ⟨74, _⟩ => ⟨S53248x128, .f32⟩
  | .hbm, ⟨75, _⟩ => ⟨S_, .i32⟩
  | .hbm, ⟨76, _⟩ => ⟨S_, .i32⟩
  | .hbm, ⟨77, _⟩ => ⟨S2048x39, .f32⟩
  | .hbm, ⟨78, _⟩ => ⟨S2048x1, .f32⟩
  | .hbm, ⟨79, _⟩ => ⟨S_, .i32⟩
  | .hbm, ⟨80, _⟩ => ⟨S_, .i32⟩
  | .hbm, ⟨81, _⟩ => ⟨S2048x39, .f32⟩
  | .hbm, ⟨82, _⟩ => ⟨S2048x1, .f32⟩
  | .hbm, ⟨83, _⟩ => ⟨S4096x1, .f32⟩
  | .local .tc .vmem, ⟨0, _⟩ => ⟨S512x39, .f32⟩
  | .local .tc .vmem, ⟨1, _⟩ => ⟨S512x39, .f32⟩
  | .local .tc .vmem, ⟨2, _⟩ => ⟨S13312x128, .f32⟩
  | .local .tc .vmem, ⟨3, _⟩ => ⟨S13312x128, .f32⟩
  | .local .tc .vmem, ⟨4, _⟩ => ⟨S13x512, .f32⟩
  | .local .tc .vmem, ⟨5, _⟩ => ⟨S1x512, .f32⟩
  | .local .tc .vmem, ⟨6, _⟩ => ⟨S512x256, .f32⟩
  | .local .tc .vmem, ⟨7, _⟩ => ⟨S1x256, .f32⟩
  | .local .tc .vmem, ⟨8, _⟩ => ⟨S256x128, .f32⟩
  | .local .tc .vmem, ⟨9, _⟩ => ⟨S1x128, .f32⟩
  | .local .tc .vmem, ⟨10, _⟩ => ⟨S128x1024, .f32⟩
  | .local .tc .vmem, ⟨11, _⟩ => ⟨S729x1024, .f32⟩
  | .local .tc .vmem, ⟨12, _⟩ => ⟨S1x1024, .f32⟩
  | .local .tc .vmem, ⟨13, _⟩ => ⟨S1024x1024, .f32⟩
  | .local .tc .vmem, ⟨14, _⟩ => ⟨S1x1024, .f32⟩
  | .local .tc .vmem, ⟨15, _⟩ => ⟨S1024x512, .f32⟩
  | .local .tc .vmem, ⟨16, _⟩ => ⟨S1x512, .f32⟩
  | .local .tc .vmem, ⟨17, _⟩ => ⟨S512x256, .f32⟩
  | .local .tc .vmem, ⟨18, _⟩ => ⟨S1x256, .f32⟩
  | .local .tc .vmem, ⟨19, _⟩ => ⟨S256x1, .f32⟩
  | .local .tc .vmem, ⟨20, _⟩ => ⟨S1x1, .f32⟩
  | .local .tc .vmem, ⟨21, _⟩ => ⟨S512x1, .f32⟩
  | .local .tc .vmem, ⟨22, _⟩ => ⟨S512x1, .f32⟩
  | .local .tc .vmem, ⟨23, _⟩ => ⟨S512x39, .f32⟩
  | .local .tc .vmem, ⟨24, _⟩ => ⟨S512x39, .f32⟩
  | .local .tc .vmem, ⟨25, _⟩ => ⟨S13312x128, .f32⟩
  | .local .tc .vmem, ⟨26, _⟩ => ⟨S13312x128, .f32⟩
  | .local .tc .vmem, ⟨27, _⟩ => ⟨S13x512, .f32⟩
  | .local .tc .vmem, ⟨28, _⟩ => ⟨S1x512, .f32⟩
  | .local .tc .vmem, ⟨29, _⟩ => ⟨S512x256, .f32⟩
  | .local .tc .vmem, ⟨30, _⟩ => ⟨S1x256, .f32⟩
  | .local .tc .vmem, ⟨31, _⟩ => ⟨S256x128, .f32⟩
  | .local .tc .vmem, ⟨32, _⟩ => ⟨S1x128, .f32⟩
  | .local .tc .vmem, ⟨33, _⟩ => ⟨S128x1024, .f32⟩
  | .local .tc .vmem, ⟨34, _⟩ => ⟨S729x1024, .f32⟩
  | .local .tc .vmem, ⟨35, _⟩ => ⟨S1x1024, .f32⟩
  | .local .tc .vmem, ⟨36, _⟩ => ⟨S1024x1024, .f32⟩
  | .local .tc .vmem, ⟨37, _⟩ => ⟨S1x1024, .f32⟩
  | .local .tc .vmem, ⟨38, _⟩ => ⟨S1024x512, .f32⟩
  | .local .tc .vmem, ⟨39, _⟩ => ⟨S1x512, .f32⟩
  | .local .tc .vmem, ⟨40, _⟩ => ⟨S512x256, .f32⟩
  | .local .tc .vmem, ⟨41, _⟩ => ⟨S1x256, .f32⟩
  | .local .tc .vmem, ⟨42, _⟩ => ⟨S256x1, .f32⟩
  | .local .tc .vmem, ⟨43, _⟩ => ⟨S1x1, .f32⟩
  | .local .tc .vmem, ⟨44, _⟩ => ⟨S512x1, .f32⟩
  | .local .tc .vmem, ⟨45, _⟩ => ⟨S512x1, .f32⟩
  | .local .scVector .vmem, ⟨0, _⟩ => ⟨S2x1x256, .i32⟩
  | .local .scVector .vmem, ⟨1, _⟩ => ⟨S2x256x128, .f32⟩
  | .local .scVector .vmem, ⟨2, _⟩ => ⟨S2x1x256, .i32⟩
  | .local .scVector .vmem, ⟨3, _⟩ => ⟨S2x256x128, .f32⟩
  | _, _ => ⟨S4096x39, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 58 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTables nBuf rfl bufTy 4 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_c_1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_2 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_c_3 : Ref sig .tc := ⟨.hbm, 75, rfl⟩
abbrev main_c_4 : Ref sig .tc := ⟨.hbm, 76, rfl⟩
abbrev main_v29 : Ref sig .tc := ⟨.hbm, 77, rfl⟩
abbrev main_v30 : Ref sig .tc := ⟨.hbm, 78, rfl⟩
abbrev main_c_5 : Ref sig .tc := ⟨.hbm, 79, rfl⟩
abbrev main_c_6 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_arg8_scv : Ref sig .scVector := ⟨.hbm, 8, rfl⟩
abbrev main_v24_scv : Ref sig .scVector := ⟨.hbm, 69, rfl⟩
abbrev main_v25_scv : Ref sig .scVector := ⟨.hbm, 70, rfl⟩
abbrev main_v27_scv : Ref sig .scVector := ⟨.hbm, 73, rfl⟩
abbrev main_v28_scv : Ref sig .scVector := ⟨.hbm, 74, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg7_0 : Ref sig .tc := ⟨.vmem, 9, rfl⟩
abbrev cc2_stg8_0 : Ref sig .tc := ⟨.vmem, 10, rfl⟩
abbrev cc2_stg9_0 : Ref sig .tc := ⟨.vmem, 11, rfl⟩
abbrev cc2_stg10_0 : Ref sig .tc := ⟨.vmem, 12, rfl⟩
abbrev cc2_stg11_0 : Ref sig .tc := ⟨.vmem, 13, rfl⟩
abbrev cc2_stg12_0 : Ref sig .tc := ⟨.vmem, 14, rfl⟩
abbrev cc2_stg13_0 : Ref sig .tc := ⟨.vmem, 15, rfl⟩
abbrev cc2_stg14_0 : Ref sig .tc := ⟨.vmem, 16, rfl⟩
abbrev cc2_stg15_0 : Ref sig .tc := ⟨.vmem, 17, rfl⟩
abbrev cc2_stg16_0 : Ref sig .tc := ⟨.vmem, 18, rfl⟩
abbrev cc2_stg17_0 : Ref sig .tc := ⟨.vmem, 19, rfl⟩
abbrev cc2_stg18_0 : Ref sig .tc := ⟨.vmem, 20, rfl⟩
abbrev cc2_stg19_0 : Ref sig .tc := ⟨.vmem, 21, rfl⟩
abbrev cc2_stg19_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg10_0 : Ref sig .tc := ⟨.vmem, 35, rfl⟩
abbrev cc3_stg11_0 : Ref sig .tc := ⟨.vmem, 36, rfl⟩
abbrev cc3_stg12_0 : Ref sig .tc := ⟨.vmem, 37, rfl⟩
abbrev cc3_stg13_0 : Ref sig .tc := ⟨.vmem, 38, rfl⟩
abbrev cc3_stg14_0 : Ref sig .tc := ⟨.vmem, 39, rfl⟩
abbrev cc3_stg15_0 : Ref sig .tc := ⟨.vmem, 40, rfl⟩
abbrev cc3_stg16_0 : Ref sig .tc := ⟨.vmem, 41, rfl⟩
abbrev cc3_stg17_0 : Ref sig .tc := ⟨.vmem, 42, rfl⟩
abbrev cc3_stg18_0 : Ref sig .tc := ⟨.vmem, 43, rfl⟩
abbrev cc3_stg19_0 : Ref sig .tc := ⟨.vmem, 44, rfl⟩
abbrev cc3_stg19_1 : Ref sig .tc := ⟨.vmem, 45, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem13_0 : DmaSem sig := 27
abbrev cc2_sem14_0 : DmaSem sig := 28
abbrev cc2_sem15_0 : DmaSem sig := 29
abbrev cc2_sem16_0 : DmaSem sig := 30
abbrev cc2_sem17_0 : DmaSem sig := 31
abbrev cc2_sem18_0 : DmaSem sig := 32
abbrev cc2_sem19_0 : DmaSem sig := 33
abbrev cc2_sem19_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem10_0 : DmaSem sig := 47
abbrev cc3_sem11_0 : DmaSem sig := 48
abbrev cc3_sem12_0 : DmaSem sig := 49
abbrev cc3_sem13_0 : DmaSem sig := 50
abbrev cc3_sem14_0 : DmaSem sig := 51
abbrev cc3_sem15_0 : DmaSem sig := 52
abbrev cc3_sem16_0 : DmaSem sig := 53
abbrev cc3_sem17_0 : DmaSem sig := 54
abbrev cc3_sem18_0 : DmaSem sig := 55
abbrev cc3_sem19_0 : DmaSem sig := 56
abbrev cc3_sem19_1 : DmaSem sig := 57
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k0_cond2 (i : grid0.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k0_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k0_off2 (i : grid0.Coords) : Fin 2 → Nat :=
  let c0_i32_60_r0 : BitVec 32 := 0#32
  let c256_i32_r0 : BitVec 32 := 256#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c256_i32_r0 v20_r0
  ![0, v81_r0.toNat]
def k0_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k0_t1_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k0_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off5 (i : grid0.Coords) (arg10_r0 : BitVec 32) : Fin 2 → Nat :=
  let c0_i32_105_r0 : BitVec 32 := 0#32
  let c256_i32_r0 : BitVec 32 := 256#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c256_i32_r0 v95_r0
  ![0, v168_r0.toNat]
def k0_off6 (arg6_r0 : BitVec 32) : Fin 1 → Nat :=
  let c2_i32_102_r0 : BitVec 32 := 2#32
  let v167_r0 : BitVec 32 := Scalar.remui arg6_r0 c2_i32_102_r0
  ![v167_r0.toNat]
def k0_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off8 (i : grid0.Coords) (arg10_r0 : BitVec 32) : Fin 2 → Nat :=
  let c0_i32_105_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c256_i32_r0 v84_r0
  ![0, v167_r0.toNat]
def k0_off9 (arg7_r0 : BitVec 32) : Fin 1 → Nat :=
  let c2_i32_102_r0 : BitVec 32 := 2#32
  let v168_r0 : BitVec 32 := Scalar.remui arg7_r0 c2_i32_102_r0
  ![v168_r0.toNat]
def k0_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x256x128.size a ≤ S2x256x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x256x128.size a ≤ S2x256x128.size a := fun i arg8_r0 k0_hw2 k0_h1 => k0_hw2 k0_h1

def k0_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x256.size a ≤ S2x1x256.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x256.size a ≤ S2x1x256.size a := fun i arg7_r0 k0_hw3 k0_h1 => k0_hw3 k0_h1

def k0_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k0_off13 (i : grid0.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c256_i32_r0 v84_r0
  let c0_i32_105_r0 : BitVec 32 := 0#32
  ![v168_r0.toNat, 0]
def k0_off14 (arg8_r0 : BitVec 32) : Fin 1 → Nat :=
  let c2_i32_102_r0 : BitVec 32 := 2#32
  let v167_r0 : BitVec 32 := Scalar.remui arg8_r0 c2_i32_102_r0
  ![v167_r0.toNat]
def k0_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k0_off16 (i : grid0.Coords) (arg10_r0 : BitVec 32) : Fin 2 → Nat :=
  let c256_i32_r0 : BitVec 32 := 256#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c256_i32_r0 v90_r0
  let c0_i32_105_r0 : BitVec 32 := 0#32
  ![v168_r0.toNat, 0]
def k0_off17 (arg9_r0 : BitVec 32) : Fin 1 → Nat :=
  let c2_i32_102_r0 : BitVec 32 := 2#32
  let v167_r0 : BitVec 32 := Scalar.remui arg9_r0 c2_i32_102_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x256.size a ≤ S2x1x256.size a) ∧
  (∀ (k0_h1 : k0_cond1 i = 1#1), ∀ (k0_h3 : k0_cond3 i k0_t1 arg10_r0 = 1#1), ∀ a, (k0_off5 i arg10_r0) a + S1x256.size a ≤ S1x53248.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x256.size a ≤ S2x1x256.size a) ∧
  (∀ (k0_h1 : k0_cond1 i = 1#1), ∀ (k0_h4 : k0_cond4 i k0_t1 arg10_r0 = 1#1), ∀ a, (k0_off8 i arg10_r0) a + S1x256.size a ≤ S1x53248.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x256x128.size a ≤ S2x256x128.size a) ∧
  (∀ (k0_h1 : k0_cond1 i = 1#1), ∀ (k0_h7 : k0_cond7 i k0_t1 arg10_r0 = 1#1), ∀ a, (k0_off13 i arg10_r0) a + S256x128.size a ≤ S53248x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x256x128.size a ≤ S2x256x128.size a) ∧
  (∀ (k0_h1 : k0_cond1 i = 1#1), ∀ (k0_h9 : k0_cond9 i k0_t1 arg10_r0 = 1#1), ∀ a, (k0_off16 i arg10_r0) a + S256x128.size a ≤ S53248x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x256.size a ≤ S2x1x256.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x256.size a ≤ S1x53248.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x256.size a ≤ S2x1x256.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x256.size a ≤ S1x53248.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x256x128.size a ≤ S2x256x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S256x128.size a ≤ S53248x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x256x128.size a ≤ S2x256x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S256x128.size a ≤ S53248x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k0_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off19 (i : grid0.Coords) (arg10_r0 : BitVec 32) : Fin 2 → Nat :=
  let c0_i32_105_r0 : BitVec 32 := 0#32
  let c256_i32_r0 : BitVec 32 := 256#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c256_i32_r0 v95_r0
  ![0, v168_r0.toNat]
def k0_off20 (arg6_r0 : BitVec 32) : Fin 1 → Nat :=
  let c2_i32_102_r0 : BitVec 32 := 2#32
  let v167_r0 : BitVec 32 := Scalar.remui arg6_r0 c2_i32_102_r0
  ![v167_r0.toNat]
def k0_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off22 (i : grid0.Coords) (arg10_r0 : BitVec 32) : Fin 2 → Nat :=
  let c0_i32_105_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c256_i32_r0 v84_r0
  ![0, v167_r0.toNat]
def k0_off23 (arg7_r0 : BitVec 32) : Fin 1 → Nat :=
  let c2_i32_102_r0 : BitVec 32 := 2#32
  let v168_r0 : BitVec 32 := Scalar.remui arg7_r0 c2_i32_102_r0
  ![v168_r0.toNat]
def k0_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x256x128.size a ≤ S2x256x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x256x128.size a ≤ S2x256x128.size a := fun i k0_t2 arg8_r0 k0_hw5 k0_h1 => k0_hw5 k0_h1

def k0_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x256.size a ≤ S2x1x256.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x256.size a ≤ S2x1x256.size a := fun i k0_t2 arg7_r0 k0_hw6 k0_h1 => k0_hw6 k0_h1

def k0_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k0_off27 (i : grid0.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c256_i32_r0 v84_r0
  let c0_i32_105_r0 : BitVec 32 := 0#32
  ![v168_r0.toNat, 0]
def k0_off28 (arg8_r0 : BitVec 32) : Fin 1 → Nat :=
  let c2_i32_102_r0 : BitVec 32 := 2#32
  let v167_r0 : BitVec 32 := Scalar.remui arg8_r0 c2_i32_102_r0
  ![v167_r0.toNat]
def k0_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k0_off30 (i : grid0.Coords) (arg10_r0 : BitVec 32) : Fin 2 → Nat :=
  let c256_i32_r0 : BitVec 32 := 256#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c256_i32_r0 v90_r0
  let c0_i32_105_r0 : BitVec 32 := 0#32
  ![v168_r0.toNat, 0]
def k0_off31 (arg9_r0 : BitVec 32) : Fin 1 → Nat :=
  let c2_i32_102_r0 : BitVec 32 := 2#32
  let v167_r0 : BitVec 32 := Scalar.remui arg9_r0 c2_i32_102_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x256.size a ≤ S2x1x256.size a) ∧
  (∀ (k0_h1 : k0_cond1 i = 1#1), ∀ (k0_h10 : k0_cond10 i k0_t2 arg10_r0 = 1#1), ∀ a, (k0_off19 i arg10_r0) a + S1x256.size a ≤ S1x53248.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x256.size a ≤ S2x1x256.size a) ∧
  (∀ (k0_h1 : k0_cond1 i = 1#1), ∀ (k0_h11 : k0_cond11 i k0_t2 arg10_r0 = 1#1), ∀ a, (k0_off22 i arg10_r0) a + S1x256.size a ≤ S1x53248.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x256x128.size a ≤ S2x256x128.size a) ∧
  (∀ (k0_h1 : k0_cond1 i = 1#1), ∀ (k0_h14 : k0_cond14 i k0_t2 arg10_r0 = 1#1), ∀ a, (k0_off27 i arg10_r0) a + S256x128.size a ≤ S53248x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x256x128.size a ≤ S2x256x128.size a) ∧
  (∀ (k0_h1 : k0_cond1 i = 1#1), ∀ (k0_h16 : k0_cond16 i k0_t2 arg10_r0 = 1#1), ∀ a, (k0_off30 i arg10_r0) a + S256x128.size a ≤ S53248x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x256.size a ≤ S2x1x256.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x256.size a ≤ S1x53248.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x256.size a ≤ S2x1x256.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x256.size a ≤ S1x53248.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x256x128.size a ≤ S2x256x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S256x128.size a ≤ S53248x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x256x128.size a ≤ S2x256x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S256x128.size a ≤ S53248x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k0_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k0_off33 (i : grid0.Coords) (v48_4_r0 : BitVec 32) : Fin 2 → Nat :=
  let c256_i32_r0 : BitVec 32 := 256#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c256_i32_r0 v59_r0
  let c0_i32_60_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S256x128.size a ≤ S53248x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S256x128.size a ≤ S53248x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x256x128.size a ≤ S2x256x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x256x128.size a ≤ S2x256x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x256x128.size a ≤ S2x256x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x256x128.size a ≤ S2x256x128.size a := fun i v48_3_r0 k0_hw7 k0_h1 k0_h18 => k0_hw7.2.2 k0_h1 k0_h18

abbrev grid1 : Pipeline.Grid := ⟨2, ![2, 16], ![false, false]⟩

def k1_cond1 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k1_cond2 (i : grid1.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k1_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k1_off2 (i : grid1.Coords) : Fin 2 → Nat :=
  let c0_i32_60_r0 : BitVec 32 := 0#32
  let c256_i32_r0 : BitVec 32 := 256#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c256_i32_r0 v20_r0
  ![0, v81_r0.toNat]
def k1_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k1_t1_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k1_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k1_cond3 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k1_off5 (i : grid1.Coords) (arg10_r0 : BitVec 32) : Fin 2 → Nat :=
  let c0_i32_105_r0 : BitVec 32 := 0#32
  let c256_i32_r0 : BitVec 32 := 256#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c256_i32_r0 v95_r0
  ![0, v168_r0.toNat]
def k1_off6 (arg6_r0 : BitVec 32) : Fin 1 → Nat :=
  let c2_i32_102_r0 : BitVec 32 := 2#32
  let v167_r0 : BitVec 32 := Scalar.remui arg6_r0 c2_i32_102_r0
  ![v167_r0.toNat]
def k1_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k1_cond4 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k1_off8 (i : grid1.Coords) (arg10_r0 : BitVec 32) : Fin 2 → Nat :=
  let c0_i32_105_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c256_i32_r0 v84_r0
  ![0, v167_r0.toNat]
def k1_off9 (arg7_r0 : BitVec 32) : Fin 1 → Nat :=
  let c2_i32_102_r0 : BitVec 32 := 2#32
  let v168_r0 : BitVec 32 := Scalar.remui arg7_r0 c2_i32_102_r0
  ![v168_r0.toNat]
def k1_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k1_chk2 (i : grid1.Coords) (arg8_r0 : BitVec 32) : Prop :=
  (∀ (k1_h1 : k1_cond1 i = 1#1), ∀ a, (k1_off10 arg8_r0) a + S1x256x128.size a ≤ S2x256x128.size a)
theorem k1_off10_inb : ∀ (i : grid1.Coords) (arg8_r0 : BitVec 32) (k1_hw2 : k1_chk2 i arg8_r0), ∀ (k1_h1 : k1_cond1 i = 1#1), ∀ a, (k1_off10 arg8_r0) a + S1x256x128.size a ≤ S2x256x128.size a := fun i arg8_r0 k1_hw2 k1_h1 => k1_hw2 k1_h1

def k1_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k1_chk3 (i : grid1.Coords) (arg7_r0 : BitVec 32) : Prop :=
  (∀ (k1_h1 : k1_cond1 i = 1#1), ∀ a, (k1_off11 arg7_r0) a + S1x1x256.size a ≤ S2x1x256.size a)
theorem k1_off11_inb : ∀ (i : grid1.Coords) (arg7_r0 : BitVec 32) (k1_hw3 : k1_chk3 i arg7_r0), ∀ (k1_h1 : k1_cond1 i = 1#1), ∀ a, (k1_off11 arg7_r0) a + S1x1x256.size a ≤ S2x1x256.size a := fun i arg7_r0 k1_hw3 k1_h1 => k1_hw3 k1_h1

def k1_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k1_cond7 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k1_off13 (i : grid1.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c256_i32_r0 v84_r0
  let c0_i32_105_r0 : BitVec 32 := 0#32
  ![v168_r0.toNat, 0]
def k1_off14 (arg8_r0 : BitVec 32) : Fin 1 → Nat :=
  let c2_i32_102_r0 : BitVec 32 := 2#32
  let v167_r0 : BitVec 32 := Scalar.remui arg8_r0 c2_i32_102_r0
  ![v167_r0.toNat]
def k1_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k1_cond9 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k1_off16 (i : grid1.Coords) (arg10_r0 : BitVec 32) : Fin 2 → Nat :=
  let c256_i32_r0 : BitVec 32 := 256#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c256_i32_r0 v90_r0
  let c0_i32_105_r0 : BitVec 32 := 0#32
  ![v168_r0.toNat, 0]
def k1_off17 (arg9_r0 : BitVec 32) : Fin 1 → Nat :=
  let c2_i32_102_r0 : BitVec 32 := 2#32
  let v167_r0 : BitVec 32 := Scalar.remui arg9_r0 c2_i32_102_r0
  ![v167_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h3 : k1_cond3 i k1_t1 arg10_r0 = 1#1), ∀ a, (k1_off4 arg6_r0) a + S1x1x256.size a ≤ S2x1x256.size a) ∧
  (∀ (k1_h1 : k1_cond1 i = 1#1), ∀ (k1_h3 : k1_cond3 i k1_t1 arg10_r0 = 1#1), ∀ a, (k1_off5 i arg10_r0) a + S1x256.size a ≤ S1x53248.size a) ∧
  (∀ (k1_h1 : k1_cond1 i = 1#1), ∀ (k1_h3 : k1_cond3 i k1_t1 arg10_r0 = 1#1), ∀ a, (k1_off6 arg6_r0) a + S1.size a ≤ S2.size a) ∧
  (∀ (k1_h1 : k1_cond1 i = 1#1), ∀ (k1_h4 : k1_cond4 i k1_t1 arg10_r0 = 1#1), ∀ a, (k1_off7 arg7_r0) a + S1x1x256.size a ≤ S2x1x256.size a) ∧
  (∀ (k1_h1 : k1_cond1 i = 1#1), ∀ (k1_h4 : k1_cond4 i k1_t1 arg10_r0 = 1#1), ∀ a, (k1_off8 i arg10_r0) a + S1x256.size a ≤ S1x53248.size a) ∧
  (∀ (k1_h1 : k1_cond1 i = 1#1), ∀ (k1_h4 : k1_cond4 i k1_t1 arg10_r0 = 1#1), ∀ a, (k1_off9 arg7_r0) a + S1.size a ≤ S2.size a) ∧
  (∀ (k1_h1 : k1_cond1 i = 1#1), ∀ (k1_h7 : k1_cond7 i k1_t1 arg10_r0 = 1#1), ∀ a, (k1_off12 arg8_r0) a + S1x256x128.size a ≤ S2x256x128.size a) ∧
  (∀ (k1_h1 : k1_cond1 i = 1#1), ∀ (k1_h7 : k1_cond7 i k1_t1 arg10_r0 = 1#1), ∀ a, (k1_off13 i arg10_r0) a + S256x128.size a ≤ S53248x128.size a) ∧
  (∀ (k1_h1 : k1_cond1 i = 1#1), ∀ (k1_h7 : k1_cond7 i k1_t1 arg10_r0 = 1#1), ∀ a, (k1_off14 arg8_r0) a + S1.size a ≤ S2.size a) ∧
  (∀ (k1_h1 : k1_cond1 i = 1#1), ∀ (k1_h9 : k1_cond9 i k1_t1 arg10_r0 = 1#1), ∀ a, (k1_off15 arg9_r0) a + S1x256x128.size a ≤ S2x256x128.size a) ∧
  (∀ (k1_h1 : k1_cond1 i = 1#1), ∀ (k1_h9 : k1_cond9 i k1_t1 arg10_r0 = 1#1), ∀ a, (k1_off16 i arg10_r0) a + S256x128.size a ≤ S53248x128.size a) ∧
  (∀ (k1_h1 : k1_cond1 i = 1#1), ∀ (k1_h9 : k1_cond9 i k1_t1 arg10_r0 = 1#1), ∀ a, (k1_off17 arg9_r0) a + S1.size a ≤ S2.size a)
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off4 arg6_r0) a + S1x1x256.size a ≤ S2x1x256.size a := fun i k1_t1 arg6_r0 arg7_r0 arg8_r0 arg9_r0 arg10_r0 k1_hw1 k1_h1 k1_h3 => k1_hw1.1 k1_h1 k1_h3
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off5 i arg10_r0) a + S1x256.size a ≤ S1x53248.size a := fun i k1_t1 arg6_r0 arg7_r0 arg8_r0 arg9_r0 arg10_r0 k1_hw1 k1_h1 k1_h3 => k1_hw1.2.1 k1_h1 k1_h3
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off6 arg6_r0) a + S1.size a ≤ S2.size a := fun i k1_t1 arg6_r0 arg7_r0 arg8_r0 arg9_r0 arg10_r0 k1_hw1 k1_h1 k1_h3 => k1_hw1.2.2.1 k1_h1 k1_h3
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off7 arg7_r0) a + S1x1x256.size a ≤ S2x1x256.size a := fun i k1_t1 arg6_r0 arg7_r0 arg8_r0 arg9_r0 arg10_r0 k1_hw1 k1_h1 k1_h4 => k1_hw1.2.2.2.1 k1_h1 k1_h4
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off8 i arg10_r0) a + S1x256.size a ≤ S1x53248.size a := fun i k1_t1 arg6_r0 arg7_r0 arg8_r0 arg9_r0 arg10_r0 k1_hw1 k1_h1 k1_h4 => k1_hw1.2.2.2.2.1 k1_h1 k1_h4
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off9 arg7_r0) a + S1.size a ≤ S2.size a := fun i k1_t1 arg6_r0 arg7_r0 arg8_r0 arg9_r0 arg10_r0 k1_hw1 k1_h1 k1_h4 => k1_hw1.2.2.2.2.2.1 k1_h1 k1_h4
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off12 arg8_r0) a + S1x256x128.size a ≤ S2x256x128.size a := fun i k1_t1 arg6_r0 arg7_r0 arg8_r0 arg9_r0 arg10_r0 k1_hw1 k1_h1 k1_h7 => k1_hw1.2.2.2.2.2.2.1 k1_h1 k1_h7
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off13 i arg10_r0) a + S256x128.size a ≤ S53248x128.size a := fun i k1_t1 arg6_r0 arg7_r0 arg8_r0 arg9_r0 arg10_r0 k1_hw1 k1_h1 k1_h7 => k1_hw1.2.2.2.2.2.2.2.1 k1_h1 k1_h7
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off14 arg8_r0) a + S1.size a ≤ S2.size a := fun i k1_t1 arg6_r0 arg7_r0 arg8_r0 arg9_r0 arg10_r0 k1_hw1 k1_h1 k1_h7 => k1_hw1.2.2.2.2.2.2.2.2.1 k1_h1 k1_h7
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off15 arg9_r0) a + S1x256x128.size a ≤ S2x256x128.size a := fun i k1_t1 arg6_r0 arg7_r0 arg8_r0 arg9_r0 arg10_r0 k1_hw1 k1_h1 k1_h9 => k1_hw1.2.2.2.2.2.2.2.2.2.1 k1_h1 k1_h9
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off16 i arg10_r0) a + S256x128.size a ≤ S53248x128.size a := fun i k1_t1 arg6_r0 arg7_r0 arg8_r0 arg9_r0 arg10_r0 k1_hw1 k1_h1 k1_h9 => k1_hw1.2.2.2.2.2.2.2.2.2.2.1 k1_h1 k1_h9
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off17 arg9_r0) a + S1.size a ≤ S2.size a := fun i k1_t1 arg6_r0 arg7_r0 arg8_r0 arg9_r0 arg10_r0 k1_hw1 k1_h1 k1_h9 => k1_hw1.2.2.2.2.2.2.2.2.2.2.2 k1_h1 k1_h9

@[reducible] def k1_t2_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k1_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k1_cond10 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k1_off19 (i : grid1.Coords) (arg10_r0 : BitVec 32) : Fin 2 → Nat :=
  let c0_i32_105_r0 : BitVec 32 := 0#32
  let c256_i32_r0 : BitVec 32 := 256#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c256_i32_r0 v95_r0
  ![0, v168_r0.toNat]
def k1_off20 (arg6_r0 : BitVec 32) : Fin 1 → Nat :=
  let c2_i32_102_r0 : BitVec 32 := 2#32
  let v167_r0 : BitVec 32 := Scalar.remui arg6_r0 c2_i32_102_r0
  ![v167_r0.toNat]
def k1_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k1_cond11 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k1_off22 (i : grid1.Coords) (arg10_r0 : BitVec 32) : Fin 2 → Nat :=
  let c0_i32_105_r0 : BitVec 32 := 0#32
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c256_i32_r0 v84_r0
  ![0, v167_r0.toNat]
def k1_off23 (arg7_r0 : BitVec 32) : Fin 1 → Nat :=
  let c2_i32_102_r0 : BitVec 32 := 2#32
  let v168_r0 : BitVec 32 := Scalar.remui arg7_r0 c2_i32_102_r0
  ![v168_r0.toNat]
def k1_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k1_chk5 (i : grid1.Coords) (k1_t2 : Fin (k1_t2_loop i).trips) (arg8_r0 : BitVec 32) : Prop :=
  (∀ (k1_h1 : k1_cond1 i = 1#1), ∀ a, (k1_off24 arg8_r0) a + S1x256x128.size a ≤ S2x256x128.size a)
theorem k1_off24_inb : ∀ (i : grid1.Coords) (k1_t2 : Fin (k1_t2_loop i).trips) (arg8_r0 : BitVec 32) (k1_hw5 : k1_chk5 i k1_t2 arg8_r0), ∀ (k1_h1 : k1_cond1 i = 1#1), ∀ a, (k1_off24 arg8_r0) a + S1x256x128.size a ≤ S2x256x128.size a := fun i k1_t2 arg8_r0 k1_hw5 k1_h1 => k1_hw5 k1_h1

def k1_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k1_chk6 (i : grid1.Coords) (k1_t2 : Fin (k1_t2_loop i).trips) (arg7_r0 : BitVec 32) : Prop :=
  (∀ (k1_h1 : k1_cond1 i = 1#1), ∀ a, (k1_off25 arg7_r0) a + S1x1x256.size a ≤ S2x1x256.size a)
theorem k1_off25_inb : ∀ (i : grid1.Coords) (k1_t2 : Fin (k1_t2_loop i).trips) (arg7_r0 : BitVec 32) (k1_hw6 : k1_chk6 i k1_t2 arg7_r0), ∀ (k1_h1 : k1_cond1 i = 1#1), ∀ a, (k1_off25 arg7_r0) a + S1x1x256.size a ≤ S2x1x256.size a := fun i k1_t2 arg7_r0 k1_hw6 k1_h1 => k1_hw6 k1_h1

def k1_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k1_cond14 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k1_off27 (i : grid1.Coords) (arg10_r0 : BitVec 32) : Fin 2 → Nat :=
  let c256_i32_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c256_i32_r0 v84_r0
  let c0_i32_105_r0 : BitVec 32 := 0#32
  ![v168_r0.toNat, 0]
def k1_off28 (arg8_r0 : BitVec 32) : Fin 1 → Nat :=
  let c2_i32_102_r0 : BitVec 32 := 2#32
  let v167_r0 : BitVec 32 := Scalar.remui arg8_r0 c2_i32_102_r0
  ![v167_r0.toNat]
def k1_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k1_cond16 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k1_off30 (i : grid1.Coords) (arg10_r0 : BitVec 32) : Fin 2 → Nat :=
  let c256_i32_r0 : BitVec 32 := 256#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c256_i32_r0 v90_r0
  let c0_i32_105_r0 : BitVec 32 := 0#32
  ![v168_r0.toNat, 0]
def k1_off31 (arg9_r0 : BitVec 32) : Fin 1 → Nat :=
  let c2_i32_102_r0 : BitVec 32 := 2#32
  let v167_r0 : BitVec 32 := Scalar.remui arg9_r0 c2_i32_102_r0
  ![v167_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h10 : k1_cond10 i k1_t2 arg10_r0 = 1#1), ∀ a, (k1_off18 arg6_r0) a + S1x1x256.size a ≤ S2x1x256.size a) ∧
  (∀ (k1_h1 : k1_cond1 i = 1#1), ∀ (k1_h10 : k1_cond10 i k1_t2 arg10_r0 = 1#1), ∀ a, (k1_off19 i arg10_r0) a + S1x256.size a ≤ S1x53248.size a) ∧
  (∀ (k1_h1 : k1_cond1 i = 1#1), ∀ (k1_h10 : k1_cond10 i k1_t2 arg10_r0 = 1#1), ∀ a, (k1_off20 arg6_r0) a + S1.size a ≤ S2.size a) ∧
  (∀ (k1_h1 : k1_cond1 i = 1#1), ∀ (k1_h11 : k1_cond11 i k1_t2 arg10_r0 = 1#1), ∀ a, (k1_off21 arg7_r0) a + S1x1x256.size a ≤ S2x1x256.size a) ∧
  (∀ (k1_h1 : k1_cond1 i = 1#1), ∀ (k1_h11 : k1_cond11 i k1_t2 arg10_r0 = 1#1), ∀ a, (k1_off22 i arg10_r0) a + S1x256.size a ≤ S1x53248.size a) ∧
  (∀ (k1_h1 : k1_cond1 i = 1#1), ∀ (k1_h11 : k1_cond11 i k1_t2 arg10_r0 = 1#1), ∀ a, (k1_off23 arg7_r0) a + S1.size a ≤ S2.size a) ∧
  (∀ (k1_h1 : k1_cond1 i = 1#1), ∀ (k1_h14 : k1_cond14 i k1_t2 arg10_r0 = 1#1), ∀ a, (k1_off26 arg8_r0) a + S1x256x128.size a ≤ S2x256x128.size a) ∧
  (∀ (k1_h1 : k1_cond1 i = 1#1), ∀ (k1_h14 : k1_cond14 i k1_t2 arg10_r0 = 1#1), ∀ a, (k1_off27 i arg10_r0) a + S256x128.size a ≤ S53248x128.size a) ∧
  (∀ (k1_h1 : k1_cond1 i = 1#1), ∀ (k1_h14 : k1_cond14 i k1_t2 arg10_r0 = 1#1), ∀ a, (k1_off28 arg8_r0) a + S1.size a ≤ S2.size a) ∧
  (∀ (k1_h1 : k1_cond1 i = 1#1), ∀ (k1_h16 : k1_cond16 i k1_t2 arg10_r0 = 1#1), ∀ a, (k1_off29 arg9_r0) a + S1x256x128.size a ≤ S2x256x128.size a) ∧
  (∀ (k1_h1 : k1_cond1 i = 1#1), ∀ (k1_h16 : k1_cond16 i k1_t2 arg10_r0 = 1#1), ∀ a, (k1_off30 i arg10_r0) a + S256x128.size a ≤ S53248x128.size a) ∧
  (∀ (k1_h1 : k1_cond1 i = 1#1), ∀ (k1_h16 : k1_cond16 i k1_t2 arg10_r0 = 1#1), ∀ a, (k1_off31 arg9_r0) a + S1.size a ≤ S2.size a)
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off18 arg6_r0) a + S1x1x256.size a ≤ S2x1x256.size a := fun i k1_t2 arg6_r0 arg7_r0 arg8_r0 arg9_r0 arg10_r0 k1_hw4 k1_h1 k1_h10 => k1_hw4.1 k1_h1 k1_h10
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off19 i arg10_r0) a + S1x256.size a ≤ S1x53248.size a := fun i k1_t2 arg6_r0 arg7_r0 arg8_r0 arg9_r0 arg10_r0 k1_hw4 k1_h1 k1_h10 => k1_hw4.2.1 k1_h1 k1_h10
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off20 arg6_r0) a + S1.size a ≤ S2.size a := fun i k1_t2 arg6_r0 arg7_r0 arg8_r0 arg9_r0 arg10_r0 k1_hw4 k1_h1 k1_h10 => k1_hw4.2.2.1 k1_h1 k1_h10
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off21 arg7_r0) a + S1x1x256.size a ≤ S2x1x256.size a := fun i k1_t2 arg6_r0 arg7_r0 arg8_r0 arg9_r0 arg10_r0 k1_hw4 k1_h1 k1_h11 => k1_hw4.2.2.2.1 k1_h1 k1_h11
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off22 i arg10_r0) a + S1x256.size a ≤ S1x53248.size a := fun i k1_t2 arg6_r0 arg7_r0 arg8_r0 arg9_r0 arg10_r0 k1_hw4 k1_h1 k1_h11 => k1_hw4.2.2.2.2.1 k1_h1 k1_h11
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off23 arg7_r0) a + S1.size a ≤ S2.size a := fun i k1_t2 arg6_r0 arg7_r0 arg8_r0 arg9_r0 arg10_r0 k1_hw4 k1_h1 k1_h11 => k1_hw4.2.2.2.2.2.1 k1_h1 k1_h11
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off26 arg8_r0) a + S1x256x128.size a ≤ S2x256x128.size a := fun i k1_t2 arg6_r0 arg7_r0 arg8_r0 arg9_r0 arg10_r0 k1_hw4 k1_h1 k1_h14 => k1_hw4.2.2.2.2.2.2.1 k1_h1 k1_h14
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off27 i arg10_r0) a + S256x128.size a ≤ S53248x128.size a := fun i k1_t2 arg6_r0 arg7_r0 arg8_r0 arg9_r0 arg10_r0 k1_hw4 k1_h1 k1_h14 => k1_hw4.2.2.2.2.2.2.2.1 k1_h1 k1_h14
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off28 arg8_r0) a + S1.size a ≤ S2.size a := fun i k1_t2 arg6_r0 arg7_r0 arg8_r0 arg9_r0 arg10_r0 k1_hw4 k1_h1 k1_h14 => k1_hw4.2.2.2.2.2.2.2.2.1 k1_h1 k1_h14
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off29 arg9_r0) a + S1x256x128.size a ≤ S2x256x128.size a := fun i k1_t2 arg6_r0 arg7_r0 arg8_r0 arg9_r0 arg10_r0 k1_hw4 k1_h1 k1_h16 => k1_hw4.2.2.2.2.2.2.2.2.2.1 k1_h1 k1_h16
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off30 i arg10_r0) a + S256x128.size a ≤ S53248x128.size a := fun i k1_t2 arg6_r0 arg7_r0 arg8_r0 arg9_r0 arg10_r0 k1_hw4 k1_h1 k1_h16 => k1_hw4.2.2.2.2.2.2.2.2.2.2.1 k1_h1 k1_h16
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off31 arg9_r0) a + S1.size a ≤ S2.size a := fun i k1_t2 arg6_r0 arg7_r0 arg8_r0 arg9_r0 arg10_r0 k1_hw4 k1_h1 k1_h16 => k1_hw4.2.2.2.2.2.2.2.2.2.2.2 k1_h1 k1_h16

def k1_cond18 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k1_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k1_off33 (i : grid1.Coords) (v48_4_r0 : BitVec 32) : Fin 2 → Nat :=
  let c256_i32_r0 : BitVec 32 := 256#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c7_i32 : BitVec 32 := 7#32
  let c6_i32 : BitVec 32 := 6#32
  let v5 : BitVec 32 := Scalar.select v4 c7_i32 c6_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c6_i32_2 : BitVec 32 := 6#32
  let v8 : BitVec 32 := Scalar.muli v3 c6_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c256_i32_r0 v59_r0
  let c0_i32_60_r0 : BitVec 32 := 0#32
  ![v81_r0.toNat, 0]

def k1_chk8 (i : grid1.Coords) (v48_4_r0 : BitVec 32) : Prop :=
  (∀ (k1_h1 : k1_cond1 i = 1#1), ∀ (k1_h18 : k1_cond18 i = 1#1), ∀ a, (k1_off33 i v48_4_r0) a + S256x128.size a ≤ S53248x128.size a)
theorem k1_off33_inb : ∀ (i : grid1.Coords) (v48_4_r0 : BitVec 32) (k1_hw8 : k1_chk8 i v48_4_r0), ∀ (k1_h1 : k1_cond1 i = 1#1), ∀ (k1_h18 : k1_cond18 i = 1#1), ∀ a, (k1_off33 i v48_4_r0) a + S256x128.size a ≤ S53248x128.size a := fun i v48_4_r0 k1_hw8 k1_h1 k1_h18 => k1_hw8 k1_h1 k1_h18

def k1_off34 (v48_3_r0 : BitVec 32) : Fin 1 → Nat :=
  let c2_i32_r0 : BitVec 32 := 2#32
  let v80_r0 : BitVec 32 := Scalar.remui v48_3_r0 c2_i32_r0
  ![v80_r0.toNat]
def k1_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k1_chk7 (i : grid1.Coords) (v48_3_r0 : BitVec 32) : Prop :=
  (∀ (k1_h1 : k1_cond1 i = 1#1), ∀ (k1_h18 : k1_cond18 i = 1#1), ∀ a, (k1_off32 v48_3_r0) a + S1x256x128.size a ≤ S2x256x128.size a) ∧
  (∀ (k1_h1 : k1_cond1 i = 1#1), ∀ (k1_h18 : k1_cond18 i = 1#1), ∀ a, (k1_off34 v48_3_r0) a + S1.size a ≤ S2.size a) ∧
  (∀ (k1_h1 : k1_cond1 i = 1#1), ∀ (k1_h18 : k1_cond18 i = 1#1), ∀ a, (k1_off35 v48_3_r0) a + S1x256x128.size a ≤ S2x256x128.size a)
theorem k1_off32_inb : ∀ (i : grid1.Coords) (v48_3_r0 : BitVec 32) (k1_hw7 : k1_chk7 i v48_3_r0), ∀ (k1_h1 : k1_cond1 i = 1#1), ∀ (k1_h18 : k1_cond18 i = 1#1), ∀ a, (k1_off32 v48_3_r0) a + S1x256x128.size a ≤ S2x256x128.size a := fun i v48_3_r0 k1_hw7 k1_h1 k1_h18 => k1_hw7.1 k1_h1 k1_h18
theorem k1_off34_inb : ∀ (i : grid1.Coords) (v48_3_r0 : BitVec 32) (k1_hw7 : k1_chk7 i v48_3_r0), ∀ (k1_h1 : k1_cond1 i = 1#1), ∀ (k1_h18 : k1_cond18 i = 1#1), ∀ a, (k1_off34 v48_3_r0) a + S1.size a ≤ S2.size a := fun i v48_3_r0 k1_hw7 k1_h1 k1_h18 => k1_hw7.2.1 k1_h1 k1_h18
theorem k1_off35_inb : ∀ (i : grid1.Coords) (v48_3_r0 : BitVec 32) (k1_hw7 : k1_chk7 i v48_3_r0), ∀ (k1_h1 : k1_cond1 i = 1#1), ∀ (k1_h18 : k1_cond18 i = 1#1), ∀ a, (k1_off35 v48_3_r0) a + S1x256x128.size a ≤ S2x256x128.size a := fun i v48_3_r0 k1_hw7 k1_h1 k1_h18 => k1_hw7.2.2 k1_h1 k1_h18

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x39 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S13312x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S13x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S729x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1024x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x512 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S512x256 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x256 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S256x1 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x1 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 2 → Memref sig .tc .vmem S512x1 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x39 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S13312x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S13x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S729x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1024x1024 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1024x512 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x512 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S512x256 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x256 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S256x1 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S1x1 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 2 → Memref sig .tc .vmem S512x1 .f32 := fun | 0 => Memref.whole cc3_stg19_0 | 1 => Memref.whole cc3_stg19_1 | ⟨_ + 2, h⟩ => absurd h (Nat.not_lt.2 (Nat.le_add_left _ _))
abbrev sem3_19 : Fin 2 → DmaSem sig := fun | 0 => cc3_sem19_0 | 1 => cc3_sem19_1 | ⟨_ + 2, h⟩ => absurd h (Nat.not_lt.2 (Nat.le_add_left _ _))
abbrev reads3_19 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x39 : Shape := ⟨2, ![4096, 39]⟩
abbrev S_ : Shape := ⟨0, ![]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S2600000x128 : Shape := ⟨2, ![2600000, 128]⟩
abbrev S506x1024 : Shape := ⟨2, ![506, 1024]⟩
abbrev S1024 : Shape := ⟨1, ![1024]⟩
abbrev S1024x1024 : Shape := ⟨2, ![1024, 1024]⟩
abbrev S1024x512 : Shape := ⟨2, ![1024, 512]⟩
abbrev S256x1 : Shape := ⟨2, ![256, 1]⟩
abbrev S1 : Shape := ⟨1, ![1]⟩
abbrev S378 : Shape := ⟨1, ![378]⟩
abbrev S4096x13 : Shape := ⟨2, ![4096, 13]⟩
abbrev S4096x26 : Shape := ⟨2, ![4096, 26]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S4096x1x128 : Shape := ⟨3, ![4096, 1, 128]⟩
abbrev S26 : Shape := ⟨1, ![26]⟩
abbrev S1x26 : Shape := ⟨2, ![1, 26]⟩
abbrev S106496 : Shape := ⟨1, ![106496]⟩
abbrev S106496x1 : Shape := ⟨2, ![106496, 1]⟩
abbrev S1x1 : Shape := ⟨2, ![1, 1]⟩
abbrev S106496x128 : Shape := ⟨2, ![106496, 128]⟩
abbrev S4096x26x128 : Shape := ⟨3, ![4096, 26, 128]⟩
abbrev S4096x27x128 : Shape := ⟨3, ![4096, 27, 128]⟩
abbrev S4096x128x27 : Shape := ⟨3, ![4096, 128, 27]⟩
abbrev S4096x27x27 : Shape := ⟨3, ![4096, 27, 27]⟩
abbrev S378x1 : Shape := ⟨2, ![378, 1]⟩
abbrev S378x2 : Shape := ⟨2, ![378, 2]⟩
abbrev S4096x378 : Shape := ⟨2, ![4096, 378]⟩
abbrev S4096x506 : Shape := ⟨2, ![4096, 506]⟩
abbrev S4096x1024 : Shape := ⟨2, ![4096, 1024]⟩
abbrev S1x1024 : Shape := ⟨2, ![1, 1024]⟩
abbrev S4096x1 : Shape := ⟨2, ![4096, 1]⟩

abbrev nBuf : Space → Nat
  | .hbm => 128
  | .vmem => 0
  | .smem => 0
  | _ => 0

abbrev bufTy : (tb : Table) → Fin (tcTables nBuf tb) → BufTy
  | .hbm, ⟨0, _⟩ => ⟨S4096x39, .f32⟩
  | .hbm, ⟨1, _⟩ => ⟨S_, .i32⟩
  | .hbm, ⟨2, _⟩ => ⟨S13x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S2600000x128, .f32⟩
  | .hbm, ⟨9, _⟩ => ⟨S506x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S512x256, .f32⟩
  | .hbm, ⟨16, _⟩ => ⟨S256, .f32⟩
  | .hbm, ⟨17, _⟩ => ⟨S256x1, .f32⟩
  | .hbm, ⟨18, _⟩ => ⟨S1, .f32⟩
  | .hbm, ⟨19, _⟩ => ⟨S378, .i32⟩
  | .hbm, ⟨20, _⟩ => ⟨S378, .i1⟩
  | .hbm, ⟨21, _⟩ => ⟨S378, .i32⟩
  | .hbm, ⟨22, _⟩ => ⟨S378, .i1⟩
  | .hbm, ⟨23, _⟩ => ⟨S4096x13, .f32⟩
  | .hbm, ⟨24, _⟩ => ⟨S4096x26, .f32⟩
  | .hbm, ⟨25, _⟩ => ⟨S4096x26, .i32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x256, .f32⟩
  | .hbm, ⟨34, _⟩ => ⟨S1x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x128, .f32⟩
  | .hbm, ⟨41, _⟩ => ⟨S1x128, .f32⟩
  | .hbm, ⟨42, _⟩ => ⟨S4096x128, .f32⟩
  | .hbm, ⟨43, _⟩ => ⟨S4096x128, .f32⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S4096x1x128, .f32⟩
  | .hbm, ⟨48, _⟩ => ⟨S26, .i32⟩
  | .hbm, ⟨49, _⟩ => ⟨S_, .i32⟩
  | .hbm, ⟨50, _⟩ => ⟨S26, .i32⟩
  | .hbm, ⟨51, _⟩ => ⟨S26, .i32⟩
  | .hbm, ⟨52, _⟩ => ⟨S1x26, .i32⟩
  | .hbm, ⟨53, _⟩ => ⟨S4096x26, .i32⟩
  | .hbm, ⟨54, _⟩ => ⟨S4096x26, .i32⟩
  | .hbm, ⟨55, _⟩ => ⟨S106496, .i32⟩
  | .hbm, ⟨56, _⟩ => ⟨S_, .i32⟩
  | .hbm, ⟨57, _⟩ => ⟨S106496, .i32⟩
  | .hbm, ⟨58, _⟩ => ⟨S106496, .i1⟩
  | .hbm, ⟨59, _⟩ => ⟨S_, .i32⟩
  | .hbm, ⟨60, _⟩ => ⟨S106496, .i32⟩
  | .hbm, ⟨61, _⟩ => ⟨S106496, .i32⟩
  | .hbm, ⟨62, _⟩ => ⟨S106496, .i32⟩
  | .hbm, ⟨63, _⟩ => ⟨S106496x1, .i32⟩
  | .hbm, ⟨64, _⟩ => ⟨S1, .i32⟩
  | .hbm, ⟨65, _⟩ => ⟨S_, .i32⟩
  | .hbm, ⟨66, _⟩ => ⟨S106496x1, .i32⟩
  | .hbm, ⟨67, _⟩ => ⟨S106496x1, .i1⟩
  | .hbm, ⟨68, _⟩ => ⟨S1x1, .i32⟩
  | .hbm, ⟨69, _⟩ => ⟨S106496x1, .i32⟩
  | .hbm, ⟨70, _⟩ => ⟨S106496x1, .i1⟩
  | .hbm, ⟨71, _⟩ => ⟨S106496x1, .i1⟩
  | .hbm, ⟨72, _⟩ => ⟨S_, .i1⟩
  | .hbm, ⟨73, _⟩ => ⟨S106496, .i1⟩
  | .hbm, ⟨74, _⟩ => ⟨S106496x128, .f32⟩
  | .hbm, ⟨75, _⟩ => ⟨S106496x128, .i1⟩
  | .hbm, ⟨76, _⟩ => ⟨S_, .f32⟩
  | .hbm, ⟨77, _⟩ => ⟨S106496x128, .f32⟩
  | .hbm, ⟨78, _⟩ => ⟨S106496x128, .f32⟩
  | .hbm, ⟨79, _⟩ => ⟨S4096x26x128, .f32⟩
  | .hbm, ⟨80, _⟩ => ⟨S4096x27x128, .f32⟩
  | .hbm, ⟨81, _⟩ => ⟨S4096x128x27, .f32⟩
  | .hbm, ⟨82, _⟩ => ⟨S4096x27x27, .f32⟩
  | .hbm, ⟨83, _⟩ => ⟨S_, .i32⟩
  | .hbm, ⟨84, _⟩ => ⟨S378, .i32⟩
  | .hbm, ⟨85, _⟩ => ⟨S378, .i32⟩
  | .hbm, ⟨86, _⟩ => ⟨S378, .i32⟩
  | .hbm, ⟨87, _⟩ => ⟨S_, .i32⟩
  | .hbm, ⟨88, _⟩ => ⟨S378, .i32⟩
  | .hbm, ⟨89, _⟩ => ⟨S378, .i32⟩
  | .hbm, ⟨90, _⟩ => ⟨S378, .i32⟩
  | .hbm, ⟨91, _⟩ => ⟨S378x1, .i32⟩
  | .hbm, ⟨92, _⟩ => ⟨S378x1, .i32⟩
  | .hbm, ⟨93, _⟩ => ⟨S378x2, .i32⟩
  | .hbm, ⟨94, _⟩ => ⟨S4096x378, .f32⟩
  | .hbm, ⟨95, _⟩ => ⟨S4096x506, .f32⟩
  | .hbm, ⟨96, _⟩ => ⟨S4096x1024, .f32⟩
  | .hbm, ⟨97, _⟩ => ⟨S1x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S1x1024, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096x1024, .f32⟩
  | .hbm, ⟨109, _⟩ => ⟨S4096x1024, .f32⟩
  | .hbm, ⟨110, _⟩ => ⟨S4096x512, .f32⟩
  | .hbm, ⟨111, _⟩ => ⟨S1x512, .f32⟩
  | .hbm, ⟨112, _⟩ => ⟨S4096x512, .f32⟩
  | .hbm, ⟨113, _⟩ => ⟨S4096x512, .f32⟩
  | .hbm, ⟨114, _⟩ => ⟨S_, .f32⟩
  | .hbm, ⟨115, _⟩ => ⟨S4096x512, .f32⟩
  | .hbm, ⟨116, _⟩ => ⟨S4096x512, .f32⟩
  | .hbm, ⟨117, _⟩ => ⟨S4096x256, .f32⟩
  | .hbm, ⟨118, _⟩ => ⟨S1x256, .f32⟩
  | .hbm, ⟨119, _⟩ => ⟨S4096x256, .f32⟩
  | .hbm, ⟨120, _⟩ => ⟨S4096x256, .f32⟩
  | .hbm, ⟨121, _⟩ => ⟨S_, .f32⟩
  | .hbm, ⟨122, _⟩ => ⟨S4096x256, .f32⟩
  | .hbm, ⟨123, _⟩ => ⟨S4096x256, .f32⟩
  | .hbm, ⟨124, _⟩ => ⟨S4096x1, .f32⟩
  | .hbm, ⟨125, _⟩ => ⟨S1x1, .f32⟩
  | .hbm, ⟨126, _⟩ => ⟨S4096x1, .f32⟩
  | .hbm, ⟨127, _⟩ => ⟨S4096x1, .f32⟩
  | _, _ => ⟨S4096x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_c_1 : Ref sig .tc := ⟨.hbm, 21, rfl⟩
abbrev main_c_2 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_call0_cst : Ref sig .tc := ⟨.hbm, 30, rfl⟩
abbrev main_call0_v0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call1_cst : Ref sig .tc := ⟨.hbm, 37, rfl⟩
abbrev main_call1_v0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_cst : Ref sig .tc := ⟨.hbm, 44, rfl⟩
abbrev main_call2_v0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_v14 : Ref sig .tc := ⟨.hbm, 75, rfl⟩
abbrev main_call3_cst : Ref sig .tc := ⟨.hbm, 76, rfl⟩
abbrev main_call3_v15 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c_4 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_c_5 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_call4_cst : Ref sig .tc := ⟨.hbm, 100, rfl⟩
abbrev main_call4_v0 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_call5_cst : Ref sig .tc := ⟨.hbm, 107, rfl⟩
abbrev main_call5_v0 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_call6_cst : Ref sig .tc := ⟨.hbm, 114, rfl⟩
abbrev main_call6_v0 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_call7_cst : Ref sig .tc := ⟨.hbm, 121, rfl⟩
abbrev main_call7_v0 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩

abbrev nD : Nat := 1
abbrev τ : Topo := Topo.v7x

variable {F : FTy → Type} [FloatOps F]
-- ==== Proof.Words.lean ====
/-
  The index arithmetic of the row gather: how many windows of 256 rows each tile handles and where they begin, and what
  the loop's counters, conditions and offsets are in terms of the number of the trip. Everything is a finite check over
  the tile's coordinates and the trip.
-/
module

public import proofs.«01_k».proof.Defs
public import proofs.«01_k».proof.Proof.Gen.KernelIdeal.Skeleton

@[expose] public section

noncomputable section

namespace Cert.KernelIdeal.Words

open Idealize.ShloMosaic Idealize.SL.Sem Cert.KernelIdeal Cert.KernelIdeal.Gen

/-- How many windows of 256 rows the tile at `i` gathers. -/
def cnt (i : grid0.Coords) : ℕ := if (i 1).val + 16 * (i 0).val < 16 then 7 else 6

/-- The first of them. -/
def beg (i : grid0.Coords) : ℕ :=
  if (i 1).val + 16 * (i 0).val < 16 then ((i 1).val + 16 * (i 0).val) * 7 else ((i 1).val + 16 * (i 0).val) * 6 + 16

/-- Window `k` of the tile at `i`, among the 208 of the whole gather. -/
def win (i : grid0.Coords) (k : ℕ) : Fin 208 := Fin.ofNat 208 (beg i + k)

/-- The buffer slot of step `k`. -/
def sl (k : ℕ) : Fin 2 := Fin.ofNat 2 k

/-- The counter of the index fetches before trip `k`. -/
def nxt (i : grid0.Coords) (k : ℕ) : ℕ := if k < cnt i then k + 1 else k

/-- The step counter before trip `k`: it wraps to zero after the last. -/
def stp (i : grid0.Coords) (k : ℕ) : ℕ := if k < cnt i then k else 0

theorem sl_add_two (k : ℕ) : sl (k + 2) = sl k := by
  unfold sl; apply Fin.ext; simp [Fin.ofNat]

theorem trips_eq : ∀ i : grid0.Coords, (k0_t1_loop i).trips = cnt i := by decide +kernel
theorem trips2_eq : ∀ i : grid0.Coords, (k0_t2_loop i).trips = 0 := by decide +kernel
theorem cnt_pos : ∀ i : grid0.Coords, 0 < cnt i := by decide +kernel

theorem cond1 : ∀ i : grid0.Coords, k0_cond1 i = 1#1 := by decide +kernel
theorem cond2 : ∀ i : grid0.Coords, k0_cond2 i = 1#1 := by decide +kernel
theorem cond18 : ∀ i : grid0.Coords, k0_cond18 i = 1#1 := by decide +kernel

section Trip

variable (i : grid0.Coords) (k : Fin (k0_t1_loop i).trips)

theorem cond3 : ∀ (i : grid0.Coords) (k : Fin (k0_t1_loop i).trips),
    k0_cond3 i k (BitVec.ofNat 32 (stp i k.val)) = 1#1 ↔ k.val + 1 < cnt i := by decide +kernel
theorem cond4 : ∀ (i : grid0.Coords) (k : Fin (k0_t1_loop i).trips),
    k0_cond4 i k (BitVec.ofNat 32 (stp i k.val)) = 1#1 := by decide +kernel
theorem cond7 : ∀ (i : grid0.Coords) (k : Fin (k0_t1_loop i).trips),
    k0_cond7 i k (BitVec.ofNat 32 (stp i k.val)) = 1#1 := by decide +kernel
theorem cond9 : ∀ (i : grid0.Coords) (k : Fin (k0_t1_loop i).trips),
    k0_cond9 i k (BitVec.ofNat 32 (stp i k.val)) = 1#1 ↔ 1 ≤ k.val := by decide +kernel

theorem chk1 : ∀ (i : grid0.Coords) (k : Fin (k0_t1_loop i).trips),
    k0_chk1 i k (BitVec.ofNat 32 (nxt i k.val)) (BitVec.ofNat 32 k.val) (BitVec.ofNat 32 k.val) (BitVec.ofNat 32 (k.val - 1))
      (BitVec.ofNat 32 (stp i k.val)) := by decide +kernel
theorem chk2 : ∀ (i : grid0.Coords) (k : Fin (k0_t1_loop i).trips), k0_chk2 i (BitVec.ofNat 32 k.val) := by decide +kernel
theorem chk3 : ∀ (i : grid0.Coords) (k : Fin (k0_t1_loop i).trips), k0_chk3 i (BitVec.ofNat 32 k.val) := by decide +kernel

-- the index buffer's slot and its semaphore
theorem off1 : k0_off1 = ![(sl 0).val, 0, 0] := by decide +kernel
theorem off3 : k0_off3 = ![(sl 0).val] := by decide +kernel
theorem off4 : ∀ (i : grid0.Coords) (k : Fin (k0_t1_loop i).trips), k.val + 1 < cnt i →
    k0_off4 (BitVec.ofNat 32 (nxt i k.val)) = ![(sl (k.val + 1)).val, 0, 0] := by decide +kernel
theorem off6 : ∀ (i : grid0.Coords) (k : Fin (k0_t1_loop i).trips), k.val + 1 < cnt i →
    k0_off6 (BitVec.ofNat 32 (nxt i k.val)) = ![(sl (k.val + 1)).val] := by decide +kernel
theorem off7 : ∀ (i : grid0.Coords) (k : Fin (k0_t1_loop i).trips), k0_off7 (BitVec.ofNat 32 k.val) = ![(sl k.val).val, 0, 0] := by decide +kernel
theorem off9 : ∀ (i : grid0.Coords) (k : Fin (k0_t1_loop i).trips), k0_off9 (BitVec.ofNat 32 k.val) = ![(sl k.val).val] := by decide +kernel
theorem off11 : ∀ (i : grid0.Coords) (k : Fin (k0_t1_loop i).trips), k0_off11 (BitVec.ofNat 32 k.val) = ![(sl k.val).val, 0, 0] := by decide +kernel

-- the row buffer's slot and its semaphore
theorem off10 : ∀ (i : grid0.Coords) (k : Fin (k0_t1_loop i).trips), k0_off10 (BitVec.ofNat 32 k.val) = ![(sl k.val).val, 0, 0] := by decide +kernel
theorem off12 : ∀ (i : grid0.Coords) (k : Fin (k0_t1_loop i).trips), k0_off12 (BitVec.ofNat 32 k.val) = ![(sl k.val).val, 0, 0] := by decide +kernel
theorem off14 : ∀ (i : grid0.Coords) (k : Fin (k0_t1_loop i).trips), k0_off14 (BitVec.ofNat 32 k.val) = ![(sl k.val).val] := by decide +kernel
theorem off15 : ∀ (i : grid0.Coords) (k : Fin (k0_t1_loop i).trips), 1 ≤ k.val →
    k0_off15 (BitVec.ofNat 32 (k.val - 1)) = ![(sl (k.val + 1)).val, 0, 0] := by decide +kernel
theorem off17 : ∀ (i : grid0.Coords) (k : Fin (k0_t1_loop i).trips), 1 ≤ k.val →
    k0_off17 (BitVec.ofNat 32 (k.val - 1)) = ![(sl (k.val + 1)).val] := by decide +kernel

-- the windows in the arrays
theorem off2 : ∀ i : grid0.Coords, k0_off2 i = ![0, 256 * (win i 0).val] := by decide +kernel
theorem off5 : ∀ (i : grid0.Coords) (k : Fin (k0_t1_loop i).trips), k.val + 1 < cnt i →
    k0_off5 i (BitVec.ofNat 32 (stp i k.val)) = ![0, 256 * (win i (k.val + 1)).val] := by decide +kernel
theorem off8 : ∀ (i : grid0.Coords) (k : Fin (k0_t1_loop i).trips),
    k0_off8 i (BitVec.ofNat 32 (stp i k.val)) = ![0, 256 * (win i k.val).val] := by decide +kernel
theorem off13 : ∀ (i : grid0.Coords) (k : Fin (k0_t1_loop i).trips),
    k0_off13 i (BitVec.ofNat 32 (stp i k.val)) = ![256 * (win i k.val).val, 0] := by decide +kernel
theorem off16 : ∀ (i : grid0.Coords) (k : Fin (k0_t1_loop i).trips), 1 ≤ k.val →
    k0_off16 i (BitVec.ofNat 32 (stp i k.val)) = ![256 * (win i (k.val - 1)).val, 0] := by decide +kernel

end Trip

-- after the loop
theorem chk7 : ∀ i : grid0.Coords, k0_chk7 i (BitVec.ofNat 32 (cnt i - 1)) := by decide +kernel
theorem chk8 : ∀ i : grid0.Coords, k0_chk8 i (BitVec.ofNat 32 (stp i (cnt i))) := by decide +kernel
theorem off33 : ∀ i : grid0.Coords, k0_off33 i (BitVec.ofNat 32 (stp i (cnt i))) = ![256 * (win i (cnt i - 1)).val, 0] := by decide +kernel
theorem off34 : ∀ i : grid0.Coords, k0_off34 (BitVec.ofNat 32 (cnt i - 1)) = ![(sl (cnt i + 1)).val] := by decide +kernel
theorem off35 : ∀ i : grid0.Coords, k0_off35 (BitVec.ofNat 32 (cnt i - 1)) = ![(sl (cnt i + 1)).val, 0, 0] := by decide +kernel

/-! ## The tile's scalars and the trip's counters -/

/-- The tile's number, as the program computes it. -/
def numW (i : grid0.Coords) : BitVec 32 :=
  Scalar.addi (Scalar.addi 0#32 (Scalar.muli (BitVec.ofNat 32 (i 1).val) 1#32)) (Scalar.muli (BitVec.ofNat 32 (i 0).val) 16#32)
/-- How many windows it handles, as the program computes it. -/
def cntW (i : grid0.Coords) : BitVec 32 := Scalar.select (Scalar.cmpi .slt (numW i) 16#32) 7#32 6#32
/-- Its first window, as the program computes it. -/
def begW (i : grid0.Coords) : BitVec 32 :=
  Scalar.select (Scalar.cmpi .slt (numW i) 16#32) (Scalar.muli (numW i) (cntW i)) (Scalar.addi (Scalar.muli (numW i) 6#32) 16#32)

/-- The five counters before trip `k`. -/
def counters (i : grid0.Coords) (k : ℕ) : BitVec 32 × BitVec 32 × BitVec 32 × BitVec 32 × BitVec 32 :=
  (BitVec.ofNat 32 (nxt i k), BitVec.ofNat 32 k, BitVec.ofNat 32 k, BitVec.ofNat 32 (k - 1), BitVec.ofNat 32 (stp i k))

/-- The five counters after a trip, from those before it, as the program computes them. -/
def advance (v5 v10 a5 a6 a7 a8 a9 a10 : BitVec 32) : BitVec 32 × BitVec 32 × BitVec 32 × BitVec 32 × BitVec 32 :=
  let v80 := Scalar.muli 1#32 v5
  let v81 := Scalar.cmpi .eq a5 0#32
  let v83 := Scalar.cmpi .eq a5 (Scalar.subi v80 1#32)
  let v84 := Scalar.addi a10 v10
  let v86 := Scalar.select 1#1 (Scalar.subi a10 1#32) a10
  let v90 := Scalar.addi (Scalar.select (Scalar.cmpi .eq v86 4294967295#32) (Scalar.subi v5 1#32) v86) v10
  let v92 := Scalar.select 1#1 (Scalar.addi a10 1#32) a10
  let v95 := Scalar.addi (Scalar.select (Scalar.cmpi .eq v92 v5) 0#32 v92) v10
  let v103 := Scalar.addi (Scalar.subi v80 2#32) 1#32
  let v110 := Scalar.andi (Scalar.andi (Scalar.cmpi .ne v84 v95) (Scalar.xori (Scalar.cmpi .sge a5 v103) 1#1)) 1#1
  let v139 := Scalar.ori (Scalar.cmpi .ne v84 v95) v83
  let v153 := Scalar.andi (Scalar.cmpi .ne v84 v90) (Scalar.xori v81 1#1)
  let v164 := Scalar.select 1#1 (Scalar.addi a10 1#32) a10
  (Scalar.select v110 (Scalar.addi a6 1#32) a6, Scalar.select v139 (Scalar.addi a7 1#32) a7,
    Scalar.select (Scalar.andi v139 1#1) (Scalar.addi a8 1#32) a8, Scalar.select (Scalar.andi v153 1#1) (Scalar.addi a9 1#32) a9,
    Scalar.select (Scalar.cmpi .eq v164 v5) 0#32 v164)

theorem advance_eq : ∀ (i : grid0.Coords) (k : Fin (k0_t1_loop i).trips),
    advance (cntW i) (begW i) (Scf.iv 0#32 1#32 k) (BitVec.ofNat 32 (nxt i k.val)) (BitVec.ofNat 32 k.val) (BitVec.ofNat 32 k.val) (BitVec.ofNat 32 (k.val - 1))
      (BitVec.ofNat 32 (stp i k.val)) = counters i (k.val + 1) := by decide +kernel

theorem counters_zero : ∀ i : grid0.Coords,
    (Scalar.select (Scalar.andi 1#1 (Scalar.cmpi .sgt (Scalar.muli 1#32 (cntW i)) 0#32)) (Scalar.addi 0#32 1#32) 0#32, 0#32, 0#32, 0#32, 0#32)
      = counters i 0 := by decide +kernel

theorem cc1_eq (F : FTy → Type) [FloatOps F] : @cc1_gather_kernel F _ = @cc0_gather_kernel F _ := rfl

end Cert.KernelIdeal.Words
-- ==== Proof.Copies.lean ====
/-
  One tile's copies: the index fetch, the indexed gather and the write-out of a window of 256 rows, each with its wait,
  stated over the two slots of the tile's buffers and the 208 windows of the arrays. The memrefs and semaphores are
  parameters, so that both of the program's row gathers use the same statements.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.Tactic

@[expose] public section

noncomputable section

namespace Cert.KernelIdeal.Copies

open Cert.KernelIdeal Cert.KernelIdeal.Gen Cert.KernelIdeal.Words
open Idealize.ShloMosaic Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U]

local notation "𝕄" => MT nD τ sig Ix (Elt F) ℕ U ℕ

/-- The vector subcore that runs the task at `i`. -/
abbrev tile (d : Dev nD) (i : grid0.Coords) : Thread nD τ := V d ((i 0).castLE hcore0) ((i 1).castLE hsub0)

/-- What one tile works with: the table, the indices and the result in main memory, its two buffers, its semaphores. -/
structure Parts where
  tab : Memref sig .scVector .hbm S2600000x128 .f32
  idx : Memref sig .scVector .hbm S1x53248 .i32
  out : Memref sig .scVector .hbm S53248x128 .f32
  ibuf : Memref sig .scVector .vmem S2x1x256 .i32
  isem : DmaSems sig S2
  rbuf : Memref sig .scVector .vmem S2x256x128 .f32
  osem : DmaSems sig S2
  gsem : DmaSems sig S_

namespace Parts

theorem ibuf_inb (b : Fin 2) : ∀ a, (![b.val, 0, 0] : Fin 3 → ℕ) a + S1x1x256.size a ≤ S2x1x256.size a := by revert b; decide
theorem rbuf_inb (b : Fin 2) : ∀ a, (![b.val, 0, 0] : Fin 3 → ℕ) a + S1x256x128.size a ≤ S2x256x128.size a := by revert b; decide
theorem sem_inb (b : Fin 2) : ∀ a, (![b.val] : Fin 1 → ℕ) a + S1.size a ≤ S2.size a := by revert b; decide
theorem idx_inb (w : Fin 208) : ∀ a, (![0, 256 * w.val] : Fin 2 → ℕ) a + S1x256.size a ≤ S1x53248.size a := by revert w; decide
theorem out_inb (w : Fin 208) : ∀ a, (![256 * w.val, 0] : Fin 2 → ℕ) a + S256x128.size a ≤ S53248x128.size a := by revert w; decide

variable (A : Parts)

/-- Slot `b` of the index buffer. -/
def islot (b : Fin 2) : Memref sig .scVector .vmem S1x256 .i32 :=
  (A.ibuf.slice (Rect.unit (s := S2x1x256) ![b.val, 0, 0] S1x1x256.size (ibuf_inb b)) (fun _ => rfl)).squeeze S1x256 squeezes_S1x1x256_S1x256
/-- Slot `b` of the row buffer. -/
def rslot (b : Fin 2) : Memref sig .scVector .vmem S256x128 .f32 :=
  (A.rbuf.slice (Rect.unit (s := S2x256x128) ![b.val, 0, 0] S1x256x128.size (rbuf_inb b)) (fun _ => rfl)).squeeze S256x128 squeezes_S1x256x128_S256x128
/-- The semaphore of the fetches into slot `b`. -/
def ism (b : Fin 2) : DmaSem sig := ((A.isem.slice (Rect.unit (s := S2) ![b.val] S1.size (sem_inb b))).squeeze S_ squeezes_S1_S_).sem
/-- The semaphore of the write-outs from slot `b`. -/
def osm (b : Fin 2) : DmaSem sig := ((A.osem.slice (Rect.unit (s := S2) ![b.val] S1.size (sem_inb b))).squeeze S_ squeezes_S1_S_).sem
/-- Window `w` of the indices. -/
def iwin (w : Fin 208) : Memref sig .scVector .hbm S1x256 .i32 :=
  A.idx.slice (Rect.unit (s := S1x53248) ![0, 256 * w.val] S1x256.size (idx_inb w)) (fun _ => rfl)
/-- Window `w` of the result. -/
def owin (w : Fin 208) : Memref sig .scVector .hbm S256x128 .f32 :=
  A.out.slice (Rect.unit (s := S53248x128) ![256 * w.val, 0] S256x128.size (out_inb w)) (fun _ => rfl)
/-- The whole table, as the gather addresses it. -/
def tall : Memref sig .scVector .hbm S2600000x128 .f32 :=
  A.tab.slice (Rect.unit (s := S2600000x128) ![0, 0] S2600000x128.size inb_S2600000x128_S2600000x128_0_0) (fun _ => rfl)
/-- Slot `b` of the index buffer as the gather's list. -/
def list (b : Fin 2) : Memref sig .scVector .vmem S256 .i32 :=
  ((A.islot b).slice (Rect.unit (s := S1x256) ![0, 0] S1x256.size inb_S1x256_S1x256_0_0) (fun _ => rfl)).squeeze S256 squeezes_S1x256_S256

section Congr
variable {A}
theorem iwin_eq {off : Fin 2 → ℕ} {w : Fin 208} (h : off = ![0, 256 * w.val]) {p hs} :
    A.idx.slice (Rect.unit (s := S1x53248) off S1x256.size p) hs = A.iwin w := by subst h; rfl
theorem owin_eq {off : Fin 2 → ℕ} {w : Fin 208} (h : off = ![256 * w.val, 0]) {p hs} :
    A.out.slice (Rect.unit (s := S53248x128) off S256x128.size p) hs = A.owin w := by subst h; rfl
theorem islot_eq {off : Fin 3 → ℕ} {b : Fin 2} (h : off = ![b.val, 0, 0]) {p hs} :
    (A.ibuf.slice (Rect.unit (s := S2x1x256) off S1x1x256.size p) hs).squeeze S1x256 squeezes_S1x1x256_S1x256 = A.islot b := by subst h; rfl
theorem rslot_eq {off : Fin 3 → ℕ} {b : Fin 2} (h : off = ![b.val, 0, 0]) {p hs} :
    (A.rbuf.slice (Rect.unit (s := S2x256x128) off S1x256x128.size p) hs).squeeze S256x128 squeezes_S1x256x128_S256x128 = A.rslot b := by subst h; rfl
theorem list_eq {off : Fin 3 → ℕ} {b : Fin 2} (h : off = ![b.val, 0, 0]) {p hs} :
    (((A.ibuf.slice (Rect.unit (s := S2x1x256) off S1x1x256.size p) hs).squeeze S1x256 squeezes_S1x1x256_S1x256).slice
      (Rect.unit (s := S1x256) ![0, 0] S1x256.size inb_S1x256_S1x256_0_0) (fun _ => rfl)).squeeze S256 squeezes_S1x256_S256 = A.list b := by subst h; rfl
theorem ism_eq {off : Fin 1 → ℕ} {b : Fin 2} (h : off = ![b.val]) {p} :
    ((A.isem.slice (Rect.unit (s := S2) off S1.size p)).squeeze S_ squeezes_S1_S_).sem = A.ism b := by subst h; rfl
theorem osm_eq {off : Fin 1 → ℕ} {b : Fin 2} (h : off = ![b.val]) {p} :
    ((A.osem.slice (Rect.unit (s := S2) off S1.size p)).squeeze S_ squeezes_S1_S_).sem = A.osm b := by subst h; rfl
end Congr

end Parts

/-- Element `x` of a list of 256 as an element of the 1 × 256 slot it lies in. -/
def unlist (x : S256.Idx) : S1x256.Idx :=
  (Rect.unit (s := S1x256) ![0, 0] S1x256.size inb_S1x256_S1x256_0_0).emb (Shape.reshapeEquiv squeezes_S1x256_S256.numel_eq x)

theorem list_read (A : Parts) (b : Fin 2) (f) :
    (A.list b).view.read (Elt F) f = fun x => (A.islot b).view.read (Elt F) f (unlist x) := rfl

section Values

variable (A : Parts) (d : Dev nD) (i : grid0.Coords)
variable (Tb : Buf (Elt F) (A.tab.view.loc (tile d i))) (I : Buf (Elt F) (A.idx.view.loc (tile d i)))

/-- The indices of window `w`. -/
def ival (w : Fin 208) : S1x256.Idx → Elt F .i32 := (A.iwin w).view.read (Elt F) I

/-- Every index names a row of the table. -/
def InRange : Prop := ∀ w x, (ival A d i I w x).toNat < 2600000

variable (hI : InRange A d i I)

/-- The rows of window `w`: the table's rows that the window's indices name. -/
def rval (w : Fin 208) : S256x128.Idx → Elt F .f32 :=
  SparseCore.gatherPayload gathers_S2600000x128_S256x128 (A.tall.view.read (Elt F) Tb)
    (SparseCore.rows (si := S256) (fun x => ival A d i I w (unlist x)) rfl fun x => hI w (unlist x))

end Values

section Rules

variable (EC : UEmb Counters (MT nD τ sig Ix (Elt F) ℕ U ℕ)) [EC.LandsIn (upEmb : UEmb _ (MT nD τ sig Ix (Elt F) ℕ U ℕ))] (ι : Ix)
variable (A : Parts) (d : Dev nD) (i : grid0.Coords)
variable (Tb : Buf (Elt F) (A.tab.view.loc (tile d i))) (I : Buf (Elt F) (A.idx.view.loc (tile d i)))
variable (hI : InRange A d i I)
variable (G : Buf (Elt F) (A.out.view.loc (tile d i)))
variable (qt : PosShare TreeShare) (qi : Fin 2 → PosShare TreeShare)

/-- The tile's share of the table. -/
def tabPts : sProp 𝕄 := A.tab.view.loc (tile d i) ↦{qt} Tb
/-- Slot `b`'s share of the indices. -/
def idxPts (b : Fin 2) : sProp 𝕄 := A.idx.view.loc (tile d i) ↦{qi b} I
/-- Slot `b` of the index buffer holds window `w`'s indices. -/
def islotAt (b : Fin 2) (w : Fin 208) : sProp 𝕄 := owns (tile d i) (A.islot b) fullShare (ival A d i I w)
/-- Slot `b` of the row buffer holds window `w`'s rows. -/
def rslotAt (b : Fin 2) (w : Fin 208) : sProp 𝕄 := owns (tile d i) (A.rslot b) fullShare (rval A d i Tb I hI w)
/-- Slot `b` of the row buffer, at anything. -/
def rslotAny (b : Fin 2) : sProp 𝕄 := iprop(∃ w, owns (tile d i) (A.rslot b) fullShare w)
/-- Slot `b` of the index buffer, at anything. -/
def islotAny (b : Fin 2) : sProp 𝕄 := iprop(∃ w, owns (tile d i) (A.islot b) fullShare w)
/-- Window `w` of the result, at anything. -/
def owinAny (w : Fin 208) : sProp 𝕄 := iprop(∃ f, A.out.view.loc (tile d i) ↦[(A.owin w).view.set]{fullShare} f)
/-- Window `w` of the result, at the gathered rows. -/
def owinDone (w : Fin 208) : sProp 𝕄 := A.out.view.loc (tile d i) ↦[(A.owin w).view.set]{fullShare} G

/-- Slot `b` of the index buffer is idle: its semaphore at zero, its share of the indices at hand. -/
def inFree (b : Fin 2) : sProp 𝕄 :=
  iprop(semVal (tile d i, .dma (A.ism b)) 0 ∗ islotAny (F := F) (U := U) (Ix := Ix) A d i b ∗ idxPts (F := F) (U := U) (Ix := Ix) A d i I qi b)
/-- Window `w`'s indices are on their way into slot `b`. -/
def inFly (b : Fin 2) (w : Fin 208) : sProp 𝕄 :=
  Transfers.Flight EC (tile d i) (.dma (A.ism b)) ι (A.islot b).view.dmaCredit
    iprop(islotAt (F := F) (U := U) (Ix := Ix) A d i I b w ∗ idxPts (F := F) (U := U) (Ix := Ix) A d i I qi b)
/-- Slot `b` of the row buffer is idle. -/
def outFree (b : Fin 2) : sProp 𝕄 :=
  iprop(semVal (tile d i, .dma (A.osm b)) 0 ∗ rslotAny (F := F) (U := U) (Ix := Ix) A d i b)
/-- Window `w`'s rows are on their way out of slot `b`. -/
def outFly (b : Fin 2) (w : Fin 208) : sProp 𝕄 :=
  Transfers.Flight EC (tile d i) (.dma (A.osm b)) ι (A.owin w).view.dmaCredit
    iprop(owinDone (F := F) (U := U) (Ix := Ix) A d i G w ∗ rslotAny (F := F) (U := U) (Ix := Ix) A d i b)

variable {α : Type} {Q : α → sProp (MT nD τ sig Ix (Elt F) ℕ U ℕ)}
variable {k : PUnit → Prog (TpuEff nD τ sig (Elt F) Λ₀ (tile d i).2) α}

local notation "WP" => wp frame (wpE (defs₀ (F := F)) Variants.none (tile d i) none) Set.univ

theorem numel_pos_i : 0 < S1x256.numel := by decide
theorem numel_pos_r : 0 < S256x128.numel := by decide

/-- A fetch of window `w`'s indices into slot `b`. -/
theorem fetch (b : Fin 2) (w : Fin 208) {src : Memref sig .scVector .hbm S1x256 .i32} {dst : Memref sig .scVector .vmem S1x256 .i32} {sem : DmaSem sig}
    (hs : src = A.iwin w) (hd : dst = A.islot b) (hq : sem = A.ism b)
    {h1 : src.view.WordExact} {h2 : dst.view.WordExact} {h3} :
    (inFree (U := U) (Ix := Ix) A d i I qi b : sProp 𝕄)
      ⊢ iprop((inFly EC ι A d i I qi b w -∗ WP (k ⟨⟩) Q)
        -∗ WP (.op (TpuEff.enqueueDma (p := (tile d i).2) src (.here dst) (.dma sem) h1 h2 h3) k) Q) := by
  subst hs hd hq
  unfold inFree inFly islotAny idxPts islotAt owns
  iintro ⟨Hv, ⟨%w', %f, -, Hb⟩, Hi⟩ Hk
  iapply (Transfers.wp_dmaFromWhole EC Variants.none (tile d i) none (src := A.iwin w) (dst := A.islot b) ι _ rfl (View.dmaCredit_pos _ numel_pos_i)
    (Finset.Subset.refl _)) $$ [Hv Hb Hi]
  · isplitl [Hi]; · iexact Hi
    isplitl [Hb]; · iexact Hb
    iexact Hv
  iintro Hf
  iapply Hk
  iapply (Transfers.Flight_mono EC (tile d i) ?_) $$ Hf
  iintro ⟨Hb, Hi⟩
  isplitl [Hb]
  · iexists _
    isplitr
    swap; · iexact Hb
    ipureintro
    exact View.read_write_univ _ _
  iexact Hi

/-- What the tile owes, with the waits it has recorded: those it started with, and waits at `ι`. -/
def owing (O : CellTallies nD τ sig Ix) (W : Waits sig Ix) : sProp 𝕄 :=
  iprop(∃ W', ⌜∀ p ∈ W', p ∈ W ∨ p.2 = ι⌝ ∗ owes (tile d i) O W')

/-- The wait of a copy in flight. -/
theorem waitFor {O : CellTallies nD τ sig Ix} {W : Waits sig Ix} {N : ℕ} {D : sProp 𝕄} {sem : DmaSem sig} {sp' sp : Space} {s' s : Shape} {e' e : EltTy}
    {srcw : Memref sig (tile d i).2.kind sp' s' e'} {dstw : Memref sig (tile d i).2.kind sp s e} {hsrc : srcw.view.WordExact} {hdst : dstw.view.WordExact}
    (hN : dstw.view.dmaCredit = N) :
    iprop(Transfers.Flight EC (tile d i) (.dma sem) ι N D ∗ owing ι d i O W ∗ Transfers.MayWaits (tile d i) ι O)
      ⊢ iprop((iprop(D ∗ semVal (tile d i, .dma sem) 0 ∗ owing ι d i O W ∗ Transfers.MayWaits (tile d i) ι O) -∗ WP (k ⟨⟩) Q)
        -∗ WP (.op (.waitDma2 (κ := (tile d i).2.kind) sem srcw dstw hsrc hdst) k) Q) := by
  unfold owing
  iintro ⟨Hf, ⟨%W', %hW', HO⟩, #Hm⟩ Hk
  iapply (Transfers.wp_waitLocalO EC Variants.none (tile d i) none ι hN (D := D) (O := O) (W := W')) $$ [Hf HO]
  · isplitl [Hf]; · iexact Hf
    isplitl [HO]; · iexact HO
    iapply (Transfers.MayWaits.elim (.dma sem)) $$ Hm
  iintro ⟨HD, Hv, HO⟩
  iapply Hk
  isplitl [HD]; · iexact HD
  isplitl [Hv]; · iexact Hv
  isplitl [HO]
  · iexists _
    isplitr
    swap; · iexact HO
    ipureintro
    intro p hp
    rcases Finset.mem_insert.mp hp with rfl | hp
    · exact Or.inr rfl
    · exact hW' p hp
  iexact Hm

/-- The wait of the fetch of window `w` into slot `b`. -/
theorem fetchWait {O : CellTallies nD τ sig Ix} {W : Waits sig Ix} (b : Fin 2) (w : Fin 208) {src : Memref sig .scVector .hbm S1x256 .i32}
    {dst : Memref sig .scVector .vmem S1x256 .i32} {sem : DmaSem sig} (hd : dst = A.islot b) (hq : sem = A.ism b)
    {h1 : src.view.WordExact} {h2 : dst.view.WordExact} :
    iprop(inFly EC ι A d i I qi b w ∗ owing ι d i O W ∗ Transfers.MayWaits (tile d i) ι O)
      ⊢ iprop((iprop((islotAt A d i I b w ∗ idxPts A d i I qi b)
            ∗ semVal (tile d i, .dma (A.ism b)) 0 ∗ owing ι d i O W ∗ Transfers.MayWaits (tile d i) ι O) -∗ WP (k ⟨⟩) Q)
        -∗ WP (.op (TpuEff.waitDma2 (p := (tile d i).2) (κ := (tile d i).2.kind) sem src dst h1 h2) k) Q) := by
  subst hd hq
  unfold inFly
  exact waitFor EC ι d i rfl

/-- The rows of window `w` are being gathered into slot `b`. -/
def rowFly (N : ℕ) (b : Fin 2) (w : Fin 208) : sProp 𝕄 :=
  Transfers.Flight EC (tile d i) (.dma A.gsem.sem) ι N
    iprop(rslotAt A d i Tb I hI b w ∗ islotAt A d i I b w ∗ tabPts A d i Tb qt)

theorem rows_congr {si : Shape} {n z : ℕ} (f g : si.Idx → BitVec 32) (h : f = g) (hn hn' : si.numel = n) (hf : ∀ x, (f x).toNat < z) (hg : ∀ x, (g x).toNat < z) :
    SparseCore.rows (F := F) (si := si) f hn hf = SparseCore.rows (F := F) g hn' hg := by
  subst h; rfl

theorem list_sub (b : Fin 2) : ((A.list b).view.set : Finset (Idx ((A.islot b).view.loc (tile d i)))) ⊆ (A.islot b).view.set := by
  intro x hx
  obtain ⟨y, -, rfl⟩ := Finset.mem_map.mp hx
  exact View.emb_mem_set (A.islot b).view (unlist y)

/-- The part of slot `b` outside the list: nothing, kept to rejoin. -/
def listRest (b : Fin 2) (f : Buf (Elt F) ((A.islot b).view.loc (tile d i))) : sProp 𝕄 :=
  (A.islot b).view.loc (tile d i) ↦[(A.islot b).view.set \ ((A.list b).view.set : Finset (Idx ((A.islot b).view.loc (tile d i))))]{fullShare} f

theorem list_split (b : Fin 2) (f : Buf (Elt F) ((A.islot b).view.loc (tile d i))) :
    ((A.islot b).view.loc (tile d i) ↦[(A.islot b).view.set]{fullShare} f : sProp 𝕄)
      ⊣⊢ iprop(((A.list b).view.loc (tile d i) ↦[(A.list b).view.set]{fullShare} f) ∗ listRest A d i b f) :=
  pointsTo_split_subset (list_sub A b)

/-- The part of the table outside the gather's slice of it: nothing, kept to rejoin. -/
def tabRest : sProp 𝕄 :=
  A.tab.view.loc (tile d i) ↦[Finset.univ \ (A.tall.view.set : Finset (Idx (A.tab.view.loc (tile d i))))]{qt} Tb

theorem tab_split : (A.tab.view.loc (tile d i) ↦{qt} Tb : sProp 𝕄)
      ⊣⊢ iprop((A.tall.view.loc (tile d i) ↦[A.tall.view.set]{qt} Tb) ∗ tabRest A d i Tb qt) :=
  pointsTo_split_subset (Finset.subset_univ (A.tall.view.set : Finset (Idx (A.tab.view.loc (tile d i)))))

/-- The gather of the rows that slot `b`'s indices name. -/
theorem gather (b : Fin 2) (w : Fin 208)
    (N : ℕ) (hN : ∑ j, ((A.rslot b).slice (S256x128.rowRect gathers_S2600000x128_S256x128.axis' j)
      (S256x128.stride_rowRect gathers_S2600000x128_S256x128.axis' j)).view.dmaCredit = N)
    {src : Memref sig .scVector .hbm S2600000x128 .f32} {dst : Memref sig .scVector .vmem S256x128 .f32} {offs : Memref sig .scVector .vmem S256 .i32}
    (hs : src = A.tall) (hd : dst = A.rslot b) (ho : offs = A.list b)
    {hp hn} {hsrc : src.view.WordExact} {he hsp hr} :
    iprop(islotAt A d i I b w ∗ rslotAny A d i b ∗ tabPts A d i Tb qt ∗ semVal (tile d i, .dma A.gsem.sem) 0)
      ⊢ iprop((rowFly EC ι A d i Tb I hI qt N b w -∗ WP (k ⟨⟩) Q)
        -∗ WP (SparseCore.enqueueIndirectGather (p := (tile d i).2) hp src dst gathers_S2600000x128_S256x128 offs hn A.gsem.sem hsrc he hsp hr >>= k) Q) := by
  subst hs hd ho
  unfold islotAt rslotAny tabPts rowFly rslotAt owns
  iintro ⟨⟨%fi, %hfi, Hi⟩, ⟨%w', %f, -, Hb⟩, Ht, Hv⟩ Hk
  have hread : (A.list b).view.read (Elt F) (show Buf (Elt F) ((A.list b).view.loc (tile d i)) from fi) = fun x => ival A d i I w (unlist x) :=
    (list_read A b fi).trans (funext fun x => congrFun hfi (unlist x))
  have hin : ∀ x, ((A.list b).view.read (Elt F) (show Buf (Elt F) ((A.list b).view.loc (tile d i)) from fi) x).toNat
      < S2600000x128.size gathers_S2600000x128_S256x128.axis := by
    intro x; rw [hread]; exact hI w (unlist x)
  ihave ⟨Hi1, Hi2⟩ := (list_split A d i b fi).1 $$ Hi
  ihave ⟨Ht1, Ht2⟩ := (tab_split A d i Tb qt).1 $$ Ht
  have hmono : iprop(listRest A d i b fi
        ∗ tabRest A d i Tb qt
        ∗ ((A.rslot b).view.loc (tile d i) ↦[(A.rslot b).view.set]{fullShare}
            ((A.rslot b).view.write (Elt F) f (SparseCore.gatherPayload gathers_S2600000x128_S256x128 (A.tall.view.read (Elt F) Tb)
              (SparseCore.rows ((A.list b).view.read (Elt F) (show Buf (Elt F) ((A.list b).view.loc (tile d i)) from fi)) hn hin)) Finset.univ))
        ∗ (A.tall.view.loc (tile d i) ↦[A.tall.view.set]{qt} Tb) ∗ ((A.list b).view.loc (tile d i) ↦[(A.list b).view.set]{fullShare} fi))
      ⊢ (iprop((∃ f', ⌜(A.rslot b).view.read (Elt F) f' = rval A d i Tb I hI w⌝
          ∗ ((A.rslot b).view.loc (tile d i) ↦[(A.rslot b).view.set]{fullShare} f'))
        ∗ (∃ f', ⌜(A.islot b).view.read (Elt F) f' = ival A d i I w⌝ ∗ ((A.islot b).view.loc (tile d i) ↦[(A.islot b).view.set]{fullShare} f'))
        ∗ (A.tab.view.loc (tile d i) ↦{qt} Tb)) : sProp 𝕄) := by
    iintro ⟨Hi2, Ht2, Hb, Ht1, Hi1⟩
    isplitl [Hb]
    · iexists _
      isplitr
      swap; · iexact Hb
      ipureintro
      rw [View.read_write_univ]
      exact congrArg (SparseCore.gatherPayload gathers_S2600000x128_S256x128 (A.tall.view.read (Elt F) Tb)) (rows_congr (F := F) _ _ hread _ _ _ _)
    isplitl [Hi1 Hi2]
    · iexists fi
      isplitr
      · ipureintro; exact hfi
      iapply (list_split A d i b fi).2
      isplitl [Hi1]; · iexact Hi1
      iexact Hi2
    iapply (tab_split A d i Tb qt).2
    isplitl [Ht1]; · iexact Ht1
    iexact Ht2
  iapply (SparseCore.wp_indirectGatherLocal EC Variants.none (tile d i) none (src := A.tall) (dst := A.rslot b) (offs := A.list b)
    (hg := gathers_S2600000x128_S256x128) ι N hN numel_pos_r hin) $$ [Hi1 Ht1 Hb Hv]
  · isplitl [Ht1]; · iexact Ht1
    isplitl [Hb]; · iexact Hb
    isplitl [Hi1]; · iexact Hi1
    iexact Hv
  iintro Hf
  iapply Hk
  iapply (Transfers.Flight_mono EC (tile d i) hmono)
  iapply (Transfers.Flight_frame EC (tile d i))
  isplitl [Hi2]; · iexact Hi2
  iapply (Transfers.Flight_frame EC (tile d i))
  isplitl [Ht2]; · iexact Ht2
  iexact Hf

/-- The gather's wait. -/
theorem gatherWait {O : CellTallies nD τ sig Ix} {W : Waits sig Ix} (b : Fin 2) (w : Fin 208) {N : ℕ} (hN : (A.rslot b).view.dmaCredit = N)
    {src : Memref sig .scVector .hbm S2600000x128 .f32} {dst : Memref sig .scVector .vmem S256x128 .f32} (hd : dst = A.rslot b)
    {h1 : src.view.WordExact} {h2 : dst.view.WordExact} :
    iprop(rowFly EC ι A d i Tb I hI qt N b w ∗ owing ι d i O W ∗ Transfers.MayWaits (tile d i) ι O)
      ⊢ iprop((iprop((rslotAt A d i Tb I hI b w ∗ islotAt A d i I b w ∗ tabPts A d i Tb qt)
            ∗ semVal (tile d i, .dma A.gsem.sem) 0 ∗ owing ι d i O W ∗ Transfers.MayWaits (tile d i) ι O) -∗ WP (k ⟨⟩) Q)
        -∗ WP (.op (TpuEff.waitDma2 (p := (tile d i).2) (κ := (tile d i).2.kind) A.gsem.sem src dst h1 h2) k) Q) := by
  subst hd
  unfold rowFly
  exact waitFor EC ι d i hN

/-- A view reads the same contents of two buffers only if they agree on the view's elements. -/
theorem agree_of_read {κ : Kind} {sp : Space} {s : Shape} {e : EltTy} (v : View sig κ sp s e) {f g : v.ty.Contents (Elt F)}
    (h : v.read (Elt F) f = v.read (Elt F) g) : ∀ x ∈ v.set, f x = g x := by
  intro x hx
  obtain ⟨y, -, rfl⟩ := Finset.mem_map.mp hx
  have := congrFun h y
  rw [View.read_apply, View.read_apply] at this
  exact (cast_inj _).mp this

/-- The write-out of slot `b`'s rows to window `w`. -/
theorem put (hG : ∀ w, (A.owin w).view.read (Elt F) G = rval A d i Tb I hI w) (b : Fin 2) (w : Fin 208) {src : Memref sig .scVector .vmem S256x128 .f32} {dst : Memref sig .scVector .hbm S256x128 .f32} {sem : DmaSem sig}
    (hs : src = A.rslot b) (hd : dst = A.owin w) (hq : sem = A.osm b)
    {h1 : src.view.WordExact} {h2 : dst.view.WordExact} {h3} :
    iprop(rslotAt A d i Tb I hI b w ∗ owinAny A d i w ∗ semVal (tile d i, .dma (A.osm b)) 0)
      ⊢ iprop((outFly EC ι A d i G b w -∗ WP (k ⟨⟩) Q)
        -∗ WP (.op (TpuEff.enqueueDma (p := (tile d i).2) src (.here dst) (.dma sem) h1 h2 h3) k) Q) := by
  subst hs hd hq
  unfold rslotAt owinAny outFly owinDone rslotAny owns
  iintro ⟨⟨%fb, %hfb, Hb⟩, ⟨%fo, Ho⟩, Hv⟩ Hk
  iapply (Transfers.wp_dmaLocal EC Variants.none (tile d i) none (src := A.rslot b) (dst := A.owin w) ι _ rfl (View.dmaCredit_pos _ numel_pos_r)
    (Finset.Subset.refl _)) $$ [Hv Hb Ho]
  · isplitl [Hb]; · iexact Hb
    isplitl [Ho]; · iexact Ho
    iexact Hv
  iintro Hf
  iapply Hk
  iapply (Transfers.Flight_mono EC (tile d i) ?_) $$ Hf
  iintro ⟨Ho, Hb⟩
  isplitl [Ho]
  · have hc := agree_of_read (F := F) (A.owin w).view
      (f := (A.owin w).view.write (Elt F) fo ((A.rslot b).view.read (Elt F) fb) Finset.univ) (g := G)
      ((View.read_write_univ _ _).trans (hfb.trans (hG w).symm))
    have he : ((A.owin w).view.loc (tile d i) ↦[(A.owin w).view.set]{fullShare}
          (A.owin w).view.write (Elt F) fo ((A.rslot b).view.read (Elt F) fb) Finset.univ : sProp 𝕄)
        = (A.out.view.loc (tile d i) ↦[(A.owin w).view.set]{fullShare} G) :=
      pointsTo_congr (ℓ := A.out.view.loc (tile d i)) hc
    iapply (Entails.of_eq he)
    iexact Ho
  iexists _
  iexists fb
  isplitr
  · ipureintro; rfl
  iexact Hb

/-- The write-out's wait. -/
theorem putWait {O : CellTallies nD τ sig Ix} {W : Waits sig Ix} (b : Fin 2) (w : Fin 208) {src : Memref sig .scVector .vmem S256x128 .f32}
    {dst : Memref sig .scVector .hbm S256x128 .f32} {sem : DmaSem sig} (hd : dst = A.owin w) (hq : sem = A.osm b)
    {h1 : src.view.WordExact} {h2 : dst.view.WordExact} :
    iprop(outFly EC ι A d i G b w ∗ owing ι d i O W ∗ Transfers.MayWaits (tile d i) ι O)
      ⊢ iprop((iprop((owinDone A d i G w ∗ rslotAny A d i b)
            ∗ semVal (tile d i, .dma (A.osm b)) 0 ∗ owing ι d i O W ∗ Transfers.MayWaits (tile d i) ι O) -∗ WP (k ⟨⟩) Q)
        -∗ WP (.op (TpuEff.waitDma2 (p := (tile d i).2) (κ := (tile d i).2.kind) sem src dst h1 h2) k) Q) := by
  subst hd hq
  unfold outFly
  exact waitFor EC ι d i rfl

end Rules

end Cert.KernelIdeal.Copies

end
-- ==== Proof.Tile.lean ====
/-
  One tile of the row gather: the loop over its windows, with what is in flight between trips, and the tile's whole run.
-/
module

public import proofs.«01_k».proof.Proof.Copies
public import Idealize.ShloMosaic.Lib.Scf
public import Idealize.SL.BI.BigOpNat

@[expose] public section

noncomputable section

namespace Cert.KernelIdeal.Tile

open Cert.KernelIdeal Cert.KernelIdeal.Gen Cert.KernelIdeal.Words Cert.KernelIdeal.Copies
open Idealize.ShloMosaic Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U]

local notation "𝕄" => MT nD τ sig Ix (Elt F) ℕ U ℕ

variable (EC : UEmb Counters (MT nD τ sig Ix (Elt F) ℕ U ℕ)) [EC.LandsIn (upEmb : UEmb _ (MT nD τ sig Ix (Elt F) ℕ U ℕ))] (ι : Ix)
variable (A : Parts) (d : Dev nD) (i : grid0.Coords)
variable (Tb : Buf (Elt F) (A.tab.view.loc (tile d i))) (I : Buf (Elt F) (A.idx.view.loc (tile d i)))
variable (G : Buf (Elt F) (A.out.view.loc (tile d i)))
variable (qt : PosShare TreeShare) (qi : Fin 2 → PosShare TreeShare)
variable (O : CellTallies nD τ sig Ix) (W : Waits sig Ix)

/-- The index slot of trip `k`, before the trip: its window's indices on their way, or idle after the last trip. -/
def inCur (k : ℕ) : sProp 𝕄 := if k < cnt i then inFly EC ι A d i I qi (sl k) (win i k) else inFree A d i I qi (sl k)
/-- The row slot of the trip before `k`: its rows on their way out, or idle before the first trip. -/
def outPrev (k : ℕ) : sProp 𝕄 := if 1 ≤ k then outFly EC ι A d i G (sl (k + 1)) (win i (k - 1)) else outFree A d i (sl (k + 1))
/-- The windows of the result still to be written. -/
def todo (k : ℕ) : sProp 𝕄 := bigSep (Finset.Ico k (cnt i)) fun j => owinAny A d i (win i j)
/-- The windows of the result whose write-out has been waited for. -/
def done (k : ℕ) : sProp 𝕄 := bigSep (Finset.range k) fun j => owinDone A d i G (win i j)

/-- What holds before trip `k`. -/
def inv (k : ℕ) (acc : BitVec 32 × BitVec 32 × BitVec 32 × BitVec 32 × BitVec 32) : sProp 𝕄 :=
  iprop(⌜acc = counters i k⌝ ∗ owing ι d i O W ∗ Transfers.MayWaits (tile d i) ι O ∗ tabPts A d i Tb qt ∗ semVal (tile d i, .dma A.gsem.sem) 0
    ∗ inCur EC ι A d i I qi k ∗ inFree A d i I qi (sl (k + 1)) ∗ outPrev EC ι A d i G k ∗ outFree A d i (sl k)
    ∗ todo A d i k ∗ done A d i G (k - 1))

theorem inCur_pos {k : ℕ} (h : k < cnt i) : inCur EC ι A d i I qi k = inFly EC ι A d i I qi (sl k) (win i k) := if_pos h
theorem inCur_neg {k : ℕ} (h : ¬ k < cnt i) : inCur EC ι A d i I qi k = inFree A d i I qi (sl k) := if_neg h
theorem outPrev_pos {k : ℕ} (h : 1 ≤ k) : outPrev EC ι A d i G k = outFly EC ι A d i G (sl (k + 1)) (win i (k - 1)) := if_pos h
theorem outPrev_neg {k : ℕ} (h : ¬ 1 ≤ k) : outPrev (F := F) EC ι A d i G k = outFree A d i (sl (k + 1)) := if_neg h
theorem todo_succ {k : ℕ} (h : k < cnt i) : (todo A d i k : sProp 𝕄) = iprop(owinAny A d i (win i k) ∗ todo A d i (k + 1)) := bigSep_Ico_succ_bot h _
theorem done_succ {k : ℕ} (h : 1 ≤ k) : (done A d i G k : sProp 𝕄) = iprop(owinDone A d i G (win i (k - 1)) ∗ done A d i G (k - 1)) := by
  obtain ⟨k, rfl⟩ := Nat.exists_eq_add_of_le' h
  exact bigSep_range_succ _ _

local notation "WP" => wp frame (wpE (defs₀ (F := F)) Variants.none (tile d i) none) Set.univ

variable {α : Type} {Q : α → sProp (MT nD τ sig Ix (Elt F) ℕ U ℕ)}

set_option maxHeartbeats 1000000 in
/-- A trip's first part: the side conditions of its offsets, and the fetch of the next window's indices, if there is one. -/
theorem part1 (h2 h3 h4 h5 h6) (gsem' : DmaSems sig S_) (h1 : k0_cond1 i = 1#1)
    (k : Fin (k0_t1_loop i).trips)
    (K : (Σ' (k0_hw3 : k0_chk3 i (BitVec.ofNat 32 k.val)) (k0_hw2 : k0_chk2 i (BitVec.ofNat 32 k.val))
      (k0_hw1 : k0_chk1 i k (BitVec.ofNat 32 (nxt i k.val)) (BitVec.ofNat 32 k.val) (BitVec.ofNat 32 k.val) (BitVec.ofNat 32 (k.val - 1)) (BitVec.ofNat 32 (stp i k.val)))
      (arg5_r0 : BitVec 32) (v80_r0 : BitVec 32) (v81_r0 : BitVec 1) (v83_r0 : BitVec 1) (v84_r0 : BitVec 32) (v90_r0 : BitVec 32) (v95_r0 : BitVec 32)
      (v112_r0 : BitVec 32) (v113_r0 : BitVec 1), BitVec 32) → Prog (TpuEff nD τ sig (Elt F) Λ₀ (tile d i).2) α) :
    let a10 := BitVec.ofNat 32 (stp i k.val)
    let v5 := cntW i
    let arg5 := Scf.iv 0#32 1#32 k
    let v80 := Scalar.muli 1#32 v5
    let v84 := Scalar.addi a10 (begW i)
    let v86 := Scalar.select 1#1 (Scalar.subi a10 1#32) a10
    let v90 := Scalar.addi (Scalar.select (Scalar.cmpi .eq v86 4294967295#32) (Scalar.subi v5 1#32) v86) (begW i)
    let v92 := Scalar.select 1#1 (Scalar.addi a10 1#32) a10
    let v95 := Scalar.addi (Scalar.select (Scalar.cmpi .eq v92 v5) 0#32 v92) (begW i)
    let v103 := Scalar.addi (Scalar.subi v80 2#32) 1#32
    let v110 := Scalar.andi (Scalar.andi (Scalar.cmpi .ne v84 v95) (Scalar.xori (Scalar.cmpi .sge arg5 v103) 1#1)) 1#1
    let v112 := Scalar.select v110 (Scalar.addi (BitVec.ofNat 32 (nxt i k.val)) 1#32) (BitVec.ofNat 32 (nxt i k.val))
    (inFree A d i I qi (sl (k.val + 1)) : sProp 𝕄)
      ⊢ iprop((inCur EC ι A d i I qi (k.val + 1) -∗ WP (K ⟨chk3 i k, chk2 i k, chk1 i k, arg5, v80, Scalar.cmpi .eq arg5 0#32,
            Scalar.cmpi .eq arg5 (Scalar.subi v80 1#32), v84, v90, v95, v112, Scalar.cmpi .ne v84 v95, 2#32⟩) Q)
          -∗ WP (k0_part1 (F := F) i A.tab h2 A.idx h3 A.out h4 A.ibuf h5 A.isem A.rbuf h6 A.osem A.gsem gsem' (cntW i) (begW i) h1 0#32 1#32 k
              (BitVec.ofNat 32 (nxt i k.val)) (BitVec.ofNat 32 k.val) (BitVec.ofNat 32 k.val) (BitVec.ofNat 32 (k.val - 1)) (BitVec.ofNat 32 (stp i k.val)) >>= K) Q) := by
  intro a10 v5 arg5 v80 v84 v86 v90 v92 v95 v103 v110 v112
  simp only [k0_part1_eq_skeleton]
  unfold k0_part1_skel
  simp only [Prog.lift, Prog.bind_op, Prog.bind_ret, Prog.pure_eq_ret, Prog.bind_assoc]
  iintro HI Hk
  iapply (wp_assume _ _ _ _ (chk3 i k))
  iapply (wp_assume _ _ _ _ (chk2 i k))
  iapply (wp_assume _ _ _ _ (chk1 i k))
  by_cases hc : k.val + 1 < cnt i
  · simp only [dif_pos ((cond3 i k).mpr hc), Prog.bind_op, Prog.bind_ret, Prog.pure_eq_ret]
    iapply (fetch EC ι A d i I qi (sl (k.val + 1)) (win i (k.val + 1))
      (Parts.iwin_eq (off5 i k hc)) (Parts.islot_eq (off4 i k hc)) (Parts.ism_eq (off6 i k hc))) $$ HI
    iintro HI
    iapply Hk
    unfold inCur
    rw [if_pos hc]
    iexact HI
  · simp only [dif_neg (fun h => hc ((cond3 i k).mp h)), Prog.bind_op, Prog.bind_ret, Prog.pure_eq_ret]
    iapply Hk
    unfold inCur
    rw [if_neg hc]
    iexact HI

set_option maxHeartbeats 2000000 in
/-- A trip of the loop. -/
theorem step (hI : InRange A d i I)
    (hN : ∀ b, ∑ j, ((A.rslot b).slice (S256x128.rowRect gathers_S2600000x128_S256x128.axis' j)
      (S256x128.stride_rowRect gathers_S2600000x128_S256x128.axis' j)).view.dmaCredit = (A.rslot b).view.dmaCredit)
    (hG : ∀ w, (A.owin w).view.read (Elt F) G = rval A d i Tb I hI w) (h2 h3 h4 h5 h6) (gsem' : DmaSems sig S_) (h1 : k0_cond1 i = 1#1) (a b c d' e f g)
    (k : Fin (k0_t1_loop i).trips) (acc) :
    inv EC ι A d i Tb I G qt qi O W k.val acc
      ⊢ WP (k0_t1_body (F := F) i A.tab h2 A.idx h3 A.out h4 A.ibuf h5 A.isem A.rbuf h6 A.osem A.gsem gsem' (cntW i) (begW i) a h1 b 0#32 c d' e f g k acc)
        (inv EC ι A d i Tb I G qt qi O W (k.val + 1)) := by
  have hkc : k.val < cnt i := trips_eq i ▸ k.isLt
  iintro Hinv
  ihave Hinv := (Entails.of_eq (show inv EC ι A d i Tb I G qt qi O W k.val acc = iprop(_ ∗ _) from rfl)) $$ Hinv
  icases Hinv with ⟨%hacc, HO, Hm, Ht, Hg, HI, HI', HP, HP', HT, HD⟩
  subst hacc
  unfold k0_t1_body
  iapply (part1 EC ι A d i I qi h2 h3 h4 h5 h6 gsem' h1 k _) $$ HI'
  iintro HN
  simp only [k0_part2_eq_skeleton]
  unfold k0_part2_skel
  simp only [Prog.lift, Prog.bind_op, Prog.bind_ret, Prog.pure_eq_ret, Prog.bind_assoc, dif_pos (cond4 i k), dif_pos (cond7 i k), ite_self,
    SparseCore.waitIndirectGather]
  -- the wait for this window's indices
  ihave HI := (Entails.of_eq (inCur_pos EC ι A d i I qi hkc)) $$ HI
  iapply (fetchWait EC ι A d i I qi (sl k.val) (win i k.val) (Parts.islot_eq (off7 i k)) (Parts.ism_eq (off9 i k))) $$ [HI HO Hm]
  · isplitl [HI]; · iexact HI
    isplitl [HO]; · iexact HO
    iexact Hm
  iintro ⟨⟨Hs, Hi⟩, Hvi, HO, Hm⟩
  -- the gather and its wait
  ihave HP' := (Entails.of_eq (show outFree (F := F) (U := U) (Ix := Ix) A d i (sl k.val) = iprop(_ ∗ _) from rfl)) $$ HP'
  icases HP' with ⟨Hvo, Hr⟩
  iapply (gather EC ι A d i Tb I hI qt (sl k.val) (win i k.val) _ (hN (sl k.val)) rfl (Parts.rslot_eq (off10 i k)) (Parts.list_eq (off11 i k))) $$ [Hs Hr Ht Hg]
  · isplitl [Hs]; · iexact Hs
    isplitl [Hr]; · iexact Hr
    isplitl [Ht]; · iexact Ht
    iexact Hg
  iintro Hf
  iapply (gatherWait EC ι A d i Tb I hI qt (sl k.val) (win i k.val) rfl (Parts.rslot_eq (off10 i k))) $$ [Hf HO Hm]
  · isplitl [Hf]; · iexact Hf
    isplitl [HO]; · iexact HO
    iexact Hm
  iintro ⟨⟨Hr, Hs, Ht⟩, Hg, HO, Hm⟩
  -- the write-out of the window's rows
  ihave HT := (Entails.of_eq (todo_succ (F := F) A d i hkc)) $$ HT
  icases HT with ⟨Hw, HT⟩
  iapply (put EC ι A d i Tb I hI G hG (sl k.val) (win i k.val) (Parts.rslot_eq (off12 i k)) (Parts.owin_eq (off13 i k)) (Parts.osm_eq (off14 i k))) $$ [Hr Hw Hvo]
  · isplitl [Hr]; · iexact Hr
    isplitl [Hw]; · iexact Hw
    iexact Hvo
  iintro Hfo
  -- the wait for the write-out of the trip before
  have hend : ∀ x, x = counters i (k.val + 1) →
      iprop(owing ι d i O W ∗ Transfers.MayWaits (tile d i) ι O ∗ tabPts A d i Tb qt ∗ semVal (tile d i, .dma A.gsem.sem) 0
        ∗ inCur EC ι A d i I qi (k.val + 1) ∗ (semVal (tile d i, .dma (A.ism (sl k.val))) 0 ∗ islotAt A d i I (sl k.val) (win i k.val) ∗ idxPts A d i I qi (sl k.val))
        ∗ outFly EC ι A d i G (sl k.val) (win i k.val) ∗ outFree A d i (sl (k.val + 1)) ∗ todo A d i (k.val + 1) ∗ done A d i G k.val)
      ⊢ (inv EC ι A d i Tb I G qt qi O W (k.val + 1) x : sProp 𝕄) := by
    rintro x rfl
    have e2 : sl (k.val + 1 + 1) = sl k.val := sl_add_two k.val
    have e3 : k.val + 1 - 1 = k.val := rfl
    unfold inv
    rw [outPrev_pos EC ι A d i G (Nat.le_add_left 1 k.val), e2, e3]
    unfold inFree islotAny islotAt
    iintro ⟨HO, Hm, Ht, Hg, HN, ⟨Hv, Hs, Hi⟩, Hf, HP, HT, HD⟩
    isplitr
    · ipureintro; rfl
    iframe HO Hm Ht Hg HN Hf HP HT HD
    isplitl [Hv]; · iexact Hv
    isplitl [Hs]
    · iexists _; iexact Hs
    iexact Hi
  by_cases hk1 : 1 ≤ k.val
  · ihave HP := (Entails.of_eq (outPrev_pos EC ι A d i G hk1)) $$ HP
    simp only [dif_pos ((cond9 i k).mpr hk1)]
    iapply (putWait EC ι A d i G (sl (k.val + 1)) (win i (k.val - 1)) (Parts.owin_eq (off16 i k hk1)) (Parts.osm_eq (off17 i k hk1))) $$ [HP HO Hm]
    · isplitl [HP]; · iexact HP
      isplitl [HO]; · iexact HO
      iexact Hm
    iintro ⟨⟨Hw, Hr⟩, Hvo, HO, Hm⟩
    rw [wp_ret]
    imodintro
    iapply (hend _ (by exact advance_eq i k))
    iframe HO Hm Ht Hg HN HT Hfo
    isplitl [Hvi Hs Hi]
    · iframe Hvi Hs Hi
    isplitl [Hr Hvo]
    · unfold outFree
      iframe Hr Hvo
    rw [done_succ A d i G hk1]
    iframe Hw HD
  · ihave HP := (Entails.of_eq (outPrev_neg EC ι A d i G hk1)) $$ HP
    simp only [dif_neg (fun h => hk1 ((cond9 i k).mp h))]
    rw [wp_ret]
    imodintro
    iapply (hend _ (by exact advance_eq i k))
    iframe HO Hm Ht Hg HN HT Hfo HP
    isplitl [Hvi Hs Hi]
    · iframe Hvi Hs Hi
    have e0 : k.val - 1 = k.val := by omega
    rw [e0]
    iexact HD

theorem slots {P : Fin 2 → sProp 𝕄} : ∀ k, iprop(P (sl k) ∗ P (sl (k + 1))) ⊢ (iprop(P 0 ∗ P 1) : sProp 𝕄)
  | 0 => .rfl
  | 1 => by
    rw [show sl 1 = 1 from rfl, show sl (1 + 1) = 0 from rfl]
    iintro ⟨H1, H0⟩
    isplitl [H0]; · iexact H0
    iexact H1
  | k + 2 => by
    rw [sl_add_two, show k + 2 + 1 = (k + 1) + 2 from rfl, sl_add_two]
    exact slots k

set_option maxHeartbeats 2000000 in
include EC in
/-- A tile's whole run: every window of the tile ends at its rows, and the buffers and semaphores are idle again. -/
theorem run (hI : InRange A d i I)
    (hN : ∀ b, ∑ j, ((A.rslot b).slice (S256x128.rowRect gathers_S2600000x128_S256x128.axis' j)
      (S256x128.stride_rowRect gathers_S2600000x128_S256x128.axis' j)).view.dmaCredit = (A.rslot b).view.dmaCredit)
    (hG : ∀ w, (A.owin w).view.read (Elt F) G = rval A d i Tb I hI w) (h2 h3 h4 h5 h6) (gsem' : DmaSems sig S_) :
    (iprop(owing ι d i O W ∗ Transfers.MayWaits (tile d i) ι O ∗ tabPts A d i Tb qt ∗ semVal (tile d i, .dma A.gsem.sem) 0
      ∗ inFree A d i I qi (sl 0) ∗ inFree A d i I qi (sl 1) ∗ outFree A d i (sl 0) ∗ outFree A d i (sl 1) ∗ todo A d i 0) : sProp 𝕄)
      ⊢ WP (cc0_gather_kernel (F := F) i A.tab h2 A.idx h3 A.out h4 A.ibuf h5 A.isem A.rbuf h6 A.osem A.gsem gsem')
        (fun _ => iprop(owing ι d i O W ∗ tabPts A d i Tb qt ∗ semVal (tile d i, .dma A.gsem.sem) 0
          ∗ (inFree A d i I qi 0 ∗ inFree A d i I qi 1) ∗ (outFree A d i 0 ∗ outFree A d i 1) ∗ done A d i G (cnt i))) := by
  iintro ⟨HO, Hm, Ht, Hg, HI, HI', HP, HP', HT⟩
  simp only [cc0_gather_kernel_eq_skeleton]
  unfold cc0_gather_kernel_skel
  simp only [dif_pos (cond1 i), k0_part5_eq_skeleton, k0_part6_eq_skeleton]
  unfold k0_part5_skel k0_part6_skel
  simp only [Prog.lift, Prog.bind_op, Prog.bind_ret, Prog.pure_eq_ret, Prog.bind_assoc, dif_pos (cond2 i), ite_self, dite_eq_ite, dif_pos (cond18 i)]
  iapply (fetch EC ι A d i I qi (sl 0) (win i 0) (Parts.iwin_eq (off2 i)) (Parts.islot_eq off1) (Parts.ism_eq off3)) $$ HI
  iintro HI
  iapply (Scf.wp_for_bind frame (wpE (defs₀ (F := F)) Variants.none (tile d i) none) Set.univ _ _ _ _ _ _ (inv EC ι A d i Tb I G qt qi O W)
    (fun k acc => step EC ι A d i Tb I G qt qi O W hI hN hG h2 h3 h4 h5 h6 gsem' (cond1 i) _ _ _ _ _ _ _ k acc)) $$ [HO Hm Ht Hg HI HI' HP HP' HT]
  · ihave HC := (Entails.of_eq (inCur_pos EC ι A d i I qi (cnt_pos i)).symm) $$ HI
    ihave HP0 := (Entails.of_eq (outPrev_neg (F := F) EC ι A d i G (k := 0) (by decide)).symm) $$ HP'
    unfold inv
    isplitr
    · ipureintro; exact counters_zero i
    iframe HO Hm Ht Hg HC HI' HP0 HP HT
    unfold done
    rw [Finset.range_zero, bigSep_empty]
    iempintro
  iintro %acc Hinv
  have ht : Scf.trips (k0_t1_loop i).lb (k0_t1_loop i).ub (k0_t1_loop i).st = cnt i := trips_eq i
  rw [ht]
  unfold inv
  icases Hinv with ⟨%hacc, HO, Hm, Ht, Hg, HI, HI', HP, HP', HT, HD⟩
  subst hacc
  unfold counters
  iapply (Scf.wp_for_bind frame (wpE (defs₀ (F := F)) Variants.none (tile d i) none) Set.univ _ _ _ _ _ _
    (fun _ acc => iprop(⌜acc = counters i (cnt i)⌝)) (fun k _ => absurd (lt_of_lt_of_eq k.isLt (trips2_eq i)) (Nat.not_lt_zero _))) $$ []
  · ipureintro; rfl
  iintro %acc %hacc
  subst hacc
  unfold counters
  iapply (wp_assume _ _ _ _ (chk8 i))
  iapply (wp_assume _ _ _ _ (chk7 i))
  iapply (putWait EC ι A d i G (sl (cnt i + 1)) (win i (cnt i - 1)) (Parts.owin_eq (off33 i)) (Parts.osm_eq (off34 i))) $$ [HP HO Hm]
  · ihave HP := (Entails.of_eq (outPrev_pos EC ι A d i G (cnt_pos i))) $$ HP
    isplitl [HP]; · iexact HP
    isplitl [HO]; · iexact HO
    iexact Hm
  iintro ⟨⟨Hw, Hr⟩, Hvo, HO, -⟩
  rw [wp_ret]
  imodintro
  iframe HO Ht Hg
  isplitl [HI HI']
  · iapply (slots (P := fun b => inFree A d i I qi b) (cnt i))
    isplitl [HI]
    · iapply (Entails.of_eq (inCur_neg EC ι A d i I qi (lt_irrefl (cnt i)))) $$ HI
    iexact HI'
  isplitl [HP' Hr Hvo]
  · iapply (slots (P := fun b => outFree A d i b) (cnt i))
    isplitl [HP']
    · iexact HP'
    unfold outFree
    iframe Hr Hvo
  rw [done_succ A d i G (cnt_pos i)]
  iframe Hw HD

end Cert.KernelIdeal.Tile

end
-- ==== Proof.Deal.lean ====
/-
  How the arrays of a row gather are dealt to its 32 tiles and how a tile's own buffers and semaphores are cut into the
  two slots its loop works with: the table and the indices by shares, the result by windows of 256 rows.
-/
module

public import proofs.«01_k».proof.Proof.Tile
public import Idealize.ShloMosaic.Lib.ShareLeaves

@[expose] public section

noncomputable section

namespace Cert.KernelIdeal.Deal

open Cert.KernelIdeal Cert.KernelIdeal.Gen Cert.KernelIdeal.Words Cert.KernelIdeal.Copies Cert.KernelIdeal.Tile
open Idealize.ShloMosaic Idealize.ShloMosaic.Tactic
open Idealize.ShloMosaic.SparseCore (S V T)
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U]

local notation "𝕄" => MT nD τ sig Ix (Elt F) ℕ U ℕ

/-! ## Two slots of a buffer -/

theorem mem_irect {b : Fin 2} {x : S2x1x256.Idx} :
    x ∈ (Rect.unit (s := S2x1x256) ![b.val, 0, 0] S1x1x256.size (Parts.ibuf_inb b)).set ↔ (x 0).val = b.val := by
  rw [Rect.mem_set_unit]
  constructor
  · intro h
    have h0 := h 0
    simp at h0
    omega
  · intro h a
    match a with
    | 0 => simp; omega
    | 1 => have := (x 1).isLt; simp at this ⊢; omega
    | 2 => have := (x 2).isLt; simp at this ⊢; omega

theorem mem_rrect {b : Fin 2} {x : S2x256x128.Idx} :
    x ∈ (Rect.unit (s := S2x256x128) ![b.val, 0, 0] S1x256x128.size (Parts.rbuf_inb b)).set ↔ (x 0).val = b.val := by
  rw [Rect.mem_set_unit]
  constructor
  · intro h
    have h0 := h 0
    simp at h0
    omega
  · intro h a
    match a with
    | 0 => simp; omega
    | 1 => have := (x 1).isLt; simp at this ⊢; omega
    | 2 => have := (x 2).isLt; simp at this ⊢; omega

theorem mem_orect {w : Fin 208} {x : S53248x128.Idx} :
    x ∈ (Rect.unit (s := S53248x128) ![256 * w.val, 0] S256x128.size (Parts.out_inb w)).set ↔ (x 0).val / 256 = w.val := by
  rw [Rect.mem_set_unit]
  constructor
  · intro h
    have h0 := h 0
    simp at h0
    omega
  · intro h a
    match a with
    | 0 => simp; omega
    | 1 => have := (x 1).isLt; simp at this ⊢; omega

section Slots

variable (A : Parts)

/-- The elements of slot `b` of the index buffer. -/
def iset (b : Fin 2) : Finset A.ibuf.view.ty.Idx :=
  (Rect.unit (s := S2x1x256) ![b.val, 0, 0] S1x1x256.size (Parts.ibuf_inb b)).set.map A.ibuf.view.emb

theorem set_islot (b : Fin 2) : (A.islot b).view.set = iset A b := by
  exact (View.set_reshape (A.ibuf.view.slice (Rect.unit (s := S2x1x256) ![b.val, 0, 0] S1x1x256.size (Parts.ibuf_inb b))) (s' := S1x256) squeezes_S1x1x256_S1x256.numel_eq).trans
    (View.set_slice _ _)

theorem disj_islot (b b' : Fin 2) (h : b ≠ b') : Disjoint (iset A b) (iset A b') := by
  unfold iset
  rw [Finset.disjoint_map]
  exact Finset.disjoint_left.mpr fun x hx hx' => h (Fin.ext ((mem_irect.mp hx).symm.trans (mem_irect.mp hx')))

theorem cover_islot (h : A.ibuf.view.set = Finset.univ) : (Finset.univ : Finset (Fin 2)).biUnion (iset A) = Finset.univ := by
  refine Finset.eq_univ_of_forall fun y => ?_
  have hy : y ∈ A.ibuf.view.set := h ▸ Finset.mem_univ y
  obtain ⟨x, -, rfl⟩ := Finset.mem_map.mp hy
  refine Finset.mem_biUnion.mpr ⟨⟨(x 0).val, (x 0).isLt⟩, Finset.mem_univ _, ?_⟩
  exact Finset.mem_map_of_mem _ (mem_irect.mpr rfl)

theorem islot_pts (d : Dev nD) (i : grid0.Coords) (b : Fin 2) (f : Buf (Elt F) (A.ibuf.view.loc (tile d i))) :
    ((A.islot b).view.loc (tile d i) ↦[(A.islot b).view.set]{fullShare} f : sProp 𝕄) = A.ibuf.view.loc (tile d i) ↦[iset A b]{fullShare} f :=
  congrArg (fun X : Finset A.ibuf.view.ty.Idx => (A.ibuf.view.loc (tile d i) ↦[X]{fullShare} f : sProp 𝕄)) (set_islot A b)

/-- The buffer at anything is its two slots at anything. -/
theorem ibuf_cut (d : Dev nD) (i : grid0.Coords) (h : A.ibuf.view.set = Finset.univ) :
    (iprop(∃ f, A.ibuf.view.loc (tile d i) ↦{fullShare} f) : sProp 𝕄) ⊢ iprop(islotAny (F := F) A d i 0 ∗ islotAny (F := F) A d i 1) := by
  iintro ⟨%f, H⟩
  ihave H := (Entails.of_eq (show (A.ibuf.view.loc (tile d i) ↦{fullShare} f : sProp 𝕄) = iprop(
      (A.ibuf.view.loc (tile d i) ↦[iset A 0]{fullShare} f) ∗ A.ibuf.view.loc (tile d i) ↦[iset A 1]{fullShare} f) by
    rw [← cover_islot A h]
    exact (pointsTo_biUnion (ℓ := A.ibuf.view.loc (tile d i)) Finset.univ (iset A) fun b _ b' _ e => disj_islot A b b' e).trans
      (bigSep_fin_two _))) $$ H
  icases H with ⟨H0, H1⟩
  unfold islotAny owns
  isplitl [H0]
  · iexists _; iexists f
    isplitr
    swap; · iapply (Entails.of_eq (islot_pts A d i 0 f).symm); iexact H0
    ipureintro; rfl
  · iexists _; iexists f
    isplitr
    swap; · iapply (Entails.of_eq (islot_pts A d i 1 f).symm); iexact H1
    ipureintro; rfl

theorem ibuf_join (d : Dev nD) (i : grid0.Coords) (h : A.ibuf.view.set = Finset.univ) :
    (iprop(islotAny (F := F) A d i 0 ∗ islotAny (F := F) A d i 1) : sProp 𝕄) ⊢ iprop(∃ f, A.ibuf.view.loc (tile d i) ↦{fullShare} f) := by
  unfold islotAny owns
  iintro ⟨⟨%w0, %f0, -, H0⟩, ⟨%w1, %f1, -, H1⟩⟩
  ihave H0 := (Entails.of_eq (islot_pts A d i 0 f0)) $$ H0
  ihave H1 := (Entails.of_eq (islot_pts A d i 1 f1)) $$ H1
  ihave H := (pointsTo_biUnion_join (ℓ := A.ibuf.view.loc (tile d i)) (q := fullShare) (Val := Elt F) Finset.univ (iset A)
    (fun b => if b = 0 then f0 else f1) f0 fun b _ b' _ e => disj_islot A b b' e) $$ [H0 H1]
  · iapply (show (iprop((A.ibuf.view.loc (tile d i) ↦[iset A 0]{fullShare} f0) ∗ A.ibuf.view.loc (tile d i) ↦[iset A 1]{fullShare} f1) : sProp 𝕄)
        ⊢ bigSep Finset.univ fun b : Fin 2 => A.ibuf.view.loc (tile d i) ↦[iset A b]{fullShare} (if b = 0 then f0 else f1) from
      Entails.of_eq (bigSep_fin_two (fun b : Fin 2 => (A.ibuf.view.loc (tile d i) ↦[iset A b]{fullShare} (if b = 0 then f0 else f1) : sProp 𝕄))).symm)
    isplitl [H0]
    · iexact H0
    · iexact H1
  icases H with ⟨%g, -, Hg⟩
  rw [cover_islot A h]
  iexists g; iexact Hg

/-- The elements of slot `b` of the row buffer. -/
def rset (b : Fin 2) : Finset A.rbuf.view.ty.Idx :=
  (Rect.unit (s := S2x256x128) ![b.val, 0, 0] S1x256x128.size (Parts.rbuf_inb b)).set.map A.rbuf.view.emb

theorem set_rslot (b : Fin 2) : (A.rslot b).view.set = rset A b := by
  exact (View.set_reshape (A.rbuf.view.slice (Rect.unit (s := S2x256x128) ![b.val, 0, 0] S1x256x128.size (Parts.rbuf_inb b))) (s' := S256x128) squeezes_S1x256x128_S256x128.numel_eq).trans
    (View.set_slice _ _)

theorem disj_rslot (b b' : Fin 2) (h : b ≠ b') : Disjoint (rset A b) (rset A b') := by
  unfold rset
  rw [Finset.disjoint_map]
  exact Finset.disjoint_left.mpr fun x hx hx' => h (Fin.ext ((mem_rrect.mp hx).symm.trans (mem_rrect.mp hx')))

theorem cover_rslot (h : A.rbuf.view.set = Finset.univ) : (Finset.univ : Finset (Fin 2)).biUnion (rset A) = Finset.univ := by
  refine Finset.eq_univ_of_forall fun y => ?_
  have hy : y ∈ A.rbuf.view.set := h ▸ Finset.mem_univ y
  obtain ⟨x, -, rfl⟩ := Finset.mem_map.mp hy
  refine Finset.mem_biUnion.mpr ⟨⟨(x 0).val, (x 0).isLt⟩, Finset.mem_univ _, ?_⟩
  exact Finset.mem_map_of_mem _ (mem_rrect.mpr rfl)

theorem rslot_pts (d : Dev nD) (i : grid0.Coords) (b : Fin 2) (f : Buf (Elt F) (A.rbuf.view.loc (tile d i))) :
    ((A.rslot b).view.loc (tile d i) ↦[(A.rslot b).view.set]{fullShare} f : sProp 𝕄) = A.rbuf.view.loc (tile d i) ↦[rset A b]{fullShare} f :=
  congrArg (fun X : Finset A.rbuf.view.ty.Idx => (A.rbuf.view.loc (tile d i) ↦[X]{fullShare} f : sProp 𝕄)) (set_rslot A b)

/-- The buffer at anything is its two slots at anything. -/
theorem rbuf_cut (d : Dev nD) (i : grid0.Coords) (h : A.rbuf.view.set = Finset.univ) :
    (iprop(∃ f, A.rbuf.view.loc (tile d i) ↦{fullShare} f) : sProp 𝕄) ⊢ iprop(rslotAny (F := F) A d i 0 ∗ rslotAny (F := F) A d i 1) := by
  iintro ⟨%f, H⟩
  ihave H := (Entails.of_eq (show (A.rbuf.view.loc (tile d i) ↦{fullShare} f : sProp 𝕄) = iprop(
      (A.rbuf.view.loc (tile d i) ↦[rset A 0]{fullShare} f) ∗ A.rbuf.view.loc (tile d i) ↦[rset A 1]{fullShare} f) by
    rw [← cover_rslot A h]
    exact (pointsTo_biUnion (ℓ := A.rbuf.view.loc (tile d i)) Finset.univ (rset A) fun b _ b' _ e => disj_rslot A b b' e).trans
      (bigSep_fin_two _))) $$ H
  icases H with ⟨H0, H1⟩
  unfold rslotAny owns
  isplitl [H0]
  · iexists _; iexists f
    isplitr
    swap; · iapply (Entails.of_eq (rslot_pts A d i 0 f).symm); iexact H0
    ipureintro; rfl
  · iexists _; iexists f
    isplitr
    swap; · iapply (Entails.of_eq (rslot_pts A d i 1 f).symm); iexact H1
    ipureintro; rfl

theorem rbuf_join (d : Dev nD) (i : grid0.Coords) (h : A.rbuf.view.set = Finset.univ) :
    (iprop(rslotAny (F := F) A d i 0 ∗ rslotAny (F := F) A d i 1) : sProp 𝕄) ⊢ iprop(∃ f, A.rbuf.view.loc (tile d i) ↦{fullShare} f) := by
  unfold rslotAny owns
  iintro ⟨⟨%w0, %f0, -, H0⟩, ⟨%w1, %f1, -, H1⟩⟩
  ihave H0 := (Entails.of_eq (rslot_pts A d i 0 f0)) $$ H0
  ihave H1 := (Entails.of_eq (rslot_pts A d i 1 f1)) $$ H1
  ihave H := (pointsTo_biUnion_join (ℓ := A.rbuf.view.loc (tile d i)) (q := fullShare) (Val := Elt F) Finset.univ (rset A)
    (fun b => if b = 0 then f0 else f1) f0 fun b _ b' _ e => disj_rslot A b b' e) $$ [H0 H1]
  · iapply (show (iprop((A.rbuf.view.loc (tile d i) ↦[rset A 0]{fullShare} f0) ∗ A.rbuf.view.loc (tile d i) ↦[rset A 1]{fullShare} f1) : sProp 𝕄)
        ⊢ bigSep Finset.univ fun b : Fin 2 => A.rbuf.view.loc (tile d i) ↦[rset A b]{fullShare} (if b = 0 then f0 else f1) from
      Entails.of_eq (bigSep_fin_two (fun b : Fin 2 => (A.rbuf.view.loc (tile d i) ↦[rset A b]{fullShare} (if b = 0 then f0 else f1) : sProp 𝕄))).symm)
    isplitl [H0]
    · iexact H0
    · iexact H1
  icases H with ⟨%g, -, Hg⟩
  rw [cover_rslot A h]
  iexists g; iexact Hg

/-- The elements of window `w` of the result. -/
def oset (w : Fin 208) : Finset A.out.view.ty.Idx :=
  (Rect.unit (s := S53248x128) ![256 * w.val, 0] S256x128.size (Parts.out_inb w)).set.map A.out.view.emb

theorem set_owin (w : Fin 208) : (A.owin w).view.set = oset A w := View.set_slice _ _

theorem disj_owin (w w' : Fin 208) (h : w ≠ w') : Disjoint (oset A w) (oset A w') := by
  unfold oset
  rw [Finset.disjoint_map]
  exact Finset.disjoint_left.mpr fun x hx hx' => h (Fin.ext ((mem_orect.mp hx).symm.trans (mem_orect.mp hx')))

theorem cover_owin (h : A.out.view.set = Finset.univ) : (Finset.univ : Finset (Fin 208)).biUnion (oset A) = Finset.univ := by
  refine Finset.eq_univ_of_forall fun y => ?_
  have hy : y ∈ A.out.view.set := h ▸ Finset.mem_univ y
  obtain ⟨x, -, rfl⟩ := Finset.mem_map.mp hy
  have hx : (x 0).val < 53248 := (x 0).isLt
  refine Finset.mem_biUnion.mpr ⟨⟨(x 0).val / 256, by omega⟩, Finset.mem_univ _, ?_⟩
  exact Finset.mem_map_of_mem _ (mem_orect.mpr rfl)

theorem owin_pts (d : Dev nD) (i : grid0.Coords) (w : Fin 208) (f : Buf (Elt F) (A.out.view.loc (tile d i))) :
    (A.out.view.loc (tile d i) ↦[(A.owin w).view.set]{fullShare} f : sProp 𝕄) = A.out.view.loc (tile d i) ↦[oset A w]{fullShare} f :=
  congrArg (fun X : Finset A.out.view.ty.Idx => (A.out.view.loc (tile d i) ↦[X]{fullShare} f : sProp 𝕄)) (set_owin A w)

end Slots

/-! ## A tile's own buffers and semaphores -/

/-- Two of a tile's own buffers, and the rest of them. -/
theorem ownBufs_two (d : Dev nD) (c : Fin τ.nSC) (s : Fin τ.nSub) (b b' : Ref sig .scVector) (h : b' ≠ b)
    (ho : ((Proc.scVector c s).devRef b).owner = .proc (.scVector c s)) (ho' : ((Proc.scVector c s).devRef b').owner = .proc (.scVector c s)) :
    (ownBufs (V d c s) : sProp 𝕄)
      = iprop((∃ f, (V d c s).loc b ↦{fullShare} f) ∗ (∃ f, (V d c s).loc b' ↦{fullShare} f)
        ∗ bigSep (((ownRefs (τ := τ) (.scVector c s)).erase ((Proc.scVector c s).devRef b)).erase ((Proc.scVector c s).devRef b'))
            fun r => iprop(∃ f, ((d, r) : Loc nD τ sig) ↦{fullShare} f)) := by
  unfold SparseCore.Cfg.ownBufs
  refine (SparseCore.bigSep_erase' (SparseCore.Cfg.mem_ownRefs_of_owner (p := Proc.scVector c s) (b := (Proc.scVector c s).devRef b) ho)).trans ?_
  rw [SparseCore.bigSep_erase' (Finset.mem_erase.mpr ⟨fun e => absurd (Proc.devRef_injective _ e) h,
    SparseCore.Cfg.mem_ownRefs_of_owner (p := Proc.scVector c s) (b := (Proc.scVector c s).devRef b') ho'⟩)]

/-- Some of a tile's own semaphores, at zero, and the rest of them. -/
theorem ownSems0_some (thr : Thread nD τ) (L : Finset (SemLoc sig)) (hL : ∀ x ∈ L, x.isScoped thr.2.kind = true) :
    (ownSems0 thr : sProp 𝕄)
      = iprop((bigSep L fun x => semVal (thr, x) 0)
        ∗ bigSep (ownCells thr \ L.map ⟨fun x => (thr, x), fun _ _ e => (Prod.mk.inj e).2⟩) fun g => semVal g 0) := by
  unfold SparseCore.Cfg.ownSems0
  rw [SparseCore.bigSep_sdiff_split' (s := ownCells thr) (t := L.map ⟨fun x => (thr, x), fun _ _ e => (Prod.mk.inj e).2⟩) fun g hg => by
    obtain ⟨x, hx, rfl⟩ := Finset.mem_map.mp hg
    exact mem_ownCells.mpr ⟨rfl, hL x hx⟩]
  congr 1
  exact bigSep_map _

/-! ## Shares and windows over the tiles -/

/-- The coordinates of subcore `s` of SparseCore `c`. -/
def at_ (c : Fin 2) (s : Fin 16) : grid0.Coords := fun | 0 => c | 1 => s | ⟨_ + 2, h⟩ => absurd h (Nat.not_lt.2 (Nat.le_add_left _ _))

/-- A tile's share of the table. -/
def tq (c : Fin 2) (s : Fin 16) : PosShare TreeShare := ShareLeaves.leaf 4 (ShareLeaves.leaf 1 fullShare c) s
/-- A tile's share of the indices, per slot. -/
def iq (c : Fin 2) (s : Fin 16) (b : Fin 2) : PosShare TreeShare := ShareLeaves.leaf 1 (tq c s) b

theorem deal_tab (ℓ : Loc nD τ sig) (f : Buf (Elt F) ℓ) :
    (ℓ ↦{fullShare} f : sProp 𝕄) = bigSep (Finset.univ : Finset (Fin 2)) fun c => bigSep (Finset.univ : Finset (Fin 16)) fun s => ℓ ↦{tq c s} f :=
  (ShareLeaves.pointsTo_leaves Finset.univ f 1 fullShare).trans (bigSep_congr fun c _ => ShareLeaves.pointsTo_leaves Finset.univ f 4 _)

theorem deal_idx (ℓ : Loc nD τ sig) (f : Buf (Elt F) ℓ) :
    (ℓ ↦{fullShare} f : sProp 𝕄) = bigSep (Finset.univ : Finset (Fin 2)) fun c => bigSep (Finset.univ : Finset (Fin 16)) fun s =>
      iprop((ℓ ↦{iq c s 0} f) ∗ ℓ ↦{iq c s 1} f) :=
  (deal_tab ℓ f).trans (bigSep_congr fun c _ => bigSep_congr fun s _ =>
    (ShareLeaves.pointsTo_leaves Finset.univ f 1 (tq c s)).trans (bigSep_fin_two _))

/-- The windows of one tile. -/
def wins (p : Fin 2 × Fin 16) : Finset (Fin 208) := (Finset.range (cnt (at_ p.1 p.2))).image (win (at_ p.1 p.2))

theorem win_inj : ∀ p : Fin 2 × Fin 16, ∀ j : Fin 7, ∀ j' : Fin 7, j.val < cnt (at_ p.1 p.2) → j'.val < cnt (at_ p.1 p.2) →
    win (at_ p.1 p.2) j.val = win (at_ p.1 p.2) j'.val → j = j' := by decide +kernel
theorem cnt_le : ∀ p : Fin 2 × Fin 16, cnt (at_ p.1 p.2) ≤ 7 := by decide +kernel
theorem wins_disjoint : ∀ p p' : Fin 2 × Fin 16, p ≠ p' → Disjoint (wins p) (wins p') := by decide +kernel
theorem wins_cover : (Finset.univ : Finset (Fin 2 × Fin 16)).biUnion wins = Finset.univ := by decide +kernel

theorem bigSep_parts {I J : Type} [DecidableEq I] [DecidableEq J] (s : Finset J) (t : J → Finset I) (h : ∀ j ∈ s, ∀ j' ∈ s, j ≠ j' → Disjoint (t j) (t j'))
    (Φ : I → sProp 𝕄) : bigSep (s.biUnion t) Φ = bigSep s fun j => bigSep (t j) Φ := by
  induction s using Finset.induction_on with
  | empty => rfl
  | insert j s hj ih =>
    have hd : Disjoint (t j) (s.biUnion t) := (Finset.disjoint_biUnion_right _ _ _).mpr fun k hk =>
      h j (Finset.mem_insert_self _ _) k (Finset.mem_insert_of_mem hk) (fun e => hj (e ▸ hk))
    rw [Finset.biUnion_insert, bigSep_union hd, bigSep_insert hj,
      ih fun a ha b hb => h a (Finset.mem_insert_of_mem ha) b (Finset.mem_insert_of_mem hb)]

/-- Something of every window, tile by tile. -/
theorem deal_wins (Φ : Fin 208 → sProp 𝕄) :
    bigSep Finset.univ Φ = bigSep (Finset.univ : Finset (Fin 2)) fun c => bigSep (Finset.univ : Finset (Fin 16)) fun s =>
      bigSep (Finset.range (cnt (at_ c s))) fun j => Φ (win (at_ c s) j) := by
  rw [← wins_cover, bigSep_parts _ _ (fun p _ p' _ h => wins_disjoint p p' h), bigSep_univ_prod]
  refine bigSep_congr fun c _ => bigSep_congr fun s _ => ?_
  have hinj : Set.InjOn (win (at_ c s)) (Finset.range (cnt (at_ c s)) : Set ℕ) := fun j hj j' hj' e => by
    have hj := Finset.mem_range.mp hj
    have hj' := Finset.mem_range.mp hj'
    have h7 := cnt_le (c, s)
    exact congrArg Fin.val (win_inj (c, s) ⟨j, lt_of_lt_of_le hj h7⟩ ⟨j', lt_of_lt_of_le hj' h7⟩ hj hj' e)
  show Finset.fold _ _ _ _ = Finset.fold _ _ _ _
  unfold wins
  exact Finset.fold_image hinj

theorem deal_out (ℓ : Loc nD τ sig) (K : Fin 208 → Finset (Idx ℓ)) (hd : ∀ w w', w ≠ w' → Disjoint (K w) (K w'))
    (hc : (Finset.univ : Finset (Fin 208)).biUnion K = Finset.univ) (f : Buf (Elt F) ℓ) :
    (ℓ ↦{fullShare} f : sProp 𝕄) = bigSep (Finset.univ : Finset (Fin 2)) fun c => bigSep (Finset.univ : Finset (Fin 16)) fun s =>
      bigSep (Finset.range (cnt (at_ c s))) fun j => ℓ ↦[K (win (at_ c s) j)]{fullShare} f := by
  rw [← deal_wins (F := F) fun w => ℓ ↦[K w]{fullShare} f, ← hc, pointsTo_biUnion Finset.univ K fun w _ w' _ h => hd w w' h]

end Cert.KernelIdeal.Deal

end
-- ==== Proof.Rows.lean ====
/-
  What the row gather leaves: row `r` of the result is the row of the table that index `r` names.
-/
module

public import proofs.«01_k».proof.Proof.Copies

@[expose] public section

noncomputable section

namespace Cert.KernelIdeal.Rows

open Cert.KernelIdeal Cert.KernelIdeal.Gen Cert.KernelIdeal.Words Cert.KernelIdeal.Copies
open Idealize.ShloMosaic
open Idealize.SL.Sem

variable {F : FTy → Type} [FloatOps F]

/-- The place of row `r`, column `c` in the table. -/
def tabAt (r : Fin 2600000) (c : Fin 128) : S2600000x128.Idx := fun | 0 => r | 1 => c | ⟨_ + 2, h⟩ => absurd h (Nat.not_lt.2 (Nat.le_add_left _ _))
/-- The place of index `r` in the row of indices. -/
def idxAt (r : Fin 53248) : S1x53248.Idx := fun | 0 => (0 : Fin 1) | 1 => r | ⟨_ + 2, h⟩ => absurd h (Nat.not_lt.2 (Nat.le_add_left _ _))

/-- The row a word names: itself if the table has it. -/
def rowOf (w : BitVec 32) : Fin 2600000 := if h : w.toNat < 2600000 then ⟨w.toNat, h⟩ else 0

theorem rowOf_val {w : BitVec 32} (h : w.toNat < 2600000) : (rowOf w).val = w.toNat := by
  unfold rowOf; rw [dif_pos h]

/-- The gathered rows, of a table and the indices. -/
def gath (t : S2600000x128.Idx → Elt F .f32) (x : S1x53248.Idx → Elt F .i32) : S53248x128.Idx → Elt F .f32 :=
  fun y => t (tabAt (rowOf (x (idxAt (y 0)))) (y 1))

theorem unlist_one : ∀ k : Fin 256, (unlist (S256.rowMajor.symm k) 1).val = k.val := by decide +kernel

theorem tabAt_eq (z : S2600000x128.Idx) (r : Fin 2600000) (c : Fin 128) (h0 : (z 0).val = r.val) (h1 : (z 1).val = c.val) : z = tabAt r c := by
  funext a
  match a with
  | 0 => exact Fin.ext h0
  | 1 => exact Fin.ext h1

theorem idxAt_eq (z : S1x53248.Idx) (r : Fin 53248) (h : (z 1).val = r.val) : z = idxAt r := by
  funext a
  match a with
  | 0 => exact Subsingleton.elim (α := Fin 1) _ _
  | 1 => exact Fin.ext h

section

variable (A : Parts) (d : Dev nD) (i : grid0.Coords)
variable (Tb : Buf (Elt F) (A.tab.view.loc (tile d i))) (I : Buf (Elt F) (A.idx.view.loc (tile d i)))

/-- An index of window `w`, as an element of the row of indices. -/
theorem ival_at (w : Fin 208) (k : Fin 256) (r : Fin 53248) (hr : r.val = 256 * w.val + k.val) :
    ival A d i I w (unlist (S256.rowMajor.symm k)) = A.idx.view.read (Elt F) I (idxAt r) := by
  show A.idx.view.read (Elt F) I ((Rect.unit (s := S1x53248) ![0, 256 * w.val] S1x256.size (Parts.idx_inb w)).emb (unlist (S256.rowMajor.symm k))) = _
  congr 1
  refine idxAt_eq _ _ ?_
  show 256 * w.val + 1 * (unlist (S256.rowMajor.symm k) 1).val = r.val
  rw [unlist_one, hr]; omega

/-- Every index in range, read off the row of indices. -/
theorem inRange_of (h : ∀ z, (A.idx.view.read (Elt F) I z).toNat < 2600000) : InRange A d i I := fun w x => h _

variable (hI : InRange A d i I)

theorem rval_apply (w : Fin 208) (x : S256x128.Idx) :
    rval A d i Tb I hI w x = gath (A.tab.view.read (Elt F) Tb) (A.idx.view.read (Elt F) I)
      ((Rect.unit (s := S53248x128) ![256 * w.val, 0] S256x128.size (Parts.out_inb w)).emb x) := by
  show A.tab.view.read (Elt F) Tb ((Rect.unit (s := S2600000x128) ![0, 0] S2600000x128.size inb_S2600000x128_S2600000x128_0_0).emb
    (gathers_S2600000x128_S256x128.idx _ x)) = A.tab.view.read (Elt F) Tb _
  congr 1
  refine tabAt_eq _ _ _ ?_ ?_
  · show 0 + 1 * (gathers_S2600000x128_S256x128.idx _ x (gathers_S2600000x128_S256x128.axis)).val = _
    rw [Shape.Gathers.idx_axis]
    have hx : (x 0).val < 256 := (x 0).isLt
    have e := ival_at A d i I w (x 0) (((Rect.unit (s := S53248x128) ![256 * w.val, 0] S256x128.size (Parts.out_inb w)).emb x) 0)
      (show 256 * w.val + 1 * (x 0).val = _ by omega)
    have hlt := hI w (unlist (S256.rowMajor.symm (x 0)))
    rw [rowOf_val (e ▸ hlt), ← e]
    show 0 + 1 * (ival A d i I w (unlist (S256.rowMajor.symm _))).toNat = _
    rw [Nat.zero_add, Nat.one_mul]; rfl
  · show 0 + 1 * (gathers_S2600000x128_S256x128.idx _ x 1).val = 0 + 1 * (x 1).val
    rw [Shape.Gathers.idx_of_ne _ _ _ _ (by decide)]; rfl

/-- The windows of a buffer holding the gathered rows. -/
theorem owin_gath (G : Buf (Elt F) (A.out.view.loc (tile d i)))
    (hG : A.out.view.read (Elt F) G = gath (A.tab.view.read (Elt F) Tb) (A.idx.view.read (Elt F) I)) (w : Fin 208) :
    (A.owin w).view.read (Elt F) G = rval A d i Tb I hI w := by
  funext x
  rw [rval_apply, ← hG]; rfl

end

end Cert.KernelIdeal.Rows

end
-- ==== Proof.Launch.lean ====
/-
  The launch of the two row gathers: what the TensorCore hands each vector subcore and gets back, that the program's
  task of each subcore runs from it, and that the arrays handed over whole come back whole, the result holding the
  gathered rows.
-/
module

public import proofs.«01_k».proof.Proof.Deal
public import proofs.«01_k».proof.Proof.Rows
public import Idealize.ShloMosaic.Lib.Pipeline.Kit

@[expose] public section

noncomputable section

namespace Cert.KernelIdeal.Launch

open Cert.KernelIdeal Cert.KernelIdeal.Gen Cert.KernelIdeal.Words Cert.KernelIdeal.Copies Cert.KernelIdeal.Tile Cert.KernelIdeal.Deal
  Cert.KernelIdeal.Rows
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch runs it -/

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds, the pipelines' rounds, the copies' counters -/

abbrev UH : Type := URounds (GSem nD τ sig) ℕ
abbrev UP : Type := URounds (GSem nD τ sig) Unit
abbrev UU : Type := UH × UP × Counters

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans uEmb.toEmb
instance : (EP (F := F)).LandsIn (upEmb : UEmb _ (MT nD τ sig (HIx 2) (Elt F) ℕ UU ℕ)) := by unfold EP; infer_instance
abbrev EC : UEmb Counters (MT nD τ sig (HIx 2) (Elt F) ℕ UU ℕ) := countersEmb

/-! ## The two calls -/

/-- What the first gather's tiles work with. -/
abbrev call0 : Parts :=
  ⟨Memref.whole main_arg8_scv, Memref.whole main_v24_scv, Memref.whole main_v25_scv, Memref.whole cc0_scoped0, cc0_scoped1, Memref.whole cc0_scoped2, cc0_scoped3, cc0_scoped4⟩
/-- What the second gather's tiles work with. -/
abbrev call1 : Parts :=
  ⟨Memref.whole main_arg8_scv, Memref.whole main_v27_scv, Memref.whole main_v28_scv, Memref.whole cc1_scoped0, cc1_scoped1, Memref.whole cc1_scoped2, cc1_scoped3, cc1_scoped4⟩

theorem credit0 : ∀ b : Fin 2, ∑ j, ((call0.rslot b).slice (S256x128.rowRect gathers_S2600000x128_S256x128.axis' j) (S256x128.stride_rowRect gathers_S2600000x128_S256x128.axis' j)).view.dmaCredit
    = (call0.rslot b).view.dmaCredit := by decide +kernel
theorem credit1 : ∀ b : Fin 2, ∑ j, ((call1.rslot b).slice (S256x128.rowRect gathers_S2600000x128_S256x128.axis' j) (S256x128.stride_rowRect gathers_S2600000x128_S256x128.axis' j)).view.dmaCredit
    = (call1.rslot b).view.dmaCredit := by decide +kernel

/-! ## What a tile is handed and hands back -/

section Hand

variable (A : Parts) (d : Dev nD) (c : Fin 2) (s : Fin 16)
variable (Tb : Buf (Elt F) (A.tab.view.loc (tile d (at_ c s)))) (I : Buf (Elt F) (A.idx.view.loc (tile d (at_ c s))))
variable (G : Buf (Elt F) (A.out.view.loc (tile d (at_ c s))))

/-- A tile is handed its shares of the table and of the indices and its windows of the result; -/
def handed : sProp 𝕄 :=
  iprop((A.tab.view.loc (tile d (at_ c s)) ↦{tq c s} Tb)
    ∗ ((A.idx.view.loc (tile d (at_ c s)) ↦{iq c s 0} I) ∗ A.idx.view.loc (tile d (at_ c s)) ↦{iq c s 1} I)
    ∗ bigSep (Finset.range (cnt (at_ c s))) fun j => iprop(∃ f, A.out.view.loc (tile d (at_ c s)) ↦[oset A (win (at_ c s) j)]{fullShare} f))
/-- it hands back the same, its windows at the gathered rows. -/
def back : sProp 𝕄 :=
  iprop((A.tab.view.loc (tile d (at_ c s)) ↦{tq c s} Tb)
    ∗ ((A.idx.view.loc (tile d (at_ c s)) ↦{iq c s 0} I) ∗ A.idx.view.loc (tile d (at_ c s)) ↦{iq c s 1} I)
    ∗ bigSep (Finset.range (cnt (at_ c s))) fun j => A.out.view.loc (tile d (at_ c s)) ↦[oset A (win (at_ c s) j)]{fullShare} G)

instance : BI.Storable (upEmb : UEmb _ 𝕄) (handed (F := F) A d c s Tb I) := by unfold handed; infer_instance
instance : BI.Storable (upEmb : UEmb _ 𝕄) (back (F := F) A d c s Tb I G) := by unfold back; infer_instance

theorem handed_eq : handed (F := F) A d c s Tb I = iprop((A.tab.view.loc (tile d (at_ c s)) ↦{tq c s} Tb)
    ∗ ((A.idx.view.loc (tile d (at_ c s)) ↦{iq c s 0} I) ∗ A.idx.view.loc (tile d (at_ c s)) ↦{iq c s 1} I)
    ∗ bigSep (Finset.range (cnt (at_ c s))) fun j => owinAny A d (at_ c s) (win (at_ c s) j)) := by
  unfold handed owinAny
  simp only [owin_pts]

theorem back_eq : back (F := F) A d c s Tb I G = iprop((A.tab.view.loc (tile d (at_ c s)) ↦{tq c s} Tb)
    ∗ ((A.idx.view.loc (tile d (at_ c s)) ↦{iq c s 0} I) ∗ A.idx.view.loc (tile d (at_ c s)) ↦{iq c s 1} I)
    ∗ bigSep (Finset.range (cnt (at_ c s))) fun j => owinDone A d (at_ c s) G (win (at_ c s) j)) := by
  unfold back owinDone
  simp only [owin_pts]

/-- The buffers and semaphores of its own that the tile works with, and the rest. -/
structure Own where
  bufs : sProp 𝕄
  sems : sProp 𝕄
  hbufs : (ownBufs (tile d (at_ c s)) : sProp 𝕄) = iprop((∃ f, A.ibuf.view.loc (tile d (at_ c s)) ↦{fullShare} f)
    ∗ (∃ f, A.rbuf.view.loc (tile d (at_ c s)) ↦{fullShare} f) ∗ bufs)
  hsems : (ownSems0 (tile d (at_ c s)) : sProp 𝕄) = iprop((semVal (tile d (at_ c s), .dma (A.ism 0)) 0 ∗ semVal (tile d (at_ c s), .dma (A.ism 1)) 0
    ∗ semVal (tile d (at_ c s), .dma (A.osm 0)) 0 ∗ semVal (tile d (at_ c s), .dma (A.osm 1)) 0 ∗ semVal (tile d (at_ c s), .dma A.gsem.sem) 0) ∗ sems)

/-- What the run leaves is what the tile hands back, with its own buffers and semaphores whole again. -/
theorem task_end (hi : A.ibuf.view.set = Finset.univ) (hr : A.rbuf.view.set = Finset.univ) (O : CellTallies nD τ sig (HIx 2)) (W : Waits sig (HIx 2)) :
    (iprop(owing none d (at_ c s) O W ∗ tabPts A d (at_ c s) Tb (tq c s) ∗ semVal (tile d (at_ c s), .dma A.gsem.sem) 0
        ∗ (inFree A d (at_ c s) I (iq c s) 0 ∗ inFree A d (at_ c s) I (iq c s) 1) ∗ (outFree (F := F) A d (at_ c s) 0 ∗ outFree (F := F) A d (at_ c s) 1)
        ∗ done A d (at_ c s) G (cnt (at_ c s))) : sProp 𝕄)
      ⊢ iprop(back (F := F) A d c s Tb I G
        ∗ ((∃ f, A.ibuf.view.loc (tile d (at_ c s)) ↦{fullShare} f) ∗ (∃ f, A.rbuf.view.loc (tile d (at_ c s)) ↦{fullShare} f))
        ∗ (semVal (tile d (at_ c s), .dma (A.ism 0)) 0 ∗ semVal (tile d (at_ c s), .dma (A.ism 1)) 0
          ∗ semVal (tile d (at_ c s), .dma (A.osm 0)) 0 ∗ semVal (tile d (at_ c s), .dma (A.osm 1)) 0 ∗ semVal (tile d (at_ c s), .dma A.gsem.sem) 0)
        ∗ ∃ W', ⌜∀ p ∈ W', p ∈ W ∨ p.2 = none⌝ ∗ owes (tile d (at_ c s)) O W') := by
  rw [back_eq]
  unfold inFree outFree tabPts idxPts done owing
  iintro ⟨HO, Ht, Hg, ⟨⟨Hi0, Hib0, Hx0⟩, ⟨Hi1, Hib1, Hx1⟩⟩, ⟨⟨Ho0, Hrb0⟩, ⟨Ho1, Hrb1⟩⟩, Ho⟩
  isplitl [Ht Hx0 Hx1 Ho]
  · isplitl [Ht]; · iexact Ht
    isplitl [Hx0 Hx1]
    · isplitl [Hx0]; · iexact Hx0
      iexact Hx1
    iexact Ho
  isplitl [Hib0 Hib1 Hrb0 Hrb1]
  · isplitl [Hib0 Hib1]
    · iapply (ibuf_join (F := F) A d (at_ c s) hi)
      isplitl [Hib0]; · iexact Hib0
      iexact Hib1
    · iapply (rbuf_join (F := F) A d (at_ c s) hr)
      isplitl [Hrb0]; · iexact Hrb0
      iexact Hrb1
  isplitl [Hi0 Hi1 Ho0 Ho1 Hg]
  · isplitl [Hi0]; · iexact Hi0
    isplitl [Hi1]; · iexact Hi1
    isplitl [Ho0]; · iexact Ho0
    isplitl [Ho1]; · iexact Ho1
    iexact Hg
  iexact HO

variable (h2 : A.tab.IsWhole) (h3 : A.idx.IsWhole) (h4 : A.out.IsWhole) (h5 : A.ibuf.IsWhole) (h6 : A.rbuf.IsWhole) (gsem' : DmaSems sig S_)

set_option maxHeartbeats 1000000 in
/-- The task of subcore `s` of SparseCore `c`. -/
theorem task (hF : (K (F := F)).Facts) (own : Own (F := F) A d c s) (hI : InRange A d (at_ c s) I)
    (hi : A.ibuf.view.set = Finset.univ) (hr : A.rbuf.view.set = Finset.univ)
    (hN : ∀ b, ∑ j, ((A.rslot b).slice (S256x128.rowRect gathers_S2600000x128_S256x128.axis' j) (S256x128.stride_rowRect gathers_S2600000x128_S256x128.axis' j)).view.dmaCredit
      = (A.rslot b).view.dmaCredit)
    (hG : ∀ w, (A.owin w).view.read (Elt F) G = rval A d (at_ c s) Tb I hI w)
    (O : CellTallies nD τ sig (HIx 2)) (W : Waits sig (HIx 2)) (hO : ∀ g, O g none = 0) :
    (iprop(levAts (K (F := F)).L (K (F := F)).lev ∗ emp ∗ handed (F := F) A d c s Tb I
        ∗ scopedBufs (tile d (at_ c s)) ∗ scopedSems0 (tile d (at_ c s)) ∗ owes (tile d (at_ c s)) O W) : sProp 𝕄)
      ⊢ wp frame (wpE (defs₀ (F := F)) 𝒱₀ (tile d (at_ c s)) none) Set.univ
          (cc0_gather_kernel (F := F) (at_ c s) A.tab h2 A.idx h3 A.out h4 A.ibuf h5 A.isem A.rbuf h6 A.osem A.gsem gsem')
          fun _ => iprop(back (F := F) A d c s Tb I G ∗ scopedBufs (tile d (at_ c s)) ∗ scopedSems0 (tile d (at_ c s))
            ∗ ∃ W', ⌜∀ p ∈ W', p ∈ W ∨ p.2 = none⌝ ∗ owes (tile d (at_ c s)) O W') := by
  rw [(K (F := F)).scopedBufs_V hF d, SparseCore.Cfg.scopedSems0_V (Val := Elt F) d, own.hbufs, own.hsems]
  iintro ⟨#Hlv, -, Hgo, ⟨Hib, Hrb, Hbufs⟩, ⟨⟨Hi0, Hi1, Ho0, Ho1, Hg⟩, Hsems⟩, HO⟩
  ihave Hmw := (show levAts (K (F := F)).L (K (F := F)).lev ⊢ Transfers.MayWaits (tile d (at_ c s)) (none : HIx 2) O from
    (K (F := F)).mayWaits_none (thr := tile d (at_ c s)) hO) $$ Hlv
  ihave Hgo := (Entails.of_eq (handed_eq (F := F) A d c s Tb I)) $$ Hgo
  icases Hgo with ⟨Ht, ⟨Hx0, Hx1⟩, Ho⟩
  ihave Hib := (ibuf_cut (F := F) A d (at_ c s) hi) $$ Hib
  icases Hib with ⟨Hib0, Hib1⟩
  ihave Hrb := (rbuf_cut (F := F) A d (at_ c s) hr) $$ Hrb
  icases Hrb with ⟨Hrb0, Hrb1⟩
  ihave Hwp := (run (U := UU) (EC (F := F)) none A d (at_ c s) Tb I G (tq c s) (iq c s) O W hI hN hG h2 h3 h4 h5 h6 gsem') $$ [HO Hmw Ht Hg Hi0 Hib0 Hx0 Hi1 Hib1 Hx1 Ho0 Hrb0 Ho1 Hrb1 Ho]
  · unfold inFree outFree tabPts idxPts owing todo
    isplitl [HO]
    · iexists W
      isplitr
      swap; · iexact HO
      ipureintro; exact fun p hp => Or.inl hp
    isplitl [Hmw]; · iexact Hmw
    isplitl [Ht]; · iexact Ht
    isplitl [Hg]; · iexact Hg
    isplitl [Hi0 Hib0 Hx0]
    · isplitl [Hi0]; · iexact Hi0
      isplitl [Hib0]; · iexact Hib0
      iexact Hx0
    isplitl [Hi1 Hib1 Hx1]
    · isplitl [Hi1]; · iexact Hi1
      isplitl [Hib1]; · iexact Hib1
      iexact Hx1
    isplitl [Ho0 Hrb0]
    · isplitl [Ho0]; · iexact Ho0
      iexact Hrb0
    isplitl [Ho1 Hrb1]
    · isplitl [Ho1]; · iexact Ho1
      iexact Hrb1
    rw [← Finset.range_eq_Ico]
    iexact Ho
  iapply (wp_wand_r frame (wpE (defs₀ (F := F)) 𝒱₀ (tile d (at_ c s)) none) Set.univ)
  isplitl [Hwp]; · iexact Hwp
  iintro %_ H
  ihave H := (task_end A d c s Tb I G hi hr O W) $$ H
  icases H with ⟨Hback, ⟨Hib, Hrb⟩, Hs, HO⟩
  isplitl [Hback]; · iexact Hback
  isplitl [Hib Hrb Hbufs]
  · isplitl [Hib]; · iexact Hib
    isplitl [Hrb]; · iexact Hrb
    iexact Hbufs
  isplitl [Hs Hsems]
  · isplitl [Hs]; · iexact Hs
    iexact Hsems
  iexact HO

end Hand

end Cert.KernelIdeal.Launch

end
-- ==== Proof.Calls.lean ====
module

public import proofs.«01_k».proof.Proof.Launch

/-!
# The two gathers of the launch

What each of the two SparseCore calls is handed and hands back, tile by tile: a share of the table, shares of the call's
indices, and the windows of the result that the tile writes — handed over at any values, handed back at the gathered rows.
-/

@[expose] public noncomputable section

namespace Cert.KernelIdeal.Calls

open Cert.KernelIdeal Cert.KernelIdeal.Gen Cert.KernelIdeal.Words Cert.KernelIdeal.Copies Cert.KernelIdeal.Tile Cert.KernelIdeal.Deal
  Cert.KernelIdeal.Rows Cert.KernelIdeal.Launch
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The tiles' own buffers and semaphores -/

/-- Five semaphores of a tile, at zero. -/
theorem sems5 (thr : Thread nD τ) (x0 x1 x2 x3 x4 : SemLoc sig) (h : [x0, x1, x2, x3, x4].Nodup) (hs : ∀ x ∈ [x0, x1, x2, x3, x4], x.isScoped thr.2.kind = true) :
    (ownSems0 thr : sProp 𝕄) = iprop((semVal (thr, x0) 0 ∗ semVal (thr, x1) 0 ∗ semVal (thr, x2) 0 ∗ semVal (thr, x3) 0 ∗ semVal (thr, x4) 0)
      ∗ bigSep (ownCells thr \ (⟨[x0, x1, x2, x3, x4], h⟩ : Finset (SemLoc sig)).map ⟨fun x => (thr, x), fun _ _ e => (Prod.mk.inj e).2⟩) fun g => semVal g 0) := by
  rw [ownSems0_some thr ⟨[x0, x1, x2, x3, x4], h⟩ fun x hx => hs x hx]
  congr 1
  simp only [List.nodup_cons, List.mem_cons, List.not_mem_nil, or_false, not_or] at h
  obtain ⟨⟨h01, h02, h03, h04⟩, ⟨h12, h13, h14⟩, ⟨h23, h24⟩, h34, -⟩ := h
  have e : (⟨[x0, x1, x2, x3, x4], by simp_all⟩ : Finset (SemLoc sig)) = insert x0 (insert x1 (insert x2 (insert x3 {x4}))) := by
    ext x
    simp [Finset.mem_mk]
  rw [e, SparseCore.bigSep_insert' (by simp_all), SparseCore.bigSep_insert' (by simp_all), SparseCore.bigSep_insert' (by simp_all),
    SparseCore.bigSep_insert' (by simp_all), bigSep_singleton]

section Own

variable (d : Dev nD) (c : Fin 2) (s : Fin 16)

theorem scoped0 : ∀ x ∈ [(.dma (call0.ism 0) : SemLoc sig), .dma (call0.ism 1), .dma (call0.osm 0), .dma (call0.osm 1), .dma call0.gsem.sem],
    x.isScoped .scVector = true := by decide +kernel

def own0 : Own (F := F) call0 d c s :=
  ⟨_, _, ownBufs_two d (c.castLE hcore0) (s.castLE hsub0) cc0_scoped0 cc0_scoped2 (by decide) rfl rfl,
    sems5 (tile d (at_ c s)) (.dma (call0.ism 0)) (.dma (call0.ism 1)) (.dma (call0.osm 0)) (.dma (call0.osm 1)) (.dma call0.gsem.sem) (by decide +kernel) scoped0⟩

theorem scoped1 : ∀ x ∈ [(.dma (call1.ism 0) : SemLoc sig), .dma (call1.ism 1), .dma (call1.osm 0), .dma (call1.osm 1), .dma call1.gsem.sem],
    x.isScoped .scVector = true := by decide +kernel

def own1 : Own (F := F) call1 d c s :=
  ⟨_, _, ownBufs_two d (c.castLE hcore0) (s.castLE hsub0) cc1_scoped0 cc1_scoped2 (by decide) rfl rfl,
    sems5 (tile d (at_ c s)) (.dma (call1.ism 0)) (.dma (call1.ism 1)) (.dma (call1.osm 0)) (.dma (call1.osm 1)) (.dma call1.gsem.sem) (by decide +kernel) scoped1⟩

end Own

/-! ## What the handshakes carry -/

/-- The table and the two calls' indices, per device. -/
structure Given (F : FTy → Type) where
  tab : Dev nD → S2600000x128.Idx → Elt F .f32
  idx0 : Dev nD → S1x53248.Idx → Elt F .i32
  idx1 : Dev nD → S1x53248.Idx → Elt F .i32

/-- Every index names a row of the table. -/
structure Given.Ok (X : Given F) : Prop where
  idx0 : ∀ d z, (X.idx0 d z : BitVec 32).toNat < 2600000
  idx1 : ∀ d z, (X.idx1 d z : BitVec 32).toNat < 2600000

variable (X : Given F)

def go0 (d : Dev nD) (c : Fin 2) (s : Fin 16) : sProp 𝕄 := handed (F := F) call0 d c s (X.tab d) (X.idx0 d)
def td0 (d : Dev nD) (c : Fin 2) (s : Fin 16) : sProp 𝕄 := back (F := F) call0 d c s (X.tab d) (X.idx0 d) (gath (X.tab d) (X.idx0 d))
def go1 (d : Dev nD) (c : Fin 2) (s : Fin 16) : sProp 𝕄 := handed (F := F) call1 d c s (X.tab d) (X.idx1 d)
def td1 (d : Dev nD) (c : Fin 2) (s : Fin 16) : sProp 𝕄 := back (F := F) call1 d c s (X.tab d) (X.idx1 d) (gath (X.tab d) (X.idx1 d))

instance (d c s) : BI.Storable (upEmb : UEmb _ 𝕄) (go0 X d c s) := by unfold go0; infer_instance
instance (d c s) : BI.Storable (upEmb : UEmb _ 𝕄) (td0 X d c s) := by unfold td0; infer_instance
instance (d c s) : BI.Storable (upEmb : UEmb _ 𝕄) (go1 X d c s) := by unfold go1; infer_instance
instance (d c s) : BI.Storable (upEmb : UEmb _ 𝕄) (td1 X d c s) := by unfold td1; infer_instance

/-- A call takes and gives back what its tiles do. -/
def P : (K (F := F)).Pay (nD := nD) (Val := Elt F) (Name := ℕ) (U := UU) where
  st := fun q d c => match q with
    | 0 => bigSep (Finset.univ : Finset (Fin 16)) fun s => go0 X d c s
    | 1 => bigSep (Finset.univ : Finset (Fin 16)) fun s => go1 X d c s
  dn := fun q d c => match q with
    | 0 => bigSep (Finset.univ : Finset (Fin 16)) fun s => td0 X d c s
    | 1 => bigSep (Finset.univ : Finset (Fin 16)) fun s => td1 X d c s
  go := fun q d c i => match q with
    | 0 => go0 X d c i
    | 1 => go1 X d c i
  td := fun q d c i => match q with
    | 0 => td0 X d c i
    | 1 => td1 X d c i
  x := fun _ _ => iprop(emp)

instance P_storable : (P X).IsStorable where
  st q d c := match q with
    | 0 => (inferInstance : BI.Storable (upEmb : UEmb _ 𝕄) (bigSep (Finset.univ : Finset (Fin 16)) fun s => go0 X d c s))
    | 1 => (inferInstance : BI.Storable (upEmb : UEmb _ 𝕄) (bigSep (Finset.univ : Finset (Fin 16)) fun s => go1 X d c s))
  dn q d c := match q with
    | 0 => (inferInstance : BI.Storable (upEmb : UEmb _ 𝕄) (bigSep (Finset.univ : Finset (Fin 16)) fun s => td0 X d c s))
    | 1 => (inferInstance : BI.Storable (upEmb : UEmb _ 𝕄) (bigSep (Finset.univ : Finset (Fin 16)) fun s => td1 X d c s))
  go q d c i := match q with
    | 0 => (inferInstance : BI.Storable (upEmb : UEmb _ 𝕄) (go0 X d c i))
    | 1 => (inferInstance : BI.Storable (upEmb : UEmb _ 𝕄) (go1 X d c i))
  td q d c i := match q with
    | 0 => (inferInstance : BI.Storable (upEmb : UEmb _ 𝕄) (td0 X d c i))
    | 1 => (inferInstance : BI.Storable (upEmb : UEmb _ 𝕄) (td1 X d c i))

theorem split0 : (K (F := F)).VecSplit' (P X) 0 := by
  intro d c
  show bigSep (Finset.univ : Finset (Fin 16)) (fun s => go0 X d c s) ⊢ |={Set.univ}=> iprop((bigSep (Finset.univ : Finset (Fin 16)) fun s => go0 X d c s)
    ∗ ((bigSep (Finset.univ : Finset (Fin 16)) fun s => td0 X d c s) -∗ bigSep (Finset.univ : Finset (Fin 16)) fun s => td0 X d c s))
  iintro H; imodintro
  isplitl [H]; · iexact H
  iintro H; iexact H

theorem split1 : (K (F := F)).VecSplit' (P X) 1 := by
  intro d c
  show bigSep (Finset.univ : Finset (Fin 16)) (fun s => go1 X d c s) ⊢ |={Set.univ}=> iprop((bigSep (Finset.univ : Finset (Fin 16)) fun s => go1 X d c s)
    ∗ ((bigSep (Finset.univ : Finset (Fin 16)) fun s => td1 X d c s) -∗ bigSep (Finset.univ : Finset (Fin 16)) fun s => td1 X d c s))
  iintro H; imodintro
  isplitl [H]; · iexact H
  iintro H; iexact H

/-! ## The tiles' obligations -/

theorem defs₀_tile0 (c : Fin τ.nSC) (s : Fin τ.nSub) : defs₀ (F := F) (.scVector c s) 0 ()
    = SparseCore.onTile hcore0 hsub0 (fun c s => cc0_gather_kernel (at_ c s)
        (Memref.whole main_arg8_scv) (Memref.isWhole_whole _) (Memref.whole main_v24_scv) (Memref.isWhole_whole _) (Memref.whole main_v25_scv) (Memref.isWhole_whole _)
        (Memref.whole cc0_scoped0) (Memref.isWhole_whole _) cc0_scoped1 (Memref.whole cc0_scoped2) (Memref.isWhole_whole _) cc0_scoped3 cc0_scoped4 cc0_scoped5) ⟨⟩ c s := rfl

theorem defs₀_tile1 (c : Fin τ.nSC) (s : Fin τ.nSub) : defs₀ (F := F) (.scVector c s) 1 ()
    = SparseCore.onTile hcore1 hsub1 (fun c s => cc0_gather_kernel (at_ c s)
        (Memref.whole main_arg8_scv) (Memref.isWhole_whole _) (Memref.whole main_v27_scv) (Memref.isWhole_whole _) (Memref.whole main_v28_scv) (Memref.isWhole_whole _)
        (Memref.whole cc1_scoped0) (Memref.isWhole_whole _) cc1_scoped1 (Memref.whole cc1_scoped2) (Memref.isWhole_whole _) cc1_scoped3 cc1_scoped4 cc1_scoped5) ⟨⟩ c s := rfl

/-- A task waits on its own copies' semaphores and on its call's. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (exists_mono fun _ => sep_mono_left (BI.pure_mono fun h p hp => (h p hp).imp_right Or.inl))))

variable {X}

attribute [local irreducible] cc0_gather_kernel

theorem close0 (d : Dev nD) (c : Fin ((K (F := F)).nCore 0)) (i : Fin ((K (F := F)).nSub 0)) (O : CellTallies nD τ sig (HIx 2)) (W : Waits sig (HIx 2))
    (k : Prog (TpuEff nD τ sig (Elt F) Λ₀ (V d ((K (F := F)).core 0 c) ((K (F := F)).sub 0 i)).2) PUnit)
    (h : (iprop(levAts (K (F := F)).L (K (F := F)).lev ∗ emp ∗ handed (F := F) call0 d c i (X.tab d) (X.idx0 d)
        ∗ scopedBufs (tile d (at_ c i)) ∗ scopedSems0 (tile d (at_ c i)) ∗ owes (tile d (at_ c i)) O W) : sProp 𝕄)
      ⊢ wp frame (wpE (defs₀ (F := F)) 𝒱₀ (tile d (at_ c i)) none) Set.univ k
          fun _ => iprop(back (F := F) call0 d c i (X.tab d) (X.idx0 d) (gath (X.tab d) (X.idx0 d)) ∗ scopedBufs (tile d (at_ c i)) ∗ scopedSems0 (tile d (at_ c i))
            ∗ ∃ W', ⌜∀ p ∈ W', p ∈ W ∨ p.2 = none⌝ ∗ owes (tile d (at_ c i)) O W')) :
    (iprop(levAts (K (F := F)).L (K (F := F)).lev ∗ (P X).x 0 (V d ((K (F := F)).core 0 c) ((K (F := F)).sub 0 i)) ∗ (P X).go 0 d c i
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W) : sProp 𝕄)
      ⊢ wp frame (wpE (defs₀ (F := F)) 𝒱₀ (V d ((K (F := F)).core 0 c) ((K (F := F)).sub 0 i)) none) Set.univ k
          fun _ => iprop((P X).td 0 d c i ∗ scopedBufs (V d ((K (F := F)).core 0 c) ((K (F := F)).sub 0 i))
            ∗ scopedSems0 (V d ((K (F := F)).core 0 c) ((K (F := F)).sub 0 i))
            ∗ ∃ W', ⌜∀ p ∈ W', p ∈ W ∨ p.2 = none ∨ SparseCore.Cfg.Blocks.blk 0 p.2⌝ ∗ owes (V d ((K (F := F)).core 0 c) ((K (F := F)).sub 0 i)) O W') :=
  BI.Entails.trans h (wp_mono frame _ _ fun _ => obl_post)

set_option maxRecDepth 16384 in
theorem obl0 (hX : X.Ok) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile0]; simp only [SparseCore.onTile, hci, and_self, ↓reduceDIte]
  have hI : InRange call0 d (at_ c i) (X.idx0 d) := inRange_of call0 d (at_ c i) (X.idx0 d) (hX.idx0 d)
  refine @close0 F _ X d c i O W _ ?_
  exact @task F _ call0 d c i (X.tab d) (X.idx0 d) (gath (X.tab d) (X.idx0 d)) (Memref.isWhole_whole _) (Memref.isWhole_whole _)
    (Memref.isWhole_whole _) (Memref.isWhole_whole _) (Memref.isWhole_whole _) cc0_scoped5 facts (own0 d c i) hI (View.set_whole _) (View.set_whole _) credit0
    (owin_gath call0 d (at_ c i) (X.tab d) (X.idx0 d) hI (gath (X.tab d) (X.idx0 d)) rfl) O W hO

theorem close1 (d : Dev nD) (c : Fin ((K (F := F)).nCore 1)) (i : Fin ((K (F := F)).nSub 1)) (O : CellTallies nD τ sig (HIx 2)) (W : Waits sig (HIx 2))
    (k : Prog (TpuEff nD τ sig (Elt F) Λ₀ (V d ((K (F := F)).core 1 c) ((K (F := F)).sub 1 i)).2) PUnit)
    (h : (iprop(levAts (K (F := F)).L (K (F := F)).lev ∗ emp ∗ handed (F := F) call1 d c i (X.tab d) (X.idx1 d)
        ∗ scopedBufs (tile d (at_ c i)) ∗ scopedSems0 (tile d (at_ c i)) ∗ owes (tile d (at_ c i)) O W) : sProp 𝕄)
      ⊢ wp frame (wpE (defs₀ (F := F)) 𝒱₀ (tile d (at_ c i)) none) Set.univ k
          fun _ => iprop(back (F := F) call1 d c i (X.tab d) (X.idx1 d) (gath (X.tab d) (X.idx1 d)) ∗ scopedBufs (tile d (at_ c i)) ∗ scopedSems0 (tile d (at_ c i))
            ∗ ∃ W', ⌜∀ p ∈ W', p ∈ W ∨ p.2 = none⌝ ∗ owes (tile d (at_ c i)) O W')) :
    (iprop(levAts (K (F := F)).L (K (F := F)).lev ∗ (P X).x 1 (V d ((K (F := F)).core 1 c) ((K (F := F)).sub 1 i)) ∗ (P X).go 1 d c i
        ∗ scopedBufs (V d ((K (F := F)).core 1 c) ((K (F := F)).sub 1 i)) ∗ scopedSems0 (V d ((K (F := F)).core 1 c) ((K (F := F)).sub 1 i))
        ∗ owes (V d ((K (F := F)).core 1 c) ((K (F := F)).sub 1 i)) O W) : sProp 𝕄)
      ⊢ wp frame (wpE (defs₀ (F := F)) 𝒱₀ (V d ((K (F := F)).core 1 c) ((K (F := F)).sub 1 i)) none) Set.univ k
          fun _ => iprop((P X).td 1 d c i ∗ scopedBufs (V d ((K (F := F)).core 1 c) ((K (F := F)).sub 1 i))
            ∗ scopedSems0 (V d ((K (F := F)).core 1 c) ((K (F := F)).sub 1 i))
            ∗ ∃ W', ⌜∀ p ∈ W', p ∈ W ∨ p.2 = none ∨ SparseCore.Cfg.Blocks.blk 1 p.2⌝ ∗ owes (V d ((K (F := F)).core 1 c) ((K (F := F)).sub 1 i)) O W') :=
  BI.Entails.trans h (wp_mono frame _ _ fun _ => obl_post)

set_option maxRecDepth 16384 in
theorem obl1 (hX : X.Ok) : (K (F := F)).TileObl (D (F := F)) 𝒱 (P X) v₀ 1 := by
  intro d c i O W hO _ _
  simp only [show (P X).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_tile1]; simp only [SparseCore.onTile, hci, and_self, ↓reduceDIte]
  have hI : InRange call1 d (at_ c i) (X.idx1 d) := inRange_of call1 d (at_ c i) (X.idx1 d) (hX.idx1 d)
  refine @close1 F _ X d c i O W _ ?_
  exact @task F _ call1 d c i (X.tab d) (X.idx1 d) (gath (X.tab d) (X.idx1 d)) (Memref.isWhole_whole _) (Memref.isWhole_whole _)
    (Memref.isWhole_whole _) (Memref.isWhole_whole _) (Memref.isWhole_whole _) cc1_scoped5 facts (own1 d c i) hI (View.set_whole _) (View.set_whole _) credit1
    (owin_gath call1 d (at_ c i) (X.tab d) (X.idx1 d) hI (gath (X.tab d) (X.idx1 d)) rfl) O W hO

/-! ## A call's operands, dealt to the tiles and gathered back -/

section Deals

variable (ℓt ℓx ℓo : Loc nD τ sig) (t : Buf (Elt F) ℓt) (x : Buf (Elt F) ℓx)
variable (K : Fin 208 → Finset (Idx ℓo)) (hd : ∀ w w', w ≠ w' → Disjoint (K w) (K w')) (hc : (Finset.univ : Finset (Fin 208)).biUnion K = Finset.univ)

include hd hc in
theorem deal_at (f : Buf (Elt F) ℓo) :
    (iprop((ℓt ↦{fullShare} t) ∗ (ℓx ↦{fullShare} x) ∗ ℓo ↦{fullShare} f) : sProp 𝕄)
      = bigSep (Finset.univ : Finset (Fin 2)) fun c => bigSep (Finset.univ : Finset (Fin 16)) fun s => iprop((ℓt ↦{tq c s} t)
        ∗ ((ℓx ↦{iq c s 0} x) ∗ ℓx ↦{iq c s 1} x) ∗ bigSep (Finset.range (cnt (at_ c s))) fun j => ℓo ↦[K (win (at_ c s) j)]{fullShare} f) := by
  rw [deal_tab ℓt t, deal_idx ℓx x, deal_out ℓo K hd hc f]
  simp only [bigSep_sep']

theorem some_of {L : Finset (Idx ℓo)} (f : Buf (Elt F) ℓo) (A : sProp 𝕄) (h : A = (ℓo ↦[L]{fullShare} f)) : A ⊢ iprop(∃ f, ℓo ↦[L]{fullShare} f) := by
  subst h
  iintro H; iexists f; iexact H

theorem deal_one {A B : sProp 𝕄} (J : Finset ℕ) (L : ℕ → Finset (Idx ℓo)) (f : Buf (Elt F) ℓo) :
    (iprop(A ∗ B ∗ bigSep J fun j => ℓo ↦[L j]{fullShare} f) : sProp 𝕄) ⊢ iprop(A ∗ B ∗ bigSep J fun j => iprop(∃ f, ℓo ↦[L j]{fullShare} f)) := by
  have h : (bigSep J fun j => (ℓo ↦[L j]{fullShare} f : sProp 𝕄)) ⊢ bigSep J fun j => iprop(∃ f, ℓo ↦[L j]{fullShare} f) :=
    bigSep_mono fun j _ => some_of _ f _ rfl
  iintro ⟨HA, HB, H⟩
  isplitl [HA]; · iexact HA
  isplitl [HB]; · iexact HB
  iapply h; iexact H

include hd hc in
theorem deal_any (f : Buf (Elt F) ℓo) :
    (iprop((ℓt ↦{fullShare} t) ∗ (ℓx ↦{fullShare} x) ∗ ℓo ↦{fullShare} f) : sProp 𝕄)
      ⊢ bigSep (Finset.univ : Finset (Fin 2)) fun c => bigSep (Finset.univ : Finset (Fin 16)) fun s => iprop((ℓt ↦{tq c s} t)
        ∗ ((ℓx ↦{iq c s 0} x) ∗ ℓx ↦{iq c s 1} x) ∗ bigSep (Finset.range (cnt (at_ c s))) fun j => iprop(∃ f, ℓo ↦[K (win (at_ c s) j)]{fullShare} f)) := by
  rw [deal_at ℓt ℓx ℓo t x K hd hc f]
  refine bigSep_mono fun c _ => bigSep_mono fun s _ => ?_
  exact deal_one _ _ _ _

end Deals

variable (X)

theorem handed0_eq (d : Dev nD) (c : Fin 2) (s : Fin 16) : go0 X d c s = (iprop(((d.tc : Thread nD τ).loc main_arg8 ↦{tq c s} X.tab d)
    ∗ (((d.tc : Thread nD τ).loc main_v24 ↦{iq c s 0} X.idx0 d) ∗ (d.tc : Thread nD τ).loc main_v24 ↦{iq c s 1} X.idx0 d)
    ∗ bigSep (Finset.range (cnt (at_ c s))) fun j => iprop(∃ f, (d.tc : Thread nD τ).loc main_v25 ↦[oset call0 (win (at_ c s) j)]{fullShare} f)) : sProp 𝕄) := rfl

theorem back0_eq (d : Dev nD) (c : Fin 2) (s : Fin 16) : td0 X d c s = (iprop(((d.tc : Thread nD τ).loc main_arg8 ↦{tq c s} X.tab d)
    ∗ (((d.tc : Thread nD τ).loc main_v24 ↦{iq c s 0} X.idx0 d) ∗ (d.tc : Thread nD τ).loc main_v24 ↦{iq c s 1} X.idx0 d)
    ∗ bigSep (Finset.range (cnt (at_ c s))) fun j => (d.tc : Thread nD τ).loc main_v25 ↦[oset call0 (win (at_ c s) j)]{fullShare} gath (X.tab d) (X.idx0 d)) : sProp 𝕄) := rfl

theorem call0_in (d : Dev nD) (f : S53248x128.Idx → Elt F .f32) :
    (iprop(((d.tc : Thread nD τ).loc main_arg8 ↦{fullShare} X.tab d) ∗ ((d.tc : Thread nD τ).loc main_v24 ↦{fullShare} X.idx0 d)
      ∗ (d.tc : Thread nD τ).loc main_v25 ↦{fullShare} f) : sProp 𝕄) ⊢ bigSep Finset.univ fun c : Fin ((Launch.K (F := F)).nCore 0) => (P X).st 0 d c := by
  refine BI.Entails.trans (deal_any ((d.tc : Thread nD τ).loc main_arg8) ((d.tc : Thread nD τ).loc main_v24) ((d.tc : Thread nD τ).loc main_v25) (X.tab d) (X.idx0 d)
    (oset call0) (disj_owin call0) (cover_owin call0 (View.set_whole _)) f) ?_
  show _ ⊢ bigSep (Finset.univ : Finset (Fin 2)) fun c => bigSep (Finset.univ : Finset (Fin 16)) fun s => go0 X d c s
  simp only [handed0_eq]
  exact .rfl

theorem call0_out (d : Dev nD) : (bigSep Finset.univ fun c : Fin ((Launch.K (F := F)).nCore 0) => (P X).dn 0 d c)
    ⊢ (iprop(((d.tc : Thread nD τ).loc main_arg8 ↦{fullShare} X.tab d) ∗ ((d.tc : Thread nD τ).loc main_v24 ↦{fullShare} X.idx0 d)
      ∗ (d.tc : Thread nD τ).loc main_v25 ↦{fullShare} gath (X.tab d) (X.idx0 d)) : sProp 𝕄) := by
  refine BI.Entails.trans ?_ (Entails.of_eq (deal_at ((d.tc : Thread nD τ).loc main_arg8) ((d.tc : Thread nD τ).loc main_v24) ((d.tc : Thread nD τ).loc main_v25) (X.tab d) (X.idx0 d)
    (oset call0) (disj_owin call0) (cover_owin call0 (View.set_whole _)) (gath (X.tab d) (X.idx0 d))).symm)
  show (bigSep (Finset.univ : Finset (Fin 2)) fun c => bigSep (Finset.univ : Finset (Fin 16)) fun s => td0 X d c s) ⊢ _
  simp only [back0_eq]
  exact .rfl

theorem handed1_eq (d : Dev nD) (c : Fin 2) (s : Fin 16) : go1 X d c s = (iprop(((d.tc : Thread nD τ).loc main_arg8 ↦{tq c s} X.tab d)
    ∗ (((d.tc : Thread nD τ).loc main_v27 ↦{iq c s 0} X.idx1 d) ∗ (d.tc : Thread nD τ).loc main_v27 ↦{iq c s 1} X.idx1 d)
    ∗ bigSep (Finset.range (cnt (at_ c s))) fun j => iprop(∃ f, (d.tc : Thread nD τ).loc main_v28 ↦[oset call1 (win (at_ c s) j)]{fullShare} f)) : sProp 𝕄) := rfl

theorem back1_eq (d : Dev nD) (c : Fin 2) (s : Fin 16) : td1 X d c s = (iprop(((d.tc : Thread nD τ).loc main_arg8 ↦{tq c s} X.tab d)
    ∗ (((d.tc : Thread nD τ).loc main_v27 ↦{iq c s 0} X.idx1 d) ∗ (d.tc : Thread nD τ).loc main_v27 ↦{iq c s 1} X.idx1 d)
    ∗ bigSep (Finset.range (cnt (at_ c s))) fun j => (d.tc : Thread nD τ).loc main_v28 ↦[oset call1 (win (at_ c s) j)]{fullShare} gath (X.tab d) (X.idx1 d)) : sProp 𝕄) := rfl

theorem call1_in (d : Dev nD) (f : S53248x128.Idx → Elt F .f32) :
    (iprop(((d.tc : Thread nD τ).loc main_arg8 ↦{fullShare} X.tab d) ∗ ((d.tc : Thread nD τ).loc main_v27 ↦{fullShare} X.idx1 d)
      ∗ (d.tc : Thread nD τ).loc main_v28 ↦{fullShare} f) : sProp 𝕄) ⊢ bigSep Finset.univ fun c : Fin ((Launch.K (F := F)).nCore 1) => (P X).st 1 d c := by
  refine BI.Entails.trans (deal_any ((d.tc : Thread nD τ).loc main_arg8) ((d.tc : Thread nD τ).loc main_v27) ((d.tc : Thread nD τ).loc main_v28) (X.tab d) (X.idx1 d)
    (oset call1) (disj_owin call1) (cover_owin call1 (View.set_whole _)) f) ?_
  show _ ⊢ bigSep (Finset.univ : Finset (Fin 2)) fun c => bigSep (Finset.univ : Finset (Fin 16)) fun s => go1 X d c s
  simp only [handed1_eq]
  exact .rfl

theorem call1_out (d : Dev nD) : (bigSep Finset.univ fun c : Fin ((Launch.K (F := F)).nCore 1) => (P X).dn 1 d c)
    ⊢ (iprop(((d.tc : Thread nD τ).loc main_arg8 ↦{fullShare} X.tab d) ∗ ((d.tc : Thread nD τ).loc main_v27 ↦{fullShare} X.idx1 d)
      ∗ (d.tc : Thread nD τ).loc main_v28 ↦{fullShare} gath (X.tab d) (X.idx1 d)) : sProp 𝕄) := by
  refine BI.Entails.trans ?_ (Entails.of_eq (deal_at ((d.tc : Thread nD τ).loc main_arg8) ((d.tc : Thread nD τ).loc main_v27) ((d.tc : Thread nD τ).loc main_v28) (X.tab d) (X.idx1 d)
    (oset call1) (disj_owin call1) (cover_owin call1 (View.set_whole _)) (gath (X.tab d) (X.idx1 d))).symm)
  show (bigSep (Finset.univ : Finset (Fin 2)) fun c => bigSep (Finset.univ : Finset (Fin 16)) fun s => td1 X d c s) ⊢ _
  simp only [back1_eq]
  exact .rfl

end Cert.KernelIdeal.Calls

end
-- ==== Proof.Body.lean ====
/-
  The scoring call of the program: what one run of its body leaves in the result's block, as a function of the blocks of its
  nineteen operands.
-/
module

public import proofs.«01_k».proof.Proof.Calls
public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.RegionArrays
public import Idealize.ShloMosaic.Lib.Ring
public import Idealize.ShloMosaic.Lib.VecWindow
public import Idealize.ShloMosaic.Lib.Tactic
public import Idealize.ShloMosaic.Lib.Exec

@[expose] public noncomputable section

namespace Cert.KernelIdeal.Body

open Cert.KernelIdeal Cert.KernelIdeal.Gen Cert.KernelIdeal.Launch
open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open TcCoe

variable {F : FTy → Type} [FloatOps F]

local notation "𝕄" => MT nD τ sig (HIx 2) (Elt F) ℕ UU ℕ

/-- The blocks the body works on: nineteen operands, then the result. -/
structure Blocks where
  a1 : Memref sig .tc .vmem S512x39 .f32
  h1 : a1.IsWhole
  a2 : Memref sig .tc .vmem S13312x128 .f32
  h2 : a2.IsWhole
  a3 : Memref sig .tc .vmem S13x512 .f32
  h3 : a3.IsWhole
  a4 : Memref sig .tc .vmem S1x512 .f32
  h4 : a4.IsWhole
  a5 : Memref sig .tc .vmem S512x256 .f32
  h5 : a5.IsWhole
  a6 : Memref sig .tc .vmem S1x256 .f32
  h6 : a6.IsWhole
  a7 : Memref sig .tc .vmem S256x128 .f32
  h7 : a7.IsWhole
  a8 : Memref sig .tc .vmem S1x128 .f32
  h8 : a8.IsWhole
  a9 : Memref sig .tc .vmem S128x1024 .f32
  h9 : a9.IsWhole
  a10 : Memref sig .tc .vmem S729x1024 .f32
  h10 : a10.IsWhole
  a11 : Memref sig .tc .vmem S1x1024 .f32
  h11 : a11.IsWhole
  a12 : Memref sig .tc .vmem S1024x1024 .f32
  h12 : a12.IsWhole
  a13 : Memref sig .tc .vmem S1x1024 .f32
  h13 : a13.IsWhole
  a14 : Memref sig .tc .vmem S1024x512 .f32
  h14 : a14.IsWhole
  a15 : Memref sig .tc .vmem S1x512 .f32
  h15 : a15.IsWhole
  a16 : Memref sig .tc .vmem S512x256 .f32
  h16 : a16.IsWhole
  a17 : Memref sig .tc .vmem S1x256 .f32
  h17 : a17.IsWhole
  a18 : Memref sig .tc .vmem S256x1 .f32
  h18 : a18.IsWhole
  a19 : Memref sig .tc .vmem S1x1 .f32
  h19 : a19.IsWhole
  a20 : Memref sig .tc .vmem S512x1 .f32
  h20 : a20.IsWhole

/-- The contents of the nineteen operands' blocks. -/
structure Ins (F : FTy → Type) where
  x1 : Vec F S512x39 .f32
  x2 : Vec F S13312x128 .f32
  x3 : Vec F S13x512 .f32
  x4 : Vec F S1x512 .f32
  x5 : Vec F S512x256 .f32
  x6 : Vec F S1x256 .f32
  x7 : Vec F S256x128 .f32
  x8 : Vec F S1x128 .f32
  x9 : Vec F S128x1024 .f32
  x10 : Vec F S729x1024 .f32
  x11 : Vec F S1x1024 .f32
  x12 : Vec F S1024x1024 .f32
  x13 : Vec F S1x1024 .f32
  x14 : Vec F S1024x512 .f32
  x15 : Vec F S1x512 .f32
  x16 : Vec F S512x256 .f32
  x17 : Vec F S1x256 .f32
  x18 : Vec F S256x1 .f32
  x19 : Vec F S1x1 .f32

/-- The scores of a block of rows. -/
def score (x : Ins F) : Vec F S512x1 .f32 :=
  k2_pay1 (k2_pay4 (k2_pay2 (View.ld x.x1 (Rect.unit (s := S512x39) ![0, 0] S512x13.size inb_S512x39_S512x13_0_0)) x.x3 x.x4 x.x5 x.x6 x.x7 x.x8)
      (k2_pay3 (View.ld x.x1 (Rect.unit (s := S512x39) ![0, 0] S512x13.size inb_S512x39_S512x13_0_0)) x.x3 x.x4 x.x5 x.x6 x.x7 x.x8 x.x2)
      x.x9 x.x10 x.x11 x.x12 x.x13 x.x14 x.x15 x.x16 x.x17) k2_pay5 x.x18 x.x19

/-- The body over its blocks. -/
def Blocks.run (A : Blocks) (i : grid2.Coords) : Prog (TpuEff nD τ sig (Elt F) Λ₀ .tc) PUnit :=
  cc2__tc_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20

/-- The operands' blocks held at `x`. -/
def Blocks.held (A : Blocks) (c : Dev nD) (x : Ins F) : sProp 𝕄 :=
  iprop(owns (c : Thread nD τ) A.a1 fullShare x.x1 ∗ owns (c : Thread nD τ) A.a2 fullShare x.x2 ∗ owns (c : Thread nD τ) A.a3 fullShare x.x3 ∗ owns (c : Thread nD τ) A.a4 fullShare x.x4 ∗ owns (c : Thread nD τ) A.a5 fullShare x.x5 ∗ owns (c : Thread nD τ) A.a6 fullShare x.x6 ∗ owns (c : Thread nD τ) A.a7 fullShare x.x7 ∗ owns (c : Thread nD τ) A.a8 fullShare x.x8 ∗ owns (c : Thread nD τ) A.a9 fullShare x.x9 ∗ owns (c : Thread nD τ) A.a10 fullShare x.x10 ∗ owns (c : Thread nD τ) A.a11 fullShare x.x11 ∗ owns (c : Thread nD τ) A.a12 fullShare x.x12 ∗ owns (c : Thread nD τ) A.a13 fullShare x.x13 ∗ owns (c : Thread nD τ) A.a14 fullShare x.x14 ∗ owns (c : Thread nD τ) A.a15 fullShare x.x15 ∗ owns (c : Thread nD τ) A.a16 fullShare x.x16 ∗ owns (c : Thread nD τ) A.a17 fullShare x.x17 ∗ owns (c : Thread nD τ) A.a18 fullShare x.x18 ∗ owns (c : Thread nD τ) A.a19 fullShare x.x19)

set_option maxHeartbeats 2000000 in
/-- The body leaves its operands' blocks as they are, and the result's block at the scores of the rows. -/
theorem body_run (A : Blocks) (c : Dev nD) (i : grid2.Coords) (x : Ins F) (E : Set ℕ) (Q : PUnit → sProp 𝕄) :
    iprop(A.held c x ∗ (∃ d, owns (c : Thread nD τ) A.a20 fullShare d)
        ∗ (iprop(A.held c x ∗ owns (c : Thread nD τ) A.a20 fullShare (score x)) -∗ Q ⟨⟩))
      ⊢ wp frame (wpE (defs₀ (F := F)) 𝒱₀ c none) E (A.run i) Q := by
  unfold Blocks.run
  simp only [cc2__tc_body_eq_skeleton]; unfold cc2__tc_body_skel
  simp only [k2_part1_eq_skeleton, k2_part2_eq_skeleton]
  unfold Blocks.held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩⟩, ⟨%d, %f20, -, H20⟩, Hk⟩
  obtain rfl := A.h1.eq_unread e1
  obtain rfl := A.h2.eq_unread e2
  obtain rfl := A.h3.eq_unread e3
  obtain rfl := A.h4.eq_unread e4
  obtain rfl := A.h5.eq_unread e5
  obtain rfl := A.h6.eq_unread e6
  obtain rfl := A.h7.eq_unread e7
  obtain rfl := A.h8.eq_unread e8
  obtain rfl := A.h9.eq_unread e9
  obtain rfl := A.h10.eq_unread e10
  obtain rfl := A.h11.eq_unread e11
  obtain rfl := A.h12.eq_unread e12
  obtain rfl := A.h13.eq_unread e13
  obtain rfl := A.h14.eq_unread e14
  obtain rfl := A.h15.eq_unread e15
  obtain rfl := A.h16.eq_unread e16
  obtain rfl := A.h17.eq_unread e17
  obtain rfl := A.h18.eq_unread e18
  obtain rfl := A.h19.eq_unread e19
  sl_exec
  sl_step
  iapply Hk
  isplitr [H20]
  · isplitl [H1]
    · iexists _; isplitr; · ipureintro; exact A.h1.read_unread _
      iexact H1
    isplitl [H2]
    · iexists _; isplitr; · ipureintro; exact A.h2.read_unread _
      iexact H2
    isplitl [H3]
    · iexists _; isplitr; · ipureintro; exact A.h3.read_unread _
      iexact H3
    isplitl [H4]
    · iexists _; isplitr; · ipureintro; exact A.h4.read_unread _
      iexact H4
    isplitl [H5]
    · iexists _; isplitr; · ipureintro; exact A.h5.read_unread _
      iexact H5
    isplitl [H6]
    · iexists _; isplitr; · ipureintro; exact A.h6.read_unread _
      iexact H6
    isplitl [H7]
    · iexists _; isplitr; · ipureintro; exact A.h7.read_unread _
      iexact H7
    isplitl [H8]
    · iexists _; isplitr; · ipureintro; exact A.h8.read_unread _
      iexact H8
    isplitl [H9]
    · iexists _; isplitr; · ipureintro; exact A.h9.read_unread _
      iexact H9
    isplitl [H10]
    · iexists _; isplitr; · ipureintro; exact A.h10.read_unread _
      iexact H10
    isplitl [H11]
    · iexists _; isplitr; · ipureintro; exact A.h11.read_unread _
      iexact H11
    isplitl [H12]
    · iexists _; isplitr; · ipureintro; exact A.h12.read_unread _
      iexact H12
    isplitl [H13]
    · iexists _; isplitr; · ipureintro; exact A.h13.read_unread _
      iexact H13
    isplitl [H14]
    · iexists _; isplitr; · ipureintro; exact A.h14.read_unread _
      iexact H14
    isplitl [H15]
    · iexists _; isplitr; · ipureintro; exact A.h15.read_unread _
      iexact H15
    isplitl [H16]
    · iexists _; isplitr; · ipureintro; exact A.h16.read_unread _
      iexact H16
    isplitl [H17]
    · iexists _; isplitr; · ipureintro; exact A.h17.read_unread _
      iexact H17
    isplitl [H18]
    · iexists _; isplitr; · ipureintro; exact A.h18.read_unread _
      iexact H18
    iexists _; isplitr; · ipureintro; exact A.h19.read_unread _
    iexact H19
  iexists _; isplitr
  rotate_left
  · iexact H20
  ipureintro
  refine (View.read_writes_full A.a20.view f20 inb_S512x1_S512x1_0_0 _ []).trans ?_
  unfold body_run.sl.r_3 body_run.sl.r_2 body_run.sl.r_1 body_run.sl.r
  have q1 : View.readAt (Elt F) A.a1.view (Rect.unit ![0, 0] ![512, 13] inb_S512x39_S512x13_0_0).toLoadRect (A.h1.unread x.x1)
      = View.ld x.x1 (Rect.unit (s := S512x39) ![0, 0] S512x13.size inb_S512x39_S512x13_0_0) :=
    congrArg (fun X => View.ld X (Rect.unit (s := S512x39) ![0, 0] S512x13.size inb_S512x39_S512x13_0_0)) (A.h1.read_unread x.x1)
  have q2 : View.readAt (Elt F) A.a2.view (Rect.unit ![0, 0] ![13312, 128] inb_S13312x128_S13312x128_0_0).toLoadRect (A.h2.unread x.x2) = x.x2 :=
    (View.readAt_full A.a2.view _ inb_S13312x128_S13312x128_0_0).trans (A.h2.read_unread _)
  have q3 : View.readAt (Elt F) A.a3.view (Rect.unit ![0, 0] ![13, 512] inb_S13x512_S13x512_0_0).toLoadRect (A.h3.unread x.x3) = x.x3 :=
    (View.readAt_full A.a3.view _ inb_S13x512_S13x512_0_0).trans (A.h3.read_unread _)
  have q4 : View.readAt (Elt F) A.a4.view (Rect.unit ![0, 0] ![1, 512] inb_S1x512_S1x512_0_0).toLoadRect (A.h4.unread x.x4) = x.x4 :=
    (View.readAt_full A.a4.view _ inb_S1x512_S1x512_0_0).trans (A.h4.read_unread _)
  have q5 : View.readAt (Elt F) A.a5.view (Rect.unit ![0, 0] ![512, 256] inb_S512x256_S512x256_0_0).toLoadRect (A.h5.unread x.x5) = x.x5 :=
    (View.readAt_full A.a5.view _ inb_S512x256_S512x256_0_0).trans (A.h5.read_unread _)
  have q6 : View.readAt (Elt F) A.a6.view (Rect.unit ![0, 0] ![1, 256] inb_S1x256_S1x256_0_0).toLoadRect (A.h6.unread x.x6) = x.x6 :=
    (View.readAt_full A.a6.view _ inb_S1x256_S1x256_0_0).trans (A.h6.read_unread _)
  have q7 : View.readAt (Elt F) A.a7.view (Rect.unit ![0, 0] ![256, 128] inb_S256x128_S256x128_0_0).toLoadRect (A.h7.unread x.x7) = x.x7 :=
    (View.readAt_full A.a7.view _ inb_S256x128_S256x128_0_0).trans (A.h7.read_unread _)
  have q8 : View.readAt (Elt F) A.a8.view (Rect.unit ![0, 0] ![1, 128] inb_S1x128_S1x128_0_0).toLoadRect (A.h8.unread x.x8) = x.x8 :=
    (View.readAt_full A.a8.view _ inb_S1x128_S1x128_0_0).trans (A.h8.read_unread _)
  have q9 : View.readAt (Elt F) A.a9.view (Rect.unit ![0, 0] ![128, 1024] inb_S128x1024_S128x1024_0_0).toLoadRect (A.h9.unread x.x9) = x.x9 :=
    (View.readAt_full A.a9.view _ inb_S128x1024_S128x1024_0_0).trans (A.h9.read_unread _)
  have q10 : View.readAt (Elt F) A.a10.view (Rect.unit ![0, 0] ![729, 1024] inb_S729x1024_S729x1024_0_0).toLoadRect (A.h10.unread x.x10) = x.x10 :=
    (View.readAt_full A.a10.view _ inb_S729x1024_S729x1024_0_0).trans (A.h10.read_unread _)
  have q11 : View.readAt (Elt F) A.a11.view (Rect.unit ![0, 0] ![1, 1024] inb_S1x1024_S1x1024_0_0).toLoadRect (A.h11.unread x.x11) = x.x11 :=
    (View.readAt_full A.a11.view _ inb_S1x1024_S1x1024_0_0).trans (A.h11.read_unread _)
  have q12 : View.readAt (Elt F) A.a12.view (Rect.unit ![0, 0] ![1024, 1024] inb_S1024x1024_S1024x1024_0_0).toLoadRect (A.h12.unread x.x12) = x.x12 :=
    (View.readAt_full A.a12.view _ inb_S1024x1024_S1024x1024_0_0).trans (A.h12.read_unread _)
  have q13 : View.readAt (Elt F) A.a13.view (Rect.unit ![0, 0] ![1, 1024] inb_S1x1024_S1x1024_0_0).toLoadRect (A.h13.unread x.x13) = x.x13 :=
    (View.readAt_full A.a13.view _ inb_S1x1024_S1x1024_0_0).trans (A.h13.read_unread _)
  have q14 : View.readAt (Elt F) A.a14.view (Rect.unit ![0, 0] ![1024, 512] inb_S1024x512_S1024x512_0_0).toLoadRect (A.h14.unread x.x14) = x.x14 :=
    (View.readAt_full A.a14.view _ inb_S1024x512_S1024x512_0_0).trans (A.h14.read_unread _)
  have q15 : View.readAt (Elt F) A.a15.view (Rect.unit ![0, 0] ![1, 512] inb_S1x512_S1x512_0_0).toLoadRect (A.h15.unread x.x15) = x.x15 :=
    (View.readAt_full A.a15.view _ inb_S1x512_S1x512_0_0).trans (A.h15.read_unread _)
  have q16 : View.readAt (Elt F) A.a16.view (Rect.unit ![0, 0] ![512, 256] inb_S512x256_S512x256_0_0).toLoadRect (A.h16.unread x.x16) = x.x16 :=
    (View.readAt_full A.a16.view _ inb_S512x256_S512x256_0_0).trans (A.h16.read_unread _)
  have q17 : View.readAt (Elt F) A.a17.view (Rect.unit ![0, 0] ![1, 256] inb_S1x256_S1x256_0_0).toLoadRect (A.h17.unread x.x17) = x.x17 :=
    (View.readAt_full A.a17.view _ inb_S1x256_S1x256_0_0).trans (A.h17.read_unread _)
  have q18 : View.readAt (Elt F) A.a18.view (Rect.unit ![0, 0] ![256, 1] inb_S256x1_S256x1_0_0).toLoadRect (A.h18.unread x.x18) = x.x18 :=
    (View.readAt_full A.a18.view _ inb_S256x1_S256x1_0_0).trans (A.h18.read_unread _)
  have q19 : View.readAt (Elt F) A.a19.view (Rect.unit ![0, 0] ![1, 1] inb_S1x1_S1x1_0_0).toLoadRect (A.h19.unread x.x19) = x.x19 :=
    (View.readAt_full A.a19.view _ inb_S1x1_S1x1_0_0).trans (A.h19.read_unread _)
  rw [q1, q2, q3, q4, q5, q6, q7, q8, q9, q10, q11, q12, q13, q14, q15, q16, q17, q18, q19]
  rfl

end Cert.KernelIdeal.Body
-- ==== Proof.Score.lean ====
/-
  The two scoring calls: what each leaves in the block of its result at every point of its grid, and that its body
  does so.
-/
module

public import proofs.«01_k».proof.Proof.Body

@[expose] public noncomputable section

namespace Cert.KernelIdeal.Score

open Cert.KernelIdeal Cert.KernelIdeal.Gen Cert.KernelIdeal.Launch Cert.KernelIdeal.Body
open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open TcCoe

variable {F : FTy → Type} [FloatOps F]

local notation "𝕄" => MT nD τ sig (HIx 2) (Elt F) ℕ UU ℕ

set_option maxHeartbeats 2000000 in
/-- The two calls run one body. -/
theorem same_body : @cc3__tc_body F _ = @cc2__tc_body F _ := rfl

/-! ## The first scoring call -/

/-- Window `w`'s block at point `t` of the arrays at `V`. -/
def blk2 (V : Valuation τ sig (Elt F)) (w : Fin 20) (t : Fin cfg2.N) :
    ((cfg2.win w).xblock (cfg2.grid.coords t)).Idx → Elt F (cfg2.win w).elt :=
  ((cfg2.win w).blk t).view.read (Elt F) (V (Proc.devRef .tc (Pipeline.arrRef spec2 w)))

/-- The operands' blocks at point `t`. -/
def ins2 (V : Valuation τ sig (Elt F)) (t : Fin cfg2.N) : Ins F :=
  ⟨blk2 V 0 t, blk2 V 1 t, blk2 V 2 t, blk2 V 3 t, blk2 V 4 t, blk2 V 5 t, blk2 V 6 t, blk2 V 7 t, blk2 V 8 t, blk2 V 9 t, blk2 V 10 t, blk2 V 11 t, blk2 V 12 t, blk2 V 13 t, blk2 V 14 t, blk2 V 15 t, blk2 V 16 t, blk2 V 17 t, blk2 V 18 t⟩

/-- The staging buffers the body runs over at point `t`. -/
def blocks2 (t : Fin cfg2.N) : Blocks :=
  ⟨win2_0.stage (cfg2.slots t 0), hstage2_0 ((cfg2.slots t 0).cast nbuf2_0), win2_1.stage (cfg2.slots t 1), hstage2_1 ((cfg2.slots t 1).cast nbuf2_1), win2_2.stage (cfg2.slots t 2), hstage2_2 ((cfg2.slots t 2).cast nbuf2_2), win2_3.stage (cfg2.slots t 3), hstage2_3 ((cfg2.slots t 3).cast nbuf2_3), win2_4.stage (cfg2.slots t 4), hstage2_4 ((cfg2.slots t 4).cast nbuf2_4), win2_5.stage (cfg2.slots t 5), hstage2_5 ((cfg2.slots t 5).cast nbuf2_5), win2_6.stage (cfg2.slots t 6), hstage2_6 ((cfg2.slots t 6).cast nbuf2_6), win2_7.stage (cfg2.slots t 7), hstage2_7 ((cfg2.slots t 7).cast nbuf2_7), win2_8.stage (cfg2.slots t 8), hstage2_8 ((cfg2.slots t 8).cast nbuf2_8), win2_9.stage (cfg2.slots t 9), hstage2_9 ((cfg2.slots t 9).cast nbuf2_9), win2_10.stage (cfg2.slots t 10), hstage2_10 ((cfg2.slots t 10).cast nbuf2_10), win2_11.stage (cfg2.slots t 11), hstage2_11 ((cfg2.slots t 11).cast nbuf2_11), win2_12.stage (cfg2.slots t 12), hstage2_12 ((cfg2.slots t 12).cast nbuf2_12), win2_13.stage (cfg2.slots t 13), hstage2_13 ((cfg2.slots t 13).cast nbuf2_13), win2_14.stage (cfg2.slots t 14), hstage2_14 ((cfg2.slots t 14).cast nbuf2_14), win2_15.stage (cfg2.slots t 15), hstage2_15 ((cfg2.slots t 15).cast nbuf2_15), win2_16.stage (cfg2.slots t 16), hstage2_16 ((cfg2.slots t 16).cast nbuf2_16), win2_17.stage (cfg2.slots t 17), hstage2_17 ((cfg2.slots t 17).cast nbuf2_17), win2_18.stage (cfg2.slots t 18), hstage2_18 ((cfg2.slots t 18).cast nbuf2_18), win2_19.stage (cfg2.slots t 19), hstage2_19 ((cfg2.slots t 19).cast nbuf2_19)⟩

/-- What the call leaves in each staging buffer: an operand's block in place, the scores in the result's. -/
def left2 (V : Valuation τ sig (Elt F)) : (w : Fin 20) → (t : Fin cfg2.N) → (cfg2.win w).block.Idx → Elt F (cfg2.win w).elt
  | 0 => fun t => blk2 V 0 t
  | 1 => fun t => blk2 V 1 t
  | 2 => fun t => blk2 V 2 t
  | 3 => fun t => blk2 V 3 t
  | 4 => fun t => blk2 V 4 t
  | 5 => fun t => blk2 V 5 t
  | 6 => fun t => blk2 V 6 t
  | 7 => fun t => blk2 V 7 t
  | 8 => fun t => blk2 V 8 t
  | 9 => fun t => blk2 V 9 t
  | 10 => fun t => blk2 V 10 t
  | 11 => fun t => blk2 V 11 t
  | 12 => fun t => blk2 V 12 t
  | 13 => fun t => blk2 V 13 t
  | 14 => fun t => blk2 V 14 t
  | 15 => fun t => blk2 V 15 t
  | 16 => fun t => blk2 V 16 t
  | 17 => fun t => blk2 V 17 t
  | 18 => fun t => blk2 V 18 t
  | 19 => fun t => score (ins2 V t)
  | ⟨_ + 20, h⟩ => absurd h (Nat.not_lt.2 (Nat.le_add_left _ _))

/-- The call's proof data, its arrays at `V`. -/
def dat2 (V : Valuation τ sig (Elt F)) (c : Dev nD) : Pipeline.Dat τ (Elt F) (HIx 2) ℕ UU ℕ cfg2 c where
  A w := V (Proc.devRef .tc (Pipeline.arrRef spec2 w))
  after w t := left2 V w t
  Φ _ := iprop(Pipeline.scopedRest spec2 c ∗ emp)
  q _ := fullShare
  owed _ := 0

/-- Before a point an operand's staging buffer holds its block, whether or not it was fetched there. -/
theorem before2 (V : Valuation τ sig (Elt F)) (c : Dev nD) (w : Fin 20) (hw : (cfg2.win w).isOut = false)
    (hcut : ∀ t t' : Fin cfg2.N, (cfg2.win w).index t = (cfg2.win w).index t' →
      (cfg2.win w).clip (cfg2.grid.coords t) = (cfg2.win w).clip (cfg2.grid.coords t'))
    (hleft : ∀ t, (cfg2.win w).cut (cfg2.grid.coords t) ((dat2 V c).after w t) = (dat2 V c).blockOf w t)
    (t : Fin cfg2.N) (d) : (dat2 V c).before w t d = (dat2 V c).fetched w t d :=
  (dat2 V c).before_in_eq_fetched w hw (fun _ => rfl) hcut hleft t d

set_option maxHeartbeats 2000000 in
/-- The body's obligation at every point. -/
theorem body2 (V : Valuation τ sig (Elt F)) (c : Dev nD) :
    Pipeline.BodyObligation (dat2 V c) (defs₀ (F := F)) 𝒱₀ (none : HIx 2) Set.univ := fun t => by
  rw [bigSep_W2, bigSep_W2]
  refine triple_restated (W := wp frame (wpE (defs₀ (F := F)) 𝒱₀ (c : Thread nD τ) none) Set.univ ((blocks2 t).run (grid2.coords t)))
    (P := iprop((dat2 V c).Φ t.castSucc ∗ (dat2 V c).owesAt none t.castSucc ∗ (blocks2 t).held c (ins2 V t)
      ∗ (∃ d, owns (c : Thread nD τ) (blocks2 t).a20 fullShare d)))
    (Q := fun _ => iprop((dat2 V c).Φ t.castSucc ∗ (dat2 V c).owesAt none t.castSucc ∗ (blocks2 t).held c (ins2 V t)
      ∗ owns (c : Thread nD τ) (blocks2 t).a20 fullShare (score (ins2 V t)))) ?_ rfl ?_ ?_
  · iintro ⟨HΦ, HO, Hx, Hy⟩
    iapply (body_run (blocks2 t) c (grid2.coords t) (ins2 V t) Set.univ _)
    isplitl [Hx]; · iexact Hx
    isplitl [Hy]; · iexact Hy
    iintro ⟨Hx, Hy⟩
    isplitl [HΦ]; · iexact HΦ
    isplitl [HO]; · iexact HO
    isplitl [Hx]; · iexact Hx
    iexact Hy
  · iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    isplitl [HΦ]; · iexact HΦ
    isplitl [HO]; · iexact HO
    isplitr [H19]
    · unfold Blocks.held
      isplitl [H0]; · iapply (Entails.of_eq (congrArg (fun X => owns (c : Thread nD τ) (blocks2 t).a1 fullShare X) (before2 V c 0 rfl (fun _ _ _ => rfl) (fun _ => rfl) t d0))); iexact H0
      isplitl [H1]; · iapply (Entails.of_eq (congrArg (fun X => owns (c : Thread nD τ) (blocks2 t).a2 fullShare X) (before2 V c 1 rfl (fun _ _ _ => rfl) (fun _ => rfl) t d1))); iexact H1
      isplitl [H2]; · iapply (Entails.of_eq (congrArg (fun X => owns (c : Thread nD τ) (blocks2 t).a3 fullShare X) (before2 V c 2 rfl (fun _ _ _ => rfl) (fun _ => rfl) t d2))); iexact H2
      isplitl [H3]; · iapply (Entails.of_eq (congrArg (fun X => owns (c : Thread nD τ) (blocks2 t).a4 fullShare X) (before2 V c 3 rfl (fun _ _ _ => rfl) (fun _ => rfl) t d3))); iexact H3
      isplitl [H4]; · iapply (Entails.of_eq (congrArg (fun X => owns (c : Thread nD τ) (blocks2 t).a5 fullShare X) (before2 V c 4 rfl (fun _ _ _ => rfl) (fun _ => rfl) t d4))); iexact H4
      isplitl [H5]; · iapply (Entails.of_eq (congrArg (fun X => owns (c : Thread nD τ) (blocks2 t).a6 fullShare X) (before2 V c 5 rfl (fun _ _ _ => rfl) (fun _ => rfl) t d5))); iexact H5
      isplitl [H6]; · iapply (Entails.of_eq (congrArg (fun X => owns (c : Thread nD τ) (blocks2 t).a7 fullShare X) (before2 V c 6 rfl (fun _ _ _ => rfl) (fun _ => rfl) t d6))); iexact H6
      isplitl [H7]; · iapply (Entails.of_eq (congrArg (fun X => owns (c : Thread nD τ) (blocks2 t).a8 fullShare X) (before2 V c 7 rfl (fun _ _ _ => rfl) (fun _ => rfl) t d7))); iexact H7
      isplitl [H8]; · iapply (Entails.of_eq (congrArg (fun X => owns (c : Thread nD τ) (blocks2 t).a9 fullShare X) (before2 V c 8 rfl (fun _ _ _ => rfl) (fun _ => rfl) t d8))); iexact H8
      isplitl [H9]; · iapply (Entails.of_eq (congrArg (fun X => owns (c : Thread nD τ) (blocks2 t).a10 fullShare X) (before2 V c 9 rfl (fun _ _ _ => rfl) (fun _ => rfl) t d9))); iexact H9
      isplitl [H10]; · iapply (Entails.of_eq (congrArg (fun X => owns (c : Thread nD τ) (blocks2 t).a11 fullShare X) (before2 V c 10 rfl (fun _ _ _ => rfl) (fun _ => rfl) t d10))); iexact H10
      isplitl [H11]; · iapply (Entails.of_eq (congrArg (fun X => owns (c : Thread nD τ) (blocks2 t).a12 fullShare X) (before2 V c 11 rfl (fun _ _ _ => rfl) (fun _ => rfl) t d11))); iexact H11
      isplitl [H12]; · iapply (Entails.of_eq (congrArg (fun X => owns (c : Thread nD τ) (blocks2 t).a13 fullShare X) (before2 V c 12 rfl (fun _ _ _ => rfl) (fun _ => rfl) t d12))); iexact H12
      isplitl [H13]; · iapply (Entails.of_eq (congrArg (fun X => owns (c : Thread nD τ) (blocks2 t).a14 fullShare X) (before2 V c 13 rfl (fun _ _ _ => rfl) (fun _ => rfl) t d13))); iexact H13
      isplitl [H14]; · iapply (Entails.of_eq (congrArg (fun X => owns (c : Thread nD τ) (blocks2 t).a15 fullShare X) (before2 V c 14 rfl (fun _ _ _ => rfl) (fun _ => rfl) t d14))); iexact H14
      isplitl [H15]; · iapply (Entails.of_eq (congrArg (fun X => owns (c : Thread nD τ) (blocks2 t).a16 fullShare X) (before2 V c 15 rfl (fun _ _ _ => rfl) (fun _ => rfl) t d15))); iexact H15
      isplitl [H16]; · iapply (Entails.of_eq (congrArg (fun X => owns (c : Thread nD τ) (blocks2 t).a17 fullShare X) (before2 V c 16 rfl (fun _ _ _ => rfl) (fun _ => rfl) t d16))); iexact H16
      isplitl [H17]; · iapply (Entails.of_eq (congrArg (fun X => owns (c : Thread nD τ) (blocks2 t).a18 fullShare X) (before2 V c 17 rfl (fun _ _ _ => rfl) (fun _ => rfl) t d17))); iexact H17
      iapply (Entails.of_eq (congrArg (fun X => owns (c : Thread nD τ) (blocks2 t).a19 fullShare X) (before2 V c 18 rfl (fun _ _ _ => rfl) (fun _ => rfl) t d18))); iexact H18
    iexists _; iexact H19
  · intro _
    iintro ⟨HΦ, HO, Hx, Hy⟩
    ihave Hx := (Entails.of_eq (show ((blocks2 t).held c (ins2 V t) : sProp 𝕄) = iprop(owns (c : Thread nD τ) (blocks2 t).a1 fullShare (blk2 V 0 t) ∗ owns (c : Thread nD τ) (blocks2 t).a2 fullShare (blk2 V 1 t) ∗ owns (c : Thread nD τ) (blocks2 t).a3 fullShare (blk2 V 2 t) ∗ owns (c : Thread nD τ) (blocks2 t).a4 fullShare (blk2 V 3 t) ∗ owns (c : Thread nD τ) (blocks2 t).a5 fullShare (blk2 V 4 t) ∗ owns (c : Thread nD τ) (blocks2 t).a6 fullShare (blk2 V 5 t) ∗ owns (c : Thread nD τ) (blocks2 t).a7 fullShare (blk2 V 6 t) ∗ owns (c : Thread nD τ) (blocks2 t).a8 fullShare (blk2 V 7 t) ∗ owns (c : Thread nD τ) (blocks2 t).a9 fullShare (blk2 V 8 t) ∗ owns (c : Thread nD τ) (blocks2 t).a10 fullShare (blk2 V 9 t) ∗ owns (c : Thread nD τ) (blocks2 t).a11 fullShare (blk2 V 10 t) ∗ owns (c : Thread nD τ) (blocks2 t).a12 fullShare (blk2 V 11 t) ∗ owns (c : Thread nD τ) (blocks2 t).a13 fullShare (blk2 V 12 t) ∗ owns (c : Thread nD τ) (blocks2 t).a14 fullShare (blk2 V 13 t) ∗ owns (c : Thread nD τ) (blocks2 t).a15 fullShare (blk2 V 14 t) ∗ owns (c : Thread nD τ) (blocks2 t).a16 fullShare (blk2 V 15 t) ∗ owns (c : Thread nD τ) (blocks2 t).a17 fullShare (blk2 V 16 t) ∗ owns (c : Thread nD τ) (blocks2 t).a18 fullShare (blk2 V 17 t) ∗ owns (c : Thread nD τ) (blocks2 t).a19 fullShare (blk2 V 18 t)) from rfl)) $$ Hx
    icases Hx with ⟨H0, H1, H2, H3, H4, H5, H6, H7, H8, H9, H10, H11, H12, H13, H14, H15, H16, H17, H18⟩
    isplitl [HΦ]; · iapply (Entails.of_eq (show (dat2 V c).Φ t.castSucc = (dat2 V c).Φ t.succ from rfl)); iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact Hy

/-! ## The second scoring call -/

/-- Window `w`'s block at point `t` of the arrays at `V`. -/
def blk3 (V : Valuation τ sig (Elt F)) (w : Fin 20) (t : Fin cfg3.N) :
    ((cfg3.win w).xblock (cfg3.grid.coords t)).Idx → Elt F (cfg3.win w).elt :=
  ((cfg3.win w).blk t).view.read (Elt F) (V (Proc.devRef .tc (Pipeline.arrRef spec3 w)))

/-- The operands' blocks at point `t`. -/
def ins3 (V : Valuation τ sig (Elt F)) (t : Fin cfg3.N) : Ins F :=
  ⟨blk3 V 0 t, blk3 V 1 t, blk3 V 2 t, blk3 V 3 t, blk3 V 4 t, blk3 V 5 t, blk3 V 6 t, blk3 V 7 t, blk3 V 8 t, blk3 V 9 t, blk3 V 10 t, blk3 V 11 t, blk3 V 12 t, blk3 V 13 t, blk3 V 14 t, blk3 V 15 t, blk3 V 16 t, blk3 V 17 t, blk3 V 18 t⟩

/-- The staging buffers the body runs over at point `t`. -/
def blocks3 (t : Fin cfg3.N) : Blocks :=
  ⟨win3_0.stage (cfg3.slots t 0), hstage3_0 ((cfg3.slots t 0).cast nbuf3_0), win3_1.stage (cfg3.slots t 1), hstage3_1 ((cfg3.slots t 1).cast nbuf3_1), win3_2.stage (cfg3.slots t 2), hstage3_2 ((cfg3.slots t 2).cast nbuf3_2), win3_3.stage (cfg3.slots t 3), hstage3_3 ((cfg3.slots t 3).cast nbuf3_3), win3_4.stage (cfg3.slots t 4), hstage3_4 ((cfg3.slots t 4).cast nbuf3_4), win3_5.stage (cfg3.slots t 5), hstage3_5 ((cfg3.slots t 5).cast nbuf3_5), win3_6.stage (cfg3.slots t 6), hstage3_6 ((cfg3.slots t 6).cast nbuf3_6), win3_7.stage (cfg3.slots t 7), hstage3_7 ((cfg3.slots t 7).cast nbuf3_7), win3_8.stage (cfg3.slots t 8), hstage3_8 ((cfg3.slots t 8).cast nbuf3_8), win3_9.stage (cfg3.slots t 9), hstage3_9 ((cfg3.slots t 9).cast nbuf3_9), win3_10.stage (cfg3.slots t 10), hstage3_10 ((cfg3.slots t 10).cast nbuf3_10), win3_11.stage (cfg3.slots t 11), hstage3_11 ((cfg3.slots t 11).cast nbuf3_11), win3_12.stage (cfg3.slots t 12), hstage3_12 ((cfg3.slots t 12).cast nbuf3_12), win3_13.stage (cfg3.slots t 13), hstage3_13 ((cfg3.slots t 13).cast nbuf3_13), win3_14.stage (cfg3.slots t 14), hstage3_14 ((cfg3.slots t 14).cast nbuf3_14), win3_15.stage (cfg3.slots t 15), hstage3_15 ((cfg3.slots t 15).cast nbuf3_15), win3_16.stage (cfg3.slots t 16), hstage3_16 ((cfg3.slots t 16).cast nbuf3_16), win3_17.stage (cfg3.slots t 17), hstage3_17 ((cfg3.slots t 17).cast nbuf3_17), win3_18.stage (cfg3.slots t 18), hstage3_18 ((cfg3.slots t 18).cast nbuf3_18), win3_19.stage (cfg3.slots t 19), hstage3_19 ((cfg3.slots t 19).cast nbuf3_19)⟩

/-- What the call leaves in each staging buffer: an operand's block in place, the scores in the result's. -/
def left3 (V : Valuation τ sig (Elt F)) : (w : Fin 20) → (t : Fin cfg3.N) → (cfg3.win w).block.Idx → Elt F (cfg3.win w).elt
  | 0 => fun t => blk3 V 0 t
  | 1 => fun t => blk3 V 1 t
  | 2 => fun t => blk3 V 2 t
  | 3 => fun t => blk3 V 3 t
  | 4 => fun t => blk3 V 4 t
  | 5 => fun t => blk3 V 5 t
  | 6 => fun t => blk3 V 6 t
  | 7 => fun t => blk3 V 7 t
  | 8 => fun t => blk3 V 8 t
  | 9 => fun t => blk3 V 9 t
  | 10 => fun t => blk3 V 10 t
  | 11 => fun t => blk3 V 11 t
  | 12 => fun t => blk3 V 12 t
  | 13 => fun t => blk3 V 13 t
  | 14 => fun t => blk3 V 14 t
  | 15 => fun t => blk3 V 15 t
  | 16 => fun t => blk3 V 16 t
  | 17 => fun t => blk3 V 17 t
  | 18 => fun t => blk3 V 18 t
  | 19 => fun t => score (ins3 V t)
  | ⟨_ + 20, h⟩ => absurd h (Nat.not_lt.2 (Nat.le_add_left _ _))

/-- The call's proof data, its arrays at `V`. -/
def dat3 (V : Valuation τ sig (Elt F)) (c : Dev nD) : Pipeline.Dat τ (Elt F) (HIx 2) ℕ UU ℕ cfg3 c where
  A w := V (Proc.devRef .tc (Pipeline.arrRef spec3 w))
  after w t := left3 V w t
  Φ _ := iprop(Pipeline.scopedRest spec3 c ∗ emp)
  q _ := fullShare
  owed _ := 0

/-- Before a point an operand's staging buffer holds its block, whether or not it was fetched there. -/
theorem before3 (V : Valuation τ sig (Elt F)) (c : Dev nD) (w : Fin 20) (hw : (cfg3.win w).isOut = false)
    (hcut : ∀ t t' : Fin cfg3.N, (cfg3.win w).index t = (cfg3.win w).index t' →
      (cfg3.win w).clip (cfg3.grid.coords t) = (cfg3.win w).clip (cfg3.grid.coords t'))
    (hleft : ∀ t, (cfg3.win w).cut (cfg3.grid.coords t) ((dat3 V c).after w t) = (dat3 V c).blockOf w t)
    (t : Fin cfg3.N) (d) : (dat3 V c).before w t d = (dat3 V c).fetched w t d :=
  (dat3 V c).before_in_eq_fetched w hw (fun _ => rfl) hcut hleft t d

set_option maxHeartbeats 2000000 in
/-- The body's obligation at every point. -/
theorem body3 (V : Valuation τ sig (Elt F)) (c : Dev nD) :
    Pipeline.BodyObligation (dat3 V c) (defs₀ (F := F)) 𝒱₀ (none : HIx 2) Set.univ := fun t => by
  rw [bigSep_W3, bigSep_W3]
  refine triple_restated (W := wp frame (wpE (defs₀ (F := F)) 𝒱₀ (c : Thread nD τ) none) Set.univ ((blocks3 t).run (grid3.coords t)))
    (P := iprop((dat3 V c).Φ t.castSucc ∗ (dat3 V c).owesAt none t.castSucc ∗ (blocks3 t).held c (ins3 V t)
      ∗ (∃ d, owns (c : Thread nD τ) (blocks3 t).a20 fullShare d)))
    (Q := fun _ => iprop((dat3 V c).Φ t.castSucc ∗ (dat3 V c).owesAt none t.castSucc ∗ (blocks3 t).held c (ins3 V t)
      ∗ owns (c : Thread nD τ) (blocks3 t).a20 fullShare (score (ins3 V t)))) ?_ rfl ?_ ?_
  · iintro ⟨HΦ, HO, Hx, Hy⟩
    iapply (body_run (blocks3 t) c (grid3.coords t) (ins3 V t) Set.univ _)
    isplitl [Hx]; · iexact Hx
    isplitl [Hy]; · iexact Hy
    iintro ⟨Hx, Hy⟩
    isplitl [HΦ]; · iexact HΦ
    isplitl [HO]; · iexact HO
    isplitl [Hx]; · iexact Hx
    iexact Hy
  · iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    isplitl [HΦ]; · iexact HΦ
    isplitl [HO]; · iexact HO
    isplitr [H19]
    · unfold Blocks.held
      isplitl [H0]; · iapply (Entails.of_eq (congrArg (fun X => owns (c : Thread nD τ) (blocks3 t).a1 fullShare X) (before3 V c 0 rfl (fun _ _ _ => rfl) (fun _ => rfl) t d0))); iexact H0
      isplitl [H1]; · iapply (Entails.of_eq (congrArg (fun X => owns (c : Thread nD τ) (blocks3 t).a2 fullShare X) (before3 V c 1 rfl (fun _ _ _ => rfl) (fun _ => rfl) t d1))); iexact H1
      isplitl [H2]; · iapply (Entails.of_eq (congrArg (fun X => owns (c : Thread nD τ) (blocks3 t).a3 fullShare X) (before3 V c 2 rfl (fun _ _ _ => rfl) (fun _ => rfl) t d2))); iexact H2
      isplitl [H3]; · iapply (Entails.of_eq (congrArg (fun X => owns (c : Thread nD τ) (blocks3 t).a4 fullShare X) (before3 V c 3 rfl (fun _ _ _ => rfl) (fun _ => rfl) t d3))); iexact H3
      isplitl [H4]; · iapply (Entails.of_eq (congrArg (fun X => owns (c : Thread nD τ) (blocks3 t).a5 fullShare X) (before3 V c 4 rfl (fun _ _ _ => rfl) (fun _ => rfl) t d4))); iexact H4
      isplitl [H5]; · iapply (Entails.of_eq (congrArg (fun X => owns (c : Thread nD τ) (blocks3 t).a6 fullShare X) (before3 V c 5 rfl (fun _ _ _ => rfl) (fun _ => rfl) t d5))); iexact H5
      isplitl [H6]; · iapply (Entails.of_eq (congrArg (fun X => owns (c : Thread nD τ) (blocks3 t).a7 fullShare X) (before3 V c 6 rfl (fun _ _ _ => rfl) (fun _ => rfl) t d6))); iexact H6
      isplitl [H7]; · iapply (Entails.of_eq (congrArg (fun X => owns (c : Thread nD τ) (blocks3 t).a8 fullShare X) (before3 V c 7 rfl (fun _ _ _ => rfl) (fun _ => rfl) t d7))); iexact H7
      isplitl [H8]; · iapply (Entails.of_eq (congrArg (fun X => owns (c : Thread nD τ) (blocks3 t).a9 fullShare X) (before3 V c 8 rfl (fun _ _ _ => rfl) (fun _ => rfl) t d8))); iexact H8
      isplitl [H9]; · iapply (Entails.of_eq (congrArg (fun X => owns (c : Thread nD τ) (blocks3 t).a10 fullShare X) (before3 V c 9 rfl (fun _ _ _ => rfl) (fun _ => rfl) t d9))); iexact H9
      isplitl [H10]; · iapply (Entails.of_eq (congrArg (fun X => owns (c : Thread nD τ) (blocks3 t).a11 fullShare X) (before3 V c 10 rfl (fun _ _ _ => rfl) (fun _ => rfl) t d10))); iexact H10
      isplitl [H11]; · iapply (Entails.of_eq (congrArg (fun X => owns (c : Thread nD τ) (blocks3 t).a12 fullShare X) (before3 V c 11 rfl (fun _ _ _ => rfl) (fun _ => rfl) t d11))); iexact H11
      isplitl [H12]; · iapply (Entails.of_eq (congrArg (fun X => owns (c : Thread nD τ) (blocks3 t).a13 fullShare X) (before3 V c 12 rfl (fun _ _ _ => rfl) (fun _ => rfl) t d12))); iexact H12
      isplitl [H13]; · iapply (Entails.of_eq (congrArg (fun X => owns (c : Thread nD τ) (blocks3 t).a14 fullShare X) (before3 V c 13 rfl (fun _ _ _ => rfl) (fun _ => rfl) t d13))); iexact H13
      isplitl [H14]; · iapply (Entails.of_eq (congrArg (fun X => owns (c : Thread nD τ) (blocks3 t).a15 fullShare X) (before3 V c 14 rfl (fun _ _ _ => rfl) (fun _ => rfl) t d14))); iexact H14
      isplitl [H15]; · iapply (Entails.of_eq (congrArg (fun X => owns (c : Thread nD τ) (blocks3 t).a16 fullShare X) (before3 V c 15 rfl (fun _ _ _ => rfl) (fun _ => rfl) t d15))); iexact H15
      isplitl [H16]; · iapply (Entails.of_eq (congrArg (fun X => owns (c : Thread nD τ) (blocks3 t).a17 fullShare X) (before3 V c 16 rfl (fun _ _ _ => rfl) (fun _ => rfl) t d16))); iexact H16
      isplitl [H17]; · iapply (Entails.of_eq (congrArg (fun X => owns (c : Thread nD τ) (blocks3 t).a18 fullShare X) (before3 V c 17 rfl (fun _ _ _ => rfl) (fun _ => rfl) t d17))); iexact H17
      iapply (Entails.of_eq (congrArg (fun X => owns (c : Thread nD τ) (blocks3 t).a19 fullShare X) (before3 V c 18 rfl (fun _ _ _ => rfl) (fun _ => rfl) t d18))); iexact H18
    iexists _; iexact H19
  · intro _
    iintro ⟨HΦ, HO, Hx, Hy⟩
    ihave Hx := (Entails.of_eq (show ((blocks3 t).held c (ins3 V t) : sProp 𝕄) = iprop(owns (c : Thread nD τ) (blocks3 t).a1 fullShare (blk3 V 0 t) ∗ owns (c : Thread nD τ) (blocks3 t).a2 fullShare (blk3 V 1 t) ∗ owns (c : Thread nD τ) (blocks3 t).a3 fullShare (blk3 V 2 t) ∗ owns (c : Thread nD τ) (blocks3 t).a4 fullShare (blk3 V 3 t) ∗ owns (c : Thread nD τ) (blocks3 t).a5 fullShare (blk3 V 4 t) ∗ owns (c : Thread nD τ) (blocks3 t).a6 fullShare (blk3 V 5 t) ∗ owns (c : Thread nD τ) (blocks3 t).a7 fullShare (blk3 V 6 t) ∗ owns (c : Thread nD τ) (blocks3 t).a8 fullShare (blk3 V 7 t) ∗ owns (c : Thread nD τ) (blocks3 t).a9 fullShare (blk3 V 8 t) ∗ owns (c : Thread nD τ) (blocks3 t).a10 fullShare (blk3 V 9 t) ∗ owns (c : Thread nD τ) (blocks3 t).a11 fullShare (blk3 V 10 t) ∗ owns (c : Thread nD τ) (blocks3 t).a12 fullShare (blk3 V 11 t) ∗ owns (c : Thread nD τ) (blocks3 t).a13 fullShare (blk3 V 12 t) ∗ owns (c : Thread nD τ) (blocks3 t).a14 fullShare (blk3 V 13 t) ∗ owns (c : Thread nD τ) (blocks3 t).a15 fullShare (blk3 V 14 t) ∗ owns (c : Thread nD τ) (blocks3 t).a16 fullShare (blk3 V 15 t) ∗ owns (c : Thread nD τ) (blocks3 t).a17 fullShare (blk3 V 16 t) ∗ owns (c : Thread nD τ) (blocks3 t).a18 fullShare (blk3 V 17 t) ∗ owns (c : Thread nD τ) (blocks3 t).a19 fullShare (blk3 V 18 t)) from rfl)) $$ Hx
    icases Hx with ⟨H0, H1, H2, H3, H4, H5, H6, H7, H8, H9, H10, H11, H12, H13, H14, H15, H16, H17, H18⟩
    isplitl [HΦ]; · iapply (Entails.of_eq (show (dat3 V c).Φ t.castSucc = (dat3 V c).Φ t.succ from rfl)); iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact Hy

end Cert.KernelIdeal.Score
-- ==== Proof.Host.lean ====
/-
  The host's operations of the program, listed between its calls, and the program as these lists and the calls in order.
-/
module

public import proofs.«01_k».proof.Proof.Score
public import Idealize.ShloMosaic.Lib.StableHlo.Run

@[expose] public noncomputable section

namespace Cert.KernelIdeal.Host

open Cert.KernelIdeal Cert.KernelIdeal.Gen Cert.KernelIdeal.Launch
open Idealize.ShloMosaic Idealize.ShloMosaic.Tactic
open Idealize.SL.Sem
open TcCoe

variable {F : FTy → Type} [FloatOps F]

/-- Operations of the host, part 1 of those before the first call. -/
abbrev opsA1 : List (HloOp τ sig (Elt F)) :=
  [ (StableHlo.nullary main_c (fun i => lit0 (S729.rowMajor i))),
    (StableHlo.nullary main_cst (fun i => FloatOps.ofBits .f32 (lit1 (S729.rowMajor i)))),
    (StableHlo.unary main_cst main_v0 (broadcastInDim S729x1 ![0] bcast_S729_S729x1_0 : (⟨S729, .f32⟩ : BufTy).Contents (Elt F) → (⟨S729x1, .f32⟩ : BufTy).Contents (Elt F))),
    (StableHlo.unary main_arg0 main_v1 ((extractStridedSlice S4096x26 ![0, 13] · slices_S4096x39_S4096x26_0_13) : (⟨S4096x39, .f32⟩ : BufTy).Contents (Elt F) → (⟨S4096x26, .f32⟩ : BufTy).Contents (Elt F))),
    (StableHlo.unary main_v1 main_v2 (fptosi 32 : (⟨S4096x26, .f32⟩ : BufTy).Contents (Elt F) → (⟨S4096x26, .i32⟩ : BufTy).Contents (Elt F))),
    (StableHlo.nullary main_v3 (iotaInDim S26 32 0)),
    (StableHlo.nullary main_c_0 (constantI S_ 32 100000#32)),
    (StableHlo.unary main_c_0 main_v4 (broadcastInDim S26 ![] bcast_S_S26 : (⟨S_, .i32⟩ : BufTy).Contents (Elt F) → (⟨S26, .i32⟩ : BufTy).Contents (Elt F))),
    (StableHlo.binary main_v3 main_v4 main_v5 (muli : (⟨S26, .i32⟩ : BufTy).Contents (Elt F) → (⟨S26, .i32⟩ : BufTy).Contents (Elt F) → (⟨S26, .i32⟩ : BufTy).Contents (Elt F))),
    (StableHlo.unary main_v5 main_v6 (broadcastInDim S1x26 ![1] bcast_S26_S1x26_1 : (⟨S26, .i32⟩ : BufTy).Contents (Elt F) → (⟨S1x26, .i32⟩ : BufTy).Contents (Elt F))),
    (StableHlo.unary main_v6 main_v7 (broadcastInDim S4096x26 ![0, 1] bcast_S1x26_S4096x26_0_1 : (⟨S1x26, .i32⟩ : BufTy).Contents (Elt F) → (⟨S4096x26, .i32⟩ : BufTy).Contents (Elt F))),
    (StableHlo.binary main_v2 main_v7 main_v8 (addi : (⟨S4096x26, .i32⟩ : BufTy).Contents (Elt F) → (⟨S4096x26, .i32⟩ : BufTy).Contents (Elt F) → (⟨S4096x26, .i32⟩ : BufTy).Contents (Elt F))),
    (StableHlo.reshape main_v8 main_v9 (rfl : (.i32 : EltTy) = .i32) shapeCasts_S4096x26_S106496),
    (StableHlo.unary main_arg9 main_v10 ((extractStridedSlice S128x1024 ![0, 0] · slices_S506x1024_S128x1024_0_0) : (⟨S506x1024, .f32⟩ : BufTy).Contents (Elt F) → (⟨S128x1024, .f32⟩ : BufTy).Contents (Elt F))),
    (StableHlo.unary main_arg9 main_v11 ((extractStridedSlice S378x1024 ![128, 0] · slices_S506x1024_S378x1024_128_0) : (⟨S506x1024, .f32⟩ : BufTy).Contents (Elt F) → (⟨S378x1024, .f32⟩ : BufTy).Contents (Elt F))),
    (StableHlo.TRef.nullary (StableHlo.TRef.of (T := ⟨S_, .i32⟩) main_call0_c) (constantI S_ 32 0#32)),
    (StableHlo.TRef.unary (StableHlo.TRef.of (T := ⟨S_, .i32⟩) main_call0_c) (StableHlo.TRef.of (T := ⟨S729, .i32⟩) main_call0_v0) (broadcastInDim S729 ![] bcast_S_S729)),
    (StableHlo.TRef.binary (StableHlo.TRef.of (T := ⟨S729, .i32⟩) main_c) (StableHlo.TRef.of (T := ⟨S729, .i32⟩) main_call0_v0) (StableHlo.TRef.of (T := ⟨S729, .i1⟩) main_call0_v1) (cmpi .slt)) ]

/-- The arrays they write. -/
abbrev opsA1W : List (Ref sig .tc) := [main_c, main_cst, main_v0, main_v1, main_v2, main_v3, main_c_0, main_v4, main_v5, main_v6, main_v7, main_v8, main_v9, main_v10, main_v11, main_call0_c, main_call0_v0, main_call0_v1]

set_option maxRecDepth 8192 in
theorem opsA1_writes : (opsA1 : List (HloOp τ sig (Elt F))).Forall fun op => op.writes ⊆ (opsA1W.map (Proc.devRef (τ := τ) .tc)).toFinset :=
  StableHlo.forall_writes_sub_of_map rfl

theorem opsA1_keep (V : Valuation τ sig (Elt F)) (r : Ref sig .tc) (h : r ∉ opsA1W) :
    StableHlo.after opsA1 V (Proc.devRef .tc r) = V (Proc.devRef .tc r) :=
  StableHlo.after_of_writes_sub opsA1 _ opsA1_writes h

set_option maxRecDepth 8192 in
theorem opsA1_sub : (opsA1 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.nullary_bufs_sub .., StableHlo.unary_bufs_sub .., StableHlo.binary_bufs_sub ..⟩

set_option maxRecDepth 8192 in
theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl⟩

/-- Operations of the host, part 2 of those before the first call. -/
abbrev opsA2 : List (HloOp τ sig (Elt F)) :=
  [ (StableHlo.TRef.nullary (StableHlo.TRef.of (T := ⟨S_, .i32⟩) main_call0_c_0) (constantI S_ 32 378#32)),
    (StableHlo.TRef.unary (StableHlo.TRef.of (T := ⟨S_, .i32⟩) main_call0_c_0) (StableHlo.TRef.of (T := ⟨S729, .i32⟩) main_call0_v2) (broadcastInDim S729 ![] bcast_S_S729)),
    (StableHlo.TRef.binary (StableHlo.TRef.of (T := ⟨S729, .i32⟩) main_c) (StableHlo.TRef.of (T := ⟨S729, .i32⟩) main_call0_v2) (StableHlo.TRef.of (T := ⟨S729, .i32⟩) main_call0_v3) addi),
    (StableHlo.TRef.ternary (StableHlo.TRef.of (T := ⟨S729, .i1⟩) main_call0_v1) (StableHlo.TRef.of (T := ⟨S729, .i32⟩) main_call0_v3) (StableHlo.TRef.of (T := ⟨S729, .i32⟩) main_c) (StableHlo.TRef.of (T := ⟨S729, .i32⟩) main_call0_v4) select),
    (StableHlo.TRef.unary (StableHlo.TRef.of (T := ⟨S729, .i32⟩) main_call0_v4) (StableHlo.TRef.of (T := ⟨S729x1, .i32⟩) main_call0_v5) (broadcastInDim S729x1 ![0] bcast_S729_S729x1_0)),
    (StableHlo.TRef.nullary (StableHlo.TRef.of (T := ⟨S1, .i32⟩) main_call0_c_1) (constantI S1 32 377#32)),
    (StableHlo.TRef.nullary (StableHlo.TRef.of (T := ⟨S_, .i32⟩) main_call0_c_2) (constantI S_ 32 0#32)),
    (StableHlo.TRef.unary (StableHlo.TRef.of (T := ⟨S_, .i32⟩) main_call0_c_2) (StableHlo.TRef.of (T := ⟨S729x1, .i32⟩) main_call0_v6) (broadcastInDim S729x1 ![] bcast_S_S729x1)),
    (StableHlo.TRef.binary (StableHlo.TRef.of (T := ⟨S729x1, .i32⟩) main_call0_v5) (StableHlo.TRef.of (T := ⟨S729x1, .i32⟩) main_call0_v6) (StableHlo.TRef.of (T := ⟨S729x1, .i1⟩) main_call0_v7) (cmpi .sge)),
    (StableHlo.TRef.unary (StableHlo.TRef.of (T := ⟨S1, .i32⟩) main_call0_c_1) (StableHlo.TRef.of (T := ⟨S1x1, .i32⟩) main_call0_v8) (broadcastInDim S1x1 ![1] bcast_S1_S1x1_1)),
    (StableHlo.TRef.unary (StableHlo.TRef.of (T := ⟨S1x1, .i32⟩) main_call0_v8) (StableHlo.TRef.of (T := ⟨S729x1, .i32⟩) main_call0_v9) (broadcastInDim S729x1 ![0, 1] bcast_S1x1_S729x1_0_1)),
    (StableHlo.TRef.binary (StableHlo.TRef.of (T := ⟨S729x1, .i32⟩) main_call0_v5) (StableHlo.TRef.of (T := ⟨S729x1, .i32⟩) main_call0_v9) (StableHlo.TRef.of (T := ⟨S729x1, .i1⟩) main_call0_v10) (cmpi .sle)),
    (StableHlo.TRef.binary (StableHlo.TRef.of (T := ⟨S729x1, .i1⟩) main_call0_v7) (StableHlo.TRef.of (T := ⟨S729x1, .i1⟩) main_call0_v10) (StableHlo.TRef.of (T := ⟨S729x1, .i1⟩) main_call0_v11) andi),
    (StableHlo.TRef.nullary (StableHlo.TRef.of (T := ⟨S_, .i1⟩) main_call0_c_3) (constantI S_ 1 1#1)),
    (StableHlo.TRef.binary (StableHlo.TRef.of (T := ⟨S729x1, .i1⟩) main_call0_v11) (StableHlo.TRef.of (T := ⟨S_, .i1⟩) main_call0_c_3) (StableHlo.TRef.of (T := ⟨S729, .i1⟩) main_call0_v12) (fun x v => Host.reduce IntOp.andi x v reducesTo_S729x1_S729_d1 h_S_)),
    (StableHlo.TRef.binary (StableHlo.TRef.of (T := ⟨S378x1024, .f32⟩) main_v11) (StableHlo.TRef.of (T := ⟨S729x1, .i32⟩) main_call0_v5) (StableHlo.TRef.of (T := ⟨S729x1024, .f32⟩) main_call0_v13) (fun x i => Host.gather gather_S378x1024_S729x1_S729x1024_1_0_n_n_0_1_11024 x i)),
    (StableHlo.TRef.unary (StableHlo.TRef.of (T := ⟨S729, .i1⟩) main_call0_v12) (StableHlo.TRef.of (T := ⟨S729x1024, .i1⟩) main_call0_v14) (broadcastInDim S729x1024 ![0] bcast_S729_S729x1024_0)),
    (StableHlo.TRef.nullary (StableHlo.TRef.of (T := ⟨S_, .f32⟩) main_call0_cst) (constant S_ .f32 0x7FC00000#32)) ]

/-- The arrays they write. -/
abbrev opsA2W : List (Ref sig .tc) := [main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst]

set_option maxRecDepth 8192 in
theorem opsA2_writes : (opsA2 : List (HloOp τ sig (Elt F))).Forall fun op => op.writes ⊆ (opsA2W.map (Proc.devRef (τ := τ) .tc)).toFinset :=
  StableHlo.forall_writes_sub_of_map rfl

theorem opsA2_keep (V : Valuation τ sig (Elt F)) (r : Ref sig .tc) (h : r ∉ opsA2W) :
    StableHlo.after opsA2 V (Proc.devRef .tc r) = V (Proc.devRef .tc r) :=
  StableHlo.after_of_writes_sub opsA2 _ opsA2_writes h

set_option maxRecDepth 8192 in
theorem opsA2_sub : (opsA2 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub ..⟩

set_option maxRecDepth 8192 in
theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl⟩

/-- Operations of the host, part 3 of those before the first call. -/
abbrev opsA3 : List (HloOp τ sig (Elt F)) :=
  [ (StableHlo.TRef.unary (StableHlo.TRef.of (T := ⟨S_, .f32⟩) main_call0_cst) (StableHlo.TRef.of (T := ⟨S729x1024, .f32⟩) main_call0_v15) (broadcastInDim S729x1024 ![] bcast_S_S729x1024)),
    (StableHlo.TRef.ternary (StableHlo.TRef.of (T := ⟨S729x1024, .i1⟩) main_call0_v14) (StableHlo.TRef.of (T := ⟨S729x1024, .f32⟩) main_call0_v13) (StableHlo.TRef.of (T := ⟨S729x1024, .f32⟩) main_call0_v15) (StableHlo.TRef.of (T := ⟨S729x1024, .f32⟩) main_v12) select),
    (StableHlo.unary main_v0 main_v13 (broadcastInDim S729x1024 ![0, 1] bcast_S729x1_S729x1024_0_1 : (⟨S729x1, .f32⟩ : BufTy).Contents (Elt F) → (⟨S729x1024, .f32⟩ : BufTy).Contents (Elt F))),
    (StableHlo.binary main_v12 main_v13 main_v14 (mulf : (⟨S729x1024, .f32⟩ : BufTy).Contents (Elt F) → (⟨S729x1024, .f32⟩ : BufTy).Contents (Elt F) → (⟨S729x1024, .f32⟩ : BufTy).Contents (Elt F))),
    (StableHlo.reshape main_arg3 main_v15 (rfl : (.f32 : EltTy) = .f32) shapeCasts_S512_S1x512),
    (StableHlo.reshape main_arg5 main_v16 (rfl : (.f32 : EltTy) = .f32) shapeCasts_S256_S1x256),
    (StableHlo.reshape main_arg7 main_v17 (rfl : (.f32 : EltTy) = .f32) shapeCasts_S128_S1x128),
    (StableHlo.reshape main_arg10 main_v18 (rfl : (.f32 : EltTy) = .f32) shapeCasts_S1024_S1x1024),
    (StableHlo.reshape main_arg12 main_v19 (rfl : (.f32 : EltTy) = .f32) shapeCasts_S1024_S1x1024),
    (StableHlo.reshape main_arg14 main_v20 (rfl : (.f32 : EltTy) = .f32) shapeCasts_S512_S1x512),
    (StableHlo.reshape main_arg16 main_v21 (rfl : (.f32 : EltTy) = .f32) shapeCasts_S256_S1x256),
    (StableHlo.reshape main_arg18 main_v22 (rfl : (.f32 : EltTy) = .f32) shapeCasts_S1_S1x1),
    (StableHlo.nullary main_c_1 (constantI S_ 32 0#32)),
    (StableHlo.unaryIndexed main_v9 ![main_c_1] ⟨S_, .i32⟩ main_v23 ((fun x i => Host.dynamicSlice S53248 x (fun k => (i k (Shape.Idx.first h_S_)).toInt) sliceFits_S106496_S53248) : (⟨S106496, .i32⟩ : BufTy).Contents (Elt F) → (Fin 1 → (⟨S_, .i32⟩ : BufTy).Contents (Elt F)) → (⟨S53248, .i32⟩ : BufTy).Contents (Elt F))),
    (StableHlo.reshape main_v23 main_v24 (rfl : (.i32 : EltTy) = .i32) shapeCasts_S53248_S1x53248) ]

/-- The arrays they write. -/
abbrev opsA3W : List (Ref sig .tc) := [main_call0_v15, main_v12, main_v13, main_v14, main_v15, main_v16, main_v17, main_v18, main_v19, main_v20, main_v21, main_v22, main_c_1, main_v23, main_v24]

set_option maxRecDepth 8192 in
theorem opsA3_writes : (opsA3 : List (HloOp τ sig (Elt F))).Forall fun op => op.writes ⊆ (opsA3W.map (Proc.devRef (τ := τ) .tc)).toFinset :=
  StableHlo.forall_writes_sub_of_map rfl

theorem opsA3_keep (V : Valuation τ sig (Elt F)) (r : Ref sig .tc) (h : r ∉ opsA3W) :
    StableHlo.after opsA3 V (Proc.devRef .tc r) = V (Proc.devRef .tc r) :=
  StableHlo.after_of_writes_sub opsA3 _ opsA3_writes h

set_option maxRecDepth 8192 in
theorem opsA3_sub : (opsA3 : List (HloOp τ sig (Elt F))).Forall fun op => op.bufs ⊆ StableHlo.tcRefs τ sig :=
  ⟨StableHlo.unary_bufs_sub .., StableHlo.ternary_bufs_sub .., StableHlo.unary_bufs_sub .., StableHlo.binary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unaryIndexed_bufs_sub .., StableHlo.reshape_bufs_sub ..⟩

set_option maxRecDepth 8192 in
theorem opsA3_fresh : (opsA3 : List (HloOp τ sig (Elt F))).Forall fun op => op.fresh = ∅ :=
  ⟨rfl, rfl, rfl, rfl, rfl, rfl, rfl, rfl, rfl, rfl, rfl, rfl, rfl, rfl, rfl⟩

/-- Operations of the host, list B. -/
abbrev opsB : List (HloOp τ sig (Elt F)) :=
  [ (StableHlo.nullary main_c_2 (constantI S_ 32 53248#32)),
    (StableHlo.unaryIndexed main_v9 ![main_c_2] ⟨S_, .i32⟩ main_v26 ((fun x i => Host.dynamicSlice S53248 x (fun k => (i k (Shape.Idx.first h_S_)).toInt) sliceFits_S106496_S53248) : (⟨S106496, .i32⟩ : BufTy).Contents (Elt F) → (Fin 1 → (⟨S_, .i32⟩ : BufTy).Contents (Elt F)) → (⟨S53248, .i32⟩ : BufTy).Contents (Elt F))),
    (StableHlo.reshape main_v26 main_v27 (rfl : (.i32 : EltTy) = .i32) shapeCasts_S53248_S1x53248) ]

/-- The arrays they write. -/
abbrev opsBW : List (Ref sig .tc) := [main_c_2, main_v26, main_v27]

set_option maxRecDepth 8192 in
theorem opsB_writes : (opsB : List (HloOp τ sig (Elt F))).Forall fun op => op.writes ⊆ (opsBW.map (Proc.devRef (τ := τ) .tc)).toFinset :=
  StableHlo.forall_writes_sub_of_map rfl

theorem opsB_keep (V : Valuation τ sig (Elt F)) (r : Ref sig .tc) (h : r ∉ opsBW) :
    StableHlo.after opsB V (Proc.devRef .tc r) = V (Proc.devRef .tc r) :=
  StableHlo.after_of_writes_sub opsB _ opsB_writes h

set_option maxRecDepth 8192 in
theorem opsB_sub : (opsB : List (HloOp τ sig (Elt F))).Forall fun op => op.bufs ⊆ StableHlo.tcRefs τ sig :=
  ⟨StableHlo.nullary_bufs_sub .., StableHlo.unaryIndexed_bufs_sub .., StableHlo.reshape_bufs_sub ..⟩

set_option maxRecDepth 8192 in
theorem opsB_fresh : (opsB : List (HloOp τ sig (Elt F))).Forall fun op => op.fresh = ∅ :=
  ⟨rfl, rfl, rfl⟩

/-- Operations of the host, list C. -/
abbrev opsC : List (HloOp τ sig (Elt F)) :=
  [ (StableHlo.nullary main_c_3 (constantI S_ 32 0#32)),
    (StableHlo.nullary main_c_4 (constantI S_ 32 0#32)),
    (StableHlo.unaryIndexed main_arg0 ![main_c_3, main_c_4] ⟨S_, .i32⟩ main_v29 ((fun x i => Host.dynamicSlice S2048x39 x (fun k => (i k (Shape.Idx.first h_S_)).toInt) sliceFits_S4096x39_S2048x39) : (⟨S4096x39, .f32⟩ : BufTy).Contents (Elt F) → (Fin 2 → (⟨S_, .i32⟩ : BufTy).Contents (Elt F)) → (⟨S2048x39, .f32⟩ : BufTy).Contents (Elt F))) ]

/-- The arrays they write. -/
abbrev opsCW : List (Ref sig .tc) := [main_c_3, main_c_4, main_v29]

set_option maxRecDepth 8192 in
theorem opsC_writes : (opsC : List (HloOp τ sig (Elt F))).Forall fun op => op.writes ⊆ (opsCW.map (Proc.devRef (τ := τ) .tc)).toFinset :=
  StableHlo.forall_writes_sub_of_map rfl

theorem opsC_keep (V : Valuation τ sig (Elt F)) (r : Ref sig .tc) (h : r ∉ opsCW) :
    StableHlo.after opsC V (Proc.devRef .tc r) = V (Proc.devRef .tc r) :=
  StableHlo.after_of_writes_sub opsC _ opsC_writes h

set_option maxRecDepth 8192 in
theorem opsC_sub : (opsC : List (HloOp τ sig (Elt F))).Forall fun op => op.bufs ⊆ StableHlo.tcRefs τ sig :=
  ⟨StableHlo.nullary_bufs_sub .., StableHlo.nullary_bufs_sub .., StableHlo.unaryIndexed_bufs_sub ..⟩

set_option maxRecDepth 8192 in
theorem opsC_fresh : (opsC : List (HloOp τ sig (Elt F))).Forall fun op => op.fresh = ∅ :=
  ⟨rfl, rfl, rfl⟩

/-- Operations of the host, list D. -/
abbrev opsD : List (HloOp τ sig (Elt F)) :=
  [ (StableHlo.nullary main_c_5 (constantI S_ 32 2048#32)),
    (StableHlo.nullary main_c_6 (constantI S_ 32 0#32)),
    (StableHlo.unaryIndexed main_arg0 ![main_c_5, main_c_6] ⟨S_, .i32⟩ main_v31 ((fun x i => Host.dynamicSlice S2048x39 x (fun k => (i k (Shape.Idx.first h_S_)).toInt) sliceFits_S4096x39_S2048x39) : (⟨S4096x39, .f32⟩ : BufTy).Contents (Elt F) → (Fin 2 → (⟨S_, .i32⟩ : BufTy).Contents (Elt F)) → (⟨S2048x39, .f32⟩ : BufTy).Contents (Elt F))) ]

/-- The arrays they write. -/
abbrev opsDW : List (Ref sig .tc) := [main_c_5, main_c_6, main_v31]

set_option maxRecDepth 8192 in
theorem opsD_writes : (opsD : List (HloOp τ sig (Elt F))).Forall fun op => op.writes ⊆ (opsDW.map (Proc.devRef (τ := τ) .tc)).toFinset :=
  StableHlo.forall_writes_sub_of_map rfl

theorem opsD_keep (V : Valuation τ sig (Elt F)) (r : Ref sig .tc) (h : r ∉ opsDW) :
    StableHlo.after opsD V (Proc.devRef .tc r) = V (Proc.devRef .tc r) :=
  StableHlo.after_of_writes_sub opsD _ opsD_writes h

set_option maxRecDepth 8192 in
theorem opsD_sub : (opsD : List (HloOp τ sig (Elt F))).Forall fun op => op.bufs ⊆ StableHlo.tcRefs τ sig :=
  ⟨StableHlo.nullary_bufs_sub .., StableHlo.nullary_bufs_sub .., StableHlo.unaryIndexed_bufs_sub ..⟩

set_option maxRecDepth 8192 in
theorem opsD_fresh : (opsD : List (HloOp τ sig (Elt F))).Forall fun op => op.fresh = ∅ :=
  ⟨rfl, rfl, rfl⟩

/-- Operations of the host, list E. -/
abbrev opsE : List (HloOp τ sig (Elt F)) :=
  [ (StableHlo.binary main_v30 main_v32 main_v33 ((fun a b => concatenate S4096x1 0 [⟨S2048x1, a⟩, ⟨S2048x1, b⟩] concatenates_S2048x1_S2048x1_S4096x1_d0) : (⟨S2048x1, .f32⟩ : BufTy).Contents (Elt F) → (⟨S2048x1, .f32⟩ : BufTy).Contents (Elt F) → (⟨S4096x1, .f32⟩ : BufTy).Contents (Elt F))) ]

/-- The arrays they write. -/
abbrev opsEW : List (Ref sig .tc) := [main_v33]

set_option maxRecDepth 8192 in
theorem opsE_writes : (opsE : List (HloOp τ sig (Elt F))).Forall fun op => op.writes ⊆ (opsEW.map (Proc.devRef (τ := τ) .tc)).toFinset :=
  StableHlo.forall_writes_sub_of_map rfl

theorem opsE_keep (V : Valuation τ sig (Elt F)) (r : Ref sig .tc) (h : r ∉ opsEW) :
    StableHlo.after opsE V (Proc.devRef .tc r) = V (Proc.devRef .tc r) :=
  StableHlo.after_of_writes_sub opsE _ opsE_writes h

set_option maxRecDepth 8192 in
theorem opsE_sub : (opsE : List (HloOp τ sig (Elt F))).Forall fun op => op.bufs ⊆ StableHlo.tcRefs τ sig :=
  StableHlo.binary_bufs_sub ..

set_option maxRecDepth 8192 in
theorem opsE_fresh : (opsE : List (HloOp τ sig (Elt F))).Forall fun op => op.fresh = ∅ :=
  rfl

/-- The scoring call numbered `p`, as the host makes it. -/
abbrev scoring (p : Fin 2) : Prog (TpuEff nD τ sig (Elt F) (SparseCore.Sig (Pipeline.Sig Λ₀ (Fin 2) fun p => (pcfgs (F := F) p).Adm) 2) .tc) PUnit :=
  Prog.lift (.customCall (SparseCore.inner (Pipeline.entry p)) ())

set_option maxRecDepth 16384 in
set_option maxHeartbeats 4000000 in
/-- The program on a device: the lists of host operations and the four calls, in order. -/
theorem main_eq (d : Dev nD) : main (F := F) d = (do
    StableHlo.seq opsA1; StableHlo.seq opsA2; StableHlo.seq opsA3
    sc.run d 0
    StableHlo.seq opsB
    sc.run d 1
    StableHlo.seq opsC
    scoring 0
    StableHlo.seq opsD
    scoring 1
    StableHlo.seq opsE) := by
  simp only [main, fn_take.body, fn_where.body, StableHlo.seq, bind_assoc, pure_bind, bind_pure]

end Cert.KernelIdeal.Host

end
-- ==== Proof.Segs.lean ====
/-
  The program's four calls as steps on a device's arrays: a gather call replaces one array by the rows it gathers, a
  scoring call replaces its result by what its grid leaves there, and no other array changes.
-/
module

public import proofs.«01_k».proof.Proof.Calls
public import proofs.«01_k».proof.Proof.Host
public import Idealize.ShloMosaic.Lib.Pipeline.RegionArrays

@[expose] public noncomputable section

namespace Cert.KernelIdeal.Segs

open Cert.KernelIdeal Cert.KernelIdeal.Gen Cert.KernelIdeal.Launch Cert.KernelIdeal.Calls Cert.KernelIdeal.Rows Cert.KernelIdeal.Score
open Idealize.ShloMosaic Idealize.ShloMosaic.Tactic
open Idealize.ShloMosaic.SparseCore.Cfg (HIx)
open Idealize.SL Idealize.SL.RA Idealize.SL.BI
open Idealize.SL.BI.BIBase Idealize.SL.BI.Laws
open scoped Idealize.SL.BI
open Idealize.SL.ProofMode
open Idealize.SL.Sem
open Idealize.ShloMosaic.SparseCore (T)
open TcCoe

variable {F : FTy → Type} [FloatOps F]

local notation "𝕄" => MT nD τ sig (HIx 2) (Elt F) ℕ UU ℕ

/-- All of a device's arrays outside the calls' own storage, at a valuation. -/
abbrev arrs (d : Dev nD) (V : Valuation τ sig (Elt F)) : sProp 𝕄 := StableHlo.held (d.tc : Thread nD τ) (Pipeline.ucRefs τ sig) V

/-- A host array's name on the device. -/
abbrev dr (r : Ref sig .tc) : DevRef τ sig := Proc.devRef .tc r

/-! ## The gather calls -/

/-- The arrays of a gather call. -/
def trio (a b e : Ref sig .tc) : Finset (DevRef τ sig) := {dr a, dr b, dr e}

theorem trio_held (d : Dev nD) (V : Valuation τ sig (Elt F)) (a b e : Ref sig .tc) (h : a ≠ b ∧ a ≠ e ∧ b ≠ e) :
    (StableHlo.held (d.tc : Thread nD τ) (trio a b e) V : sProp 𝕄)
      = iprop(((d.tc : Thread nD τ).loc a ↦{fullShare} V (dr a)) ∗ ((d.tc : Thread nD τ).loc b ↦{fullShare} V (dr b)) ∗ ((d.tc : Thread nD τ).loc e ↦{fullShare} V (dr e))) := by
  have inj : ∀ {x y : Ref sig .tc}, x ≠ y → dr x ≠ dr y := fun hxy he => hxy (Proc.devRef_injective _ he)
  unfold StableHlo.held trio
  rw [SparseCore.bigSep_insert' (by simp only [Finset.mem_insert, Finset.mem_singleton, not_or]; exact ⟨inj h.1, inj h.2.1⟩),
    SparseCore.bigSep_insert' (by simp only [Finset.mem_singleton]; exact inj h.2.2), bigSep_singleton]

theorem mem_arrs {r : Ref sig .tc} (h : r.isScoped = false) : dr r ∈ Pipeline.ucRefs τ sig :=
  Finset.mem_filter.mpr ⟨StableHlo.devRef_mem_tcRefs _, fun h' => Bool.false_ne_true (h.symm.trans h')⟩

theorem trio_sub (a b e : Ref sig .tc) (ha : a.isScoped = false) (hb : b.isScoped = false) (he : e.isScoped = false) :
    trio a b e ⊆ Pipeline.ucRefs τ sig := fun x hx => by
  simp only [trio, Finset.mem_insert, Finset.mem_singleton] at hx
  rcases hx with rfl | rfl | rfl
  · exact mem_arrs ha
  · exact mem_arrs hb
  · exact mem_arrs he

/-- The three arrays of a call out of all of them, and back with the last one replaced. -/
theorem arrs_trio (d : Dev nD) (V : Valuation τ sig (Elt F)) (a b e : Ref sig .tc) (h : a ≠ b ∧ a ≠ e ∧ b ≠ e)
    (hs : trio a b e ⊆ Pipeline.ucRefs τ sig) :
    arrs d V = iprop((((d.tc : Thread nD τ).loc a ↦{fullShare} V (dr a)) ∗ ((d.tc : Thread nD τ).loc b ↦{fullShare} V (dr b)) ∗ ((d.tc : Thread nD τ).loc e ↦{fullShare} V (dr e)))
      ∗ StableHlo.held (d.tc : Thread nD τ) (Pipeline.ucRefs τ sig \ trio a b e) V) := by
  rw [← trio_held d V a b e h]
  exact StableHlo.held_sub_split (d.tc : Thread nD τ) hs V

theorem arrs_put (d : Dev nD) (V : Valuation τ sig (Elt F)) (a b e : Ref sig .tc) (h : a ≠ b ∧ a ≠ e ∧ b ≠ e)
    (hs : trio a b e ⊆ Pipeline.ucRefs τ sig) (f : (dr e).ty.Contents (Elt F)) :
    arrs d (Function.update V (dr e) f) = iprop((((d.tc : Thread nD τ).loc a ↦{fullShare} V (dr a)) ∗ ((d.tc : Thread nD τ).loc b ↦{fullShare} V (dr b)) ∗ ((d.tc : Thread nD τ).loc e ↦{fullShare} f))
      ∗ StableHlo.held (d.tc : Thread nD τ) (Pipeline.ucRefs τ sig \ trio a b e) V) := by
  have inj : ∀ {x y : Ref sig .tc}, x ≠ y → dr x ≠ dr y := fun hxy he => hxy (Proc.devRef_injective _ he)
  rw [arrs_trio d _ a b e h hs, Function.update_of_ne (inj h.2.1), Function.update_of_ne (inj h.2.2), Function.update_self]
  rw [StableHlo.held_congr (d.tc : Thread nD τ) (V := Function.update V (dr e) f) (V' := V) fun x hx => Function.update_of_ne (fun he => (Finset.mem_sdiff.mp hx).2 (by rw [he]; simp [trio])) _ _]

variable (X : Given F)

set_option maxRecDepth 16384 in
theorem gather0 (κ : GSem nD τ sig → ℕ) (d : Dev nD) (V : Valuation τ sig (Elt F)) (ht : V (dr main_arg8) = X.tab d) (hi : V (dr main_v24) = X.idx0 d) :
    iprop((K (F := F)).ctx EH (P X) κ ∗ (K (F := F)).tcSt EH d 0 ∗ arrs d V)
      ⊢ wp frame (wpE ((K (F := F)).defs (D (F := F))) 𝒱 (T d) none) Set.univ ((K (F := F)).run d 0)
          fun _ => iprop((K (F := F)).tcSt EH d 1 ∗ arrs d (Function.update V (dr main_v25) (gath (X.tab d) (X.idx0 d)))) := by
  have hne : main_arg8 ≠ main_v24 ∧ main_arg8 ≠ main_v25 ∧ main_v24 ≠ main_v25 := by decide
  have hs := trio_sub main_arg8 main_v24 main_v25 rfl rfl rfl
  rw [arrs_trio d V main_arg8 main_v24 main_v25 hne hs, arrs_put d V main_arg8 main_v24 main_v25 hne hs, ht, hi]
  iintro ⟨#Hctx, Hst, ⟨Ha, Hb, He⟩, Hr⟩
  iapply ((K (F := F)).wp_run (D (F := F)) 𝒱 (EH := EH) (P := P X) κ d 0)
  isplitr; · iexact Hctx
  isplitl [Hst]; · iexact Hst
  isplitl [Ha Hb He]
  · iapply (call0_in X d (V (dr main_v25)))
    isplitl [Ha]; · iexact Ha
    isplitl [Hb]; · iexact Hb
    iexact He
  iintro ⟨Hst, Hdn⟩
  ihave H := (call0_out X d) $$ Hdn
  icases H with ⟨Ha, Hb, He⟩
  isplitl [Hst]; · iexact Hst
  isplitr [Hr]
  · isplitl [Ha]; · iexact Ha
    isplitl [Hb]; · iexact Hb
    iexact He
  iexact Hr

set_option maxRecDepth 16384 in
theorem gather1 (κ : GSem nD τ sig → ℕ) (d : Dev nD) (V : Valuation τ sig (Elt F)) (ht : V (dr main_arg8) = X.tab d) (hi : V (dr main_v27) = X.idx1 d) :
    iprop((K (F := F)).ctx EH (P X) κ ∗ (K (F := F)).tcSt EH d 1 ∗ arrs d V)
      ⊢ wp frame (wpE ((K (F := F)).defs (D (F := F))) 𝒱 (T d) none) Set.univ ((K (F := F)).run d 1)
          fun _ => iprop((K (F := F)).tcSt EH d 2 ∗ arrs d (Function.update V (dr main_v28) (gath (X.tab d) (X.idx1 d)))) := by
  have hne : main_arg8 ≠ main_v27 ∧ main_arg8 ≠ main_v28 ∧ main_v27 ≠ main_v28 := by decide
  have hs := trio_sub main_arg8 main_v27 main_v28 rfl rfl rfl
  rw [arrs_trio d V main_arg8 main_v27 main_v28 hne hs, arrs_put d V main_arg8 main_v27 main_v28 hne hs, ht, hi]
  iintro ⟨#Hctx, Hst, ⟨Ha, Hb, He⟩, Hr⟩
  iapply ((K (F := F)).wp_run (D (F := F)) 𝒱 (EH := EH) (P := P X) κ d 1)
  isplitr; · iexact Hctx
  isplitl [Hst]; · iexact Hst
  isplitl [Ha Hb He]
  · iapply (call1_in X d (V (dr main_v28)))
    isplitl [Ha]; · iexact Ha
    isplitl [Hb]; · iexact Hb
    iexact He
  iintro ⟨Hst, Hdn⟩
  ihave H := (call1_out X d) $$ Hdn
  icases H with ⟨Ha, Hb, He⟩
  isplitl [Hst]; · iexact Hst
  isplitr [Hr]
  · isplitl [Ha]; · iexact Ha
    isplitl [Hb]; · iexact Hb
    iexact He
  iexact Hr

/-! ## The scoring calls -/

section Scoring

variable (U V : Dev nD → Valuation τ sig (Elt F))

/-- The proof data of both scoring calls, the first entered at the arrays `U`, the second at `V`. -/
def dats : (p : Fin 2) → (c : Dev nD) → Pipeline.Dat τ (Elt F) (HIx 2) ℕ UU ℕ (Pipeline.pin (pcfgs (F := F)) (fun p => (cfgs p).toPCfg_adm) p) c
  | 0 => fun c => dat2 (U c) c
  | 1 => fun c => dat3 (V c) c

/-- The arrays after the first scoring call, and after the second. -/
def out2 (U : Valuation τ sig (Elt F)) (c : Dev nD) : Valuation τ sig (Elt F) :=
  Function.update U (dr main_v30) ((dat2 U c).arrAt 19 cfg2.N)
def out3 (V : Valuation τ sig (Elt F)) (c : Dev nD) : Valuation τ sig (Elt F) :=
  Function.update V (dr main_v32) ((dat3 V c).arrAt 19 cfg3.N)

theorem cut (p : Fin 2) : Pipeline.LevelCut (nD := nD) (pcfgs (F := F)) (fun p => (cfgs p).toPCfg_adm) (none : HIx 2) (K (F := F)).L (K (F := F)).lev p (fun _ => 0) (fun _ => 0) where
  hι c w s := Finset.mem_univ _
  hιb c w s := Nat.le_refl 0
  hD c g i h := absurd h (Nat.lt_irrefl 0)

theorem inputs2 : ∀ w : Fin 20, w ≠ 19 → (cfg2.win w).isOut = false := by decide
theorem inputs3 : ∀ w : Fin 20, w ≠ 19 → (cfg3.win w).isOut = false := by decide

theorem keep2 (V : Valuation τ sig (Elt F)) (c : Dev nD) (w : Fin 20) (hw : (cfg2.win w).isOut = false) (n : ℕ) :
    (dat2 V c).arrAt w n = (dat2 V c).arrAt w 0 := by
  induction n with
  | zero => rfl
  | succ n ih =>
    rw [← ih]
    show (if h : n < cfg2.N then _ else _) = _
    split
    · rw [if_neg (by rw [(cfg2.win w).flush_in hw]; exact Bool.false_ne_true)]
    · rfl

theorem exit2 (V : Valuation τ sig (Elt F)) (c : Dev nD) (w : Fin 20) :
    (dat2 V c).arrAt w cfg2.N = out2 V c (dr (Pipeline.arrRef spec2 w)) := by
  by_cases hw : w = 19
  · subst hw
    exact (Function.update_self (dr main_v30) ((dat2 V c).arrAt 19 cfg2.N) V).symm
  · rw [keep2 V c w (inputs2 w hw)]
    exact (Function.update_of_ne (fun he => hw (winFacts2.arr_inj (Proc.devRef_injective _ he))) _ _).symm

theorem share2 (V : Valuation τ sig (Elt F)) (c : Dev nD) (w : Fin 20) : (dat2 V c).share w = fullShare := by
  unfold Pipeline.Dat.share
  split <;> rfl

/-- The scoring call numbered 0 as a step: the arrays `U` to `out2`. -/
def seg2 : Pipeline.RegionSeg (pcfgs (F := F)) (fun p => (cfgs p).toPCfg_adm) (dats U V) (none : HIx 2) defs₀ 𝒱₀ (K (F := F)).L (K (F := F)).lev 0 :=
  Pipeline.RegionSeg.ofHeld (pcfgs (F := F)) (fun p => (cfgs p).toPCfg_adm) (dats U V) (none : HIx 2) defs₀ 𝒱₀ (K (F := F)).L (K (F := F)).lev 0
    (fun _ => 0) (fun _ => iprop(emp)) (fun _ => iprop(emp)) launch2.toP rfl (fun c => (body2 (U c) c).loose)
    (fun _ _ => rfl) (fun _ => rfl) (fun c w => share2 (U c) c w) (fun c => BI.Entails.refl _) (fun c => BI.Entails.refl _)
    (fun _ => 0) (cut 0) (fun _ => iprop(emp)) U (fun c => out2 (U c) c) (fun _ _ => rfl) (fun c w => exit2 (U c) c w)

theorem keep3 (V : Valuation τ sig (Elt F)) (c : Dev nD) (w : Fin 20) (hw : (cfg3.win w).isOut = false) (n : ℕ) :
    (dat3 V c).arrAt w n = (dat3 V c).arrAt w 0 := by
  induction n with
  | zero => rfl
  | succ n ih =>
    rw [← ih]
    show (if h : n < cfg3.N then _ else _) = _
    split
    · rw [if_neg (by rw [(cfg3.win w).flush_in hw]; exact Bool.false_ne_true)]
    · rfl

theorem exit3 (V : Valuation τ sig (Elt F)) (c : Dev nD) (w : Fin 20) :
    (dat3 V c).arrAt w cfg3.N = out3 V c (dr (Pipeline.arrRef spec3 w)) := by
  by_cases hw : w = 19
  · subst hw
    exact (Function.update_self (dr main_v32) ((dat3 V c).arrAt 19 cfg3.N) V).symm
  · rw [keep3 V c w (inputs3 w hw)]
    exact (Function.update_of_ne (fun he => hw (winFacts3.arr_inj (Proc.devRef_injective _ he))) _ _).symm

theorem share3 (V : Valuation τ sig (Elt F)) (c : Dev nD) (w : Fin 20) : (dat3 V c).share w = fullShare := by
  unfold Pipeline.Dat.share
  split <;> rfl

/-- The scoring call numbered 1 as a step: the arrays `V` to `out3`. -/
def seg3 : Pipeline.RegionSeg (pcfgs (F := F)) (fun p => (cfgs p).toPCfg_adm) (dats U V) (none : HIx 2) defs₀ 𝒱₀ (K (F := F)).L (K (F := F)).lev 1 :=
  Pipeline.RegionSeg.ofHeld (pcfgs (F := F)) (fun p => (cfgs p).toPCfg_adm) (dats U V) (none : HIx 2) defs₀ 𝒱₀ (K (F := F)).L (K (F := F)).lev 1
    (fun _ => 0) (fun _ => iprop(emp)) (fun _ => iprop(emp)) launch3.toP rfl (fun c => (body3 (V c) c).loose)
    (fun _ _ => rfl) (fun _ => rfl) (fun c w => share3 (V c) c w) (fun c => BI.Entails.refl _) (fun c => BI.Entails.refl _)
    (fun _ => 0) (cut 1) (fun _ => iprop(emp)) V (fun c => out3 (V c) c) (fun _ _ => rfl) (fun c w => exit3 (V c) c w)

/-- The host's call of a scoring kernel is the kernel region's own call, lifted to the launch's labels. -/
theorem scoring_eq (p : Fin 2) : Host.scoring (F := F) p = SparseCore.liftProg (.op (.customCall (Pipeline.entry p) ()) .ret) := rfl

theorem lifted (d : Dev nD) (p : Prog (TpuEff nD τ sig (Elt F) (ΛP (F := F)) .tc) PUnit) (Q : PUnit → sProp 𝕄) :
    wp frame (wpE (D (F := F)) 𝒱 (T d) none) Set.univ p Q ⊢ wp frame (wpE ((K (F := F)).defs (D (F := F))) 𝒱 (T d) none) Set.univ (SparseCore.liftProg p) Q :=
  SparseCore.Cfg.wp_liftProg (K (F := F)) (D (F := F)) 𝒱 (T d) Set.univ none p Q

theorem arrs2 (V : Valuation τ sig (Elt F)) (d : Dev nD) : arrs d V
    = iprop(StableHlo.held (d.tc : Thread nD τ) (Pipeline.arrRefs spec2) V ∗ StableHlo.held (d.tc : Thread nD τ) (Pipeline.ucRefs τ sig \ Pipeline.arrRefs spec2) V) :=
  StableHlo.held_sub_split (d.tc : Thread nD τ) (Pipeline.arrRefs_sub_ucRefs spec2 (by decide)) V

theorem arrs2_out (V : Valuation τ sig (Elt F)) (d : Dev nD) : arrs d (out2 V d)
    = iprop(StableHlo.held (d.tc : Thread nD τ) (Pipeline.arrRefs spec2) (out2 V d) ∗ StableHlo.held (d.tc : Thread nD τ) (Pipeline.ucRefs τ sig \ Pipeline.arrRefs spec2) V) := by
  rw [arrs2, StableHlo.held_congr (d.tc : Thread nD τ) (S := Pipeline.ucRefs τ sig \ Pipeline.arrRefs spec2) (V := out2 V d) (V' := V)]
  intro b hb
  refine Function.update_of_ne (fun he => (Finset.mem_sdiff.mp hb).2 ?_) _ _
  rw [he]
  exact Finset.mem_map.mpr ⟨main_v30, Finset.mem_image.mpr ⟨19, Finset.mem_univ _, rfl⟩, rfl⟩

include U V in
set_option maxRecDepth 16384 in
theorem scored2 (d : Dev nD) :
    iprop(boundary (d.tc : Thread nD τ) ∗ arrs d (U d) ∗ (∃ W, owes (d.tc : Thread nD τ) (0 : CellTallies nD τ sig (HIx 2)) W) ∗ levAts (K (F := F)).L (K (F := F)).lev
        ∗ Pipeline.cellsGhost (Pipeline.pin (pcfgs (F := F)) (fun p => (cfgs p).toPCfg_adm)) EP 0 d ∗ Pipeline.toksInit (Pipeline.pin (pcfgs (F := F)) (fun p => (cfgs p).toPCfg_adm)) EP 0 d)
      ⊢ wp frame (wpE ((K (F := F)).defs (D (F := F))) 𝒱 (T d) none) Set.univ (Host.scoring 0)
          fun _ => iprop(boundary (d.tc : Thread nD τ) ∗ arrs d (out2 (U d) d) ∗ ∃ W, owes (d.tc : Thread nD τ) (0 : CellTallies nD τ sig (HIx 2)) W) := by
  rw [scoring_eq 0]
  refine BI.Entails.trans ?_ (lifted d _ _)
  rw [arrs2, arrs2_out]
  have h := (seg2 U V).wp (pcfgs (F := F)) (fun p => (cfgs p).toPCfg_adm) (dats U V) (none : HIx 2) cellOf_inj EP defs₀ 𝒱₀ (K (F := F)).L (K (F := F)).lev d none (fun u h => nomatch h) .ret
    (fun _ => iprop(boundary (d.tc : Thread nD τ) ∗ (StableHlo.held (d.tc : Thread nD τ) (Pipeline.arrRefs spec2) (out2 (U d) d) ∗ StableHlo.held (d.tc : Thread nD τ) (Pipeline.ucRefs τ sig \ Pipeline.arrRefs spec2) (U d))
      ∗ ∃ W, owes (d.tc : Thread nD τ) (0 : CellTallies nD τ sig (HIx 2)) W))
  refine BI.Entails.trans ?_ h
  show (_ : sProp 𝕄) ⊢ _
  iintro ⟨Hb, ⟨Ha, Hr⟩, HO, Hl, Hg, Ht⟩
  isplitl [Hr]
  · iintro ⟨Hb, Hp⟩
    ihave Hp := (show (seg2 U V).post d ⊢ (iprop(StableHlo.held (d.tc : Thread nD τ) (Pipeline.arrRefs spec2) (out2 (U d) d) ∗ emp ∗ emp ∗ ∃ W, owes (d.tc : Thread nD τ) (0 : CellTallies nD τ sig (HIx 2)) W) : sProp 𝕄) from BI.Entails.refl _) $$ Hp
    icases Hp with ⟨Ha, -, -, HO⟩
    rw [wp_ret]; imodintro
    isplitl [Hb]; · iexact Hb
    isplitr [HO]
    · isplitl [Ha]; · iexact Ha
      iexact Hr
    iexact HO
  isplitl [Hb]; · iexact Hb
  isplitl [Ha HO]
  · iapply (show (iprop(StableHlo.held (d.tc : Thread nD τ) (Pipeline.arrRefs spec2) (U d) ∗ emp ∗ emp ∗ ∃ W, owes (d.tc : Thread nD τ) (0 : CellTallies nD τ sig (HIx 2)) W) : sProp 𝕄) ⊢ (seg2 U V).pre d from BI.Entails.refl _)
    isplitl [Ha]; · iexact Ha
    isplitr; · iempintro
    isplitr; · iempintro
    iexact HO
  isplitl [Hl]; · iexact Hl
  isplitl [Hg]; · iexact Hg
  iexact Ht

theorem arrs3 (V : Valuation τ sig (Elt F)) (d : Dev nD) : arrs d V
    = iprop(StableHlo.held (d.tc : Thread nD τ) (Pipeline.arrRefs spec3) V ∗ StableHlo.held (d.tc : Thread nD τ) (Pipeline.ucRefs τ sig \ Pipeline.arrRefs spec3) V) :=
  StableHlo.held_sub_split (d.tc : Thread nD τ) (Pipeline.arrRefs_sub_ucRefs spec3 (by decide)) V

theorem arrs3_out (V : Valuation τ sig (Elt F)) (d : Dev nD) : arrs d (out3 V d)
    = iprop(StableHlo.held (d.tc : Thread nD τ) (Pipeline.arrRefs spec3) (out3 V d) ∗ StableHlo.held (d.tc : Thread nD τ) (Pipeline.ucRefs τ sig \ Pipeline.arrRefs spec3) V) := by
  rw [arrs3, StableHlo.held_congr (d.tc : Thread nD τ) (S := Pipeline.ucRefs τ sig \ Pipeline.arrRefs spec3) (V := out3 V d) (V' := V)]
  intro b hb
  refine Function.update_of_ne (fun he => (Finset.mem_sdiff.mp hb).2 ?_) _ _
  rw [he]
  exact Finset.mem_map.mpr ⟨main_v32, Finset.mem_image.mpr ⟨19, Finset.mem_univ _, rfl⟩, rfl⟩

include U V in
set_option maxRecDepth 16384 in
theorem scored3 (d : Dev nD) :
    iprop(boundary (d.tc : Thread nD τ) ∗ arrs d (V d) ∗ (∃ W, owes (d.tc : Thread nD τ) (0 : CellTallies nD τ sig (HIx 2)) W) ∗ levAts (K (F := F)).L (K (F := F)).lev
        ∗ Pipeline.cellsGhost (Pipeline.pin (pcfgs (F := F)) (fun p => (cfgs p).toPCfg_adm)) EP 1 d ∗ Pipeline.toksInit (Pipeline.pin (pcfgs (F := F)) (fun p => (cfgs p).toPCfg_adm)) EP 1 d)
      ⊢ wp frame (wpE ((K (F := F)).defs (D (F := F))) 𝒱 (T d) none) Set.univ (Host.scoring 1)
          fun _ => iprop(boundary (d.tc : Thread nD τ) ∗ arrs d (out3 (V d) d) ∗ ∃ W, owes (d.tc : Thread nD τ) (0 : CellTallies nD τ sig (HIx 2)) W) := by
  rw [scoring_eq 1]
  refine BI.Entails.trans ?_ (lifted d _ _)
  rw [arrs3, arrs3_out]
  have h := (seg3 U V).wp (pcfgs (F := F)) (fun p => (cfgs p).toPCfg_adm) (dats U V) (none : HIx 2) cellOf_inj EP defs₀ 𝒱₀ (K (F := F)).L (K (F := F)).lev d none (fun u h => nomatch h) .ret
    (fun _ => iprop(boundary (d.tc : Thread nD τ) ∗ (StableHlo.held (d.tc : Thread nD τ) (Pipeline.arrRefs spec3) (out3 (V d) d) ∗ StableHlo.held (d.tc : Thread nD τ) (Pipeline.ucRefs τ sig \ Pipeline.arrRefs spec3) (V d))
      ∗ ∃ W, owes (d.tc : Thread nD τ) (0 : CellTallies nD τ sig (HIx 2)) W))
  refine BI.Entails.trans ?_ h
  show (_ : sProp 𝕄) ⊢ _
  iintro ⟨Hb, ⟨Ha, Hr⟩, HO, Hl, Hg, Ht⟩
  isplitl [Hr]
  · iintro ⟨Hb, Hp⟩
    ihave Hp := (show (seg3 U V).post d ⊢ (iprop(StableHlo.held (d.tc : Thread nD τ) (Pipeline.arrRefs spec3) (out3 (V d) d) ∗ emp ∗ emp ∗ ∃ W, owes (d.tc : Thread nD τ) (0 : CellTallies nD τ sig (HIx 2)) W) : sProp 𝕄) from BI.Entails.refl _) $$ Hp
    icases Hp with ⟨Ha, -, -, HO⟩
    rw [wp_ret]; imodintro
    isplitl [Hb]; · iexact Hb
    isplitr [HO]
    · isplitl [Ha]; · iexact Ha
      iexact Hr
    iexact HO
  isplitl [Hb]; · iexact Hb
  isplitl [Ha HO]
  · iapply (show (iprop(StableHlo.held (d.tc : Thread nD τ) (Pipeline.arrRefs spec3) (V d) ∗ emp ∗ emp ∗ ∃ W, owes (d.tc : Thread nD τ) (0 : CellTallies nD τ sig (HIx 2)) W) : sProp 𝕄) ⊢ (seg3 U V).pre d from BI.Entails.refl _)
    isplitl [Ha]; · iexact Ha
    isplitr; · iempintro
    isplitr; · iempintro
    iexact HO
  isplitl [Hl]; · iexact Hl
  isplitl [Hg]; · iexact Hg
  iexact Ht

end Scoring

end Cert.KernelIdeal.Segs

end
-- ==== Proof.Run.lean ====
/-
  The program's run: from every launch whose table rows are all in range it ends with every semaphore at zero and every
  array at the contents the steps of the host and the four calls leave, one after the other.
-/
module

public import proofs.«01_k».proof.Proof.Segs

@[expose] public noncomputable section

namespace Cert.KernelIdeal.Run

open Cert.KernelIdeal Cert.KernelIdeal.Gen Cert.KernelIdeal.Launch Cert.KernelIdeal.Calls Cert.KernelIdeal.Rows Cert.KernelIdeal.Score
open Cert.KernelIdeal.Host Cert.KernelIdeal.Segs
open Idealize.ShloMosaic Idealize.ShloMosaic.Tactic
open Idealize.ShloMosaic.SparseCore.Cfg (HIx)
open Idealize.ShloMosaic.Rounds
open Idealize.SL Idealize.SL.RA Idealize.SL.BI
open Idealize.SL.BI.BIBase Idealize.SL.BI.Laws
open scoped Idealize.SL.BI
open Idealize.SL.ProofMode
open Idealize.SL.Sem
open Idealize.ShloMosaic.SparseCore (T)
open TcCoe

variable {F : FTy → Type} [FloatOps F]

local notation "𝕄" => MT nD τ sig (HIx 2) (Elt F) ℕ UU ℕ

/-! ## The arrays after each step -/

section Chain

variable (V : Valuation τ sig (Elt F)) (d : Dev nD)

def W1 : Valuation τ sig (Elt F) := StableHlo.after opsA3 (StableHlo.after opsA2 (StableHlo.after opsA1 V))
def W2 : Valuation τ sig (Elt F) := Function.update (W1 V) (dr main_v25) (gath (V (dr main_arg8)) (W1 V (dr main_v24)))
def W3 : Valuation τ sig (Elt F) := StableHlo.after opsB (W2 V)
def W4 : Valuation τ sig (Elt F) := Function.update (W3 V) (dr main_v28) (gath (V (dr main_arg8)) (W3 V (dr main_v27)))
def W5 : Valuation τ sig (Elt F) := StableHlo.after opsC (W4 V)
def W6 : Valuation τ sig (Elt F) := out2 (W5 V) d
def W7 : Valuation τ sig (Elt F) := StableHlo.after opsD (W6 V d)
def W8 : Valuation τ sig (Elt F) := out3 (W7 V d) d
def W9 : Valuation τ sig (Elt F) := StableHlo.after opsE (W8 V d)

/-- Every array some step writes. -/
abbrev written : List (Ref sig .tc) :=
  opsA1W ++ opsA2W ++ opsA3W ++ opsBW ++ opsCW ++ opsDW ++ opsEW ++ [main_v25, main_v28, main_v30, main_v32]

theorem W1_keep (r : Ref sig .tc) (h1 : r ∉ opsA1W) (h2 : r ∉ opsA2W) (h3 : r ∉ opsA3W) : W1 V (dr r) = V (dr r) := by
  unfold W1
  rw [opsA3_keep _ _ h3, opsA2_keep _ _ h2, opsA1_keep _ _ h1]

theorem put_keep (f : Valuation τ sig (Elt F)) (e r : Ref sig .tc) (x : (dr e).ty.Contents (Elt F)) (h : r ≠ e) :
    Function.update f (dr e) x (dr r) = f (dr r) := Function.update_of_ne (fun he => h (Proc.devRef_injective _ he)) _ _

/-- An array no step writes ends as it began. -/
theorem W9_keep (r : Ref sig .tc) (h : r ∉ written) : W9 V d (dr r) = V (dr r) := by
  simp only [written, List.mem_append, not_or, List.mem_cons, List.not_mem_nil, or_false] at h
  obtain ⟨⟨⟨⟨⟨⟨⟨h1, h2⟩, h3⟩, hB⟩, hC⟩, hD⟩, hE⟩, h25, h28, h30, h32⟩ := h
  unfold W9
  rw [opsE_keep _ _ (by simpa using hE)]
  unfold W8 out3
  rw [put_keep _ _ _ _ h32]
  unfold W7
  rw [opsD_keep _ _ (by simpa using hD)]
  unfold W6 out2
  rw [put_keep _ _ _ _ h30]
  unfold W5
  rw [opsC_keep _ _ (by simpa using hC)]
  unfold W4
  rw [put_keep _ _ _ _ h28]
  unfold W3
  rw [opsB_keep _ _ (by simpa using hB)]
  unfold W2
  rw [put_keep _ _ _ _ h25]
  exact W1_keep V r (by simpa using h1) (by simpa using h2) (by simpa using h3)

end Chain

/-! ## The launch -/

variable (m : (ℓ : Loc nD τ sig) → Buf (Elt F) ℓ) (ρ : Dev nD → PrngReg)

/-- A device's arrays at the launch. -/
abbrev W0 (d : Dev nD) : Valuation τ sig (Elt F) := fun b => m (d, b)

/-- The table and the rows' numbers of the two gather calls. -/
def given : Given F where
  tab d := W0 m d (dr main_arg8)
  idx0 d := W1 (W0 m d) (dr main_v24)
  idx1 d := W3 (W0 m d) (dr main_v27)

/-- The pipelines' ghost state on a device: of the two scoring calls, their staging cells' and their tokens. -/
def ghosts (d : Dev nD) : sProp 𝕄 :=
  iprop((bigSep Finset.univ fun p : Fin 2 => Pipeline.cellsGhost (Pipeline.pin (pcfgs (F := F)) (fun p => (cfgs p).toPCfg_adm)) EP p d)
    ∗ bigSep Finset.univ fun p : Fin 2 => Pipeline.toksInit (Pipeline.pin (pcfgs (F := F)) (fun p => (cfgs p).toPCfg_adm)) EP p d)

def u₀ : UU := (initOf (K (F := F)).hsCells (K (F := F)).hsToks,
  initOf (Pipeline.cells (Pipeline.pin (pcfgs (F := F)) (fun p => (cfgs p).toPCfg_adm)) cellOf_inj) (Pipeline.launchToks (Pipeline.pin (pcfgs (F := F)) (fun p => (cfgs p).toPCfg_adm)) cellOf_inj), 1)

theorem own_EP (x : UP) : (BI.own (((Emb.inl : Emb UP (UP × Counters)).trans (embR : Emb (UP × Counters) 𝕄)) x) : sProp 𝕄) = BI.own (EP x) := rfl

theorem hu₀ (X : Given F) : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 2 => (P X).x q thr) := by
  unfold u₀
  iintro Hu
  ihave H := (ownU_pair _ _) $$ Hu
  icases H with ⟨HH, HR⟩
  ihave HR := (own_pair_emb (embR : Emb (UP × Counters) 𝕄) _ _) $$ HR
  icases HR with ⟨HP, -⟩
  ihave HP := (Entails.of_eq (own_EP _)) $$ HP
  imod (Pipeline.fund_ghost (Pipeline.pin (pcfgs (F := F)) (fun p => (cfgs p).toPCfg_adm)) EP cellOf_inj) $$ HP with ⟨Hg, Ht⟩
  imodintro
  isplitl [HH]; · iexact HH
  isplitl [Hg Ht]
  · unfold ghosts
    rw [bigSep_sep']
    isplitl [Hg]; · iexact Hg
    iexact Ht
  rw [show (bigSep Finset.univ fun thr : Thread nD τ => bigSep Finset.univ fun q : Fin 2 => (P (F := F) X).x q thr) = bigSep Finset.univ fun _ => (BI.emp : sProp 𝕄) from
    bigSep_congr fun _ _ => bigSep_emp_const _, bigSep_emp_const]
  iempintro

/-! ## The host's program -/

theorem sub_of {ops : List (HloOp τ sig (Elt F))} (h : ops.Forall fun op => op.bufs ⊆ StableHlo.tcRefs τ sig) :
    ∀ op ∈ ops, op.bufs ⊆ Pipeline.ucRefs τ sig := fun op ho => Pipeline.sub_ucRefs op ((List.forall_iff_forall_mem.mp h) op ho)

theorem fresh_of {ops : List (HloOp τ sig (Elt F))} (h : ops.Forall fun op => op.fresh = ∅) : ∀ op ∈ ops, op.fresh = ∅ :=
  fun op ho => (List.forall_iff_forall_mem.mp h) op ho

/-- A list of host operations as a step. -/
theorem host_step (d : Dev nD) (ops : List (HloOp τ sig (Elt F))) (hs : ∀ op ∈ ops, op.bufs ⊆ Pipeline.ucRefs τ sig) (hf : ∀ op ∈ ops, op.fresh = ∅)
    (V : Valuation τ sig (Elt F)) :
    iprop(boundary (d.tc : Thread nD τ) ∗ arrs d V)
      ⊢ wp frame (wpE ((K (F := F)).defs (D (F := F))) 𝒱 (T d) none) Set.univ (StableHlo.seq ops)
          fun _ => iprop(boundary (d.tc : Thread nD τ) ∗ arrs d (StableHlo.after ops V)) := by
  have h := StableHlo.wp_seq (defs := (K (F := F)).defs (D (F := F))) 𝒱 (bd := none) (E := Set.univ) d (Pipeline.ucRefs τ sig) (fun _ => .ret PUnit.unit)
    (K := fun _ => iprop(boundary (d.tc : Thread nD τ) ∗ arrs d (StableHlo.after ops V))) ops hs hf V
  have e : (StableHlo.seq ops >>= fun _ => (.ret PUnit.unit : Prog (TpuEff nD τ sig (Elt F) (SparseCore.Sig (ΛP (F := F)) 2) .tc) PUnit)) = StableHlo.seq ops := bind_pure _
  rw [e] at h
  iintro H
  ihave H := h $$ H
  iapply H
  iintro H
  rw [wp_ret]; imodintro
  iexact H

/-! ### Every step on the device's whole state -/

section Steps

variable (X : Given F) (κ : GSem nD τ sig → ℕ) (d : Dev nD)

/-- What a device's host thread holds between two steps: `n` gather calls made, its arrays at `V`, and `G` besides. -/
def full (n : ℕ) (V : Valuation τ sig (Elt F)) (G : sProp 𝕄) : sProp 𝕄 :=
  iprop((K (F := F)).ctx EH (P X) κ ∗ (K (F := F)).tcSt EH d n ∗ boundary (d.tc : Thread nD τ) ∗ arrs d V ∗ (K (F := F)).tcSems0 d ∗ G)

theorem chain {A B : sProp 𝕄} {Q : PUnit → sProp 𝕄} {p k : Prog (TpuEff nD τ sig (Elt F) (SparseCore.Sig (ΛP (F := F)) 2) .tc) PUnit}
    (h1 : A ⊢ wp frame (wpE ((K (F := F)).defs (D (F := F))) 𝒱 (T d) none) Set.univ p fun _ => B)
    (h2 : B ⊢ wp frame (wpE ((K (F := F)).defs (D (F := F))) 𝒱 (T d) none) Set.univ k Q) :
    A ⊢ wp frame (wpE ((K (F := F)).defs (D (F := F))) 𝒱 (T d) none) Set.univ (p >>= fun _ => k) Q := by
  rw [wp_bind]
  exact h1.trans (wp_mono frame _ _ fun _ => h2)

theorem host_full {n : ℕ} {V : Valuation τ sig (Elt F)} {G : sProp 𝕄} (ops : List (HloOp τ sig (Elt F)))
    (hs : ops.Forall fun op => op.bufs ⊆ StableHlo.tcRefs τ sig) (hf : ops.Forall fun op => op.fresh = ∅) :
    full X κ d n V G ⊢ wp frame (wpE ((K (F := F)).defs (D (F := F))) 𝒱 (T d) none) Set.univ (StableHlo.seq ops)
      fun _ => full X κ d n (StableHlo.after ops V) G := by
  unfold full
  iintro ⟨#Hc, Hst, Hb, Ha, Hs, HG⟩
  iapply (wp_wand_r frame _ _)
  isplitl [Hb Ha]
  · iapply (host_step d ops (sub_of hs) (fresh_of hf) V)
    isplitl [Hb]; · iexact Hb
    iexact Ha
  iintro %_ ⟨Hb, Ha⟩
  isplitr; · iexact Hc
  isplitl [Hst]; · iexact Hst
  isplitl [Hb]; · iexact Hb
  isplitl [Ha]; · iexact Ha
  isplitl [Hs]; · iexact Hs
  iexact HG

theorem gather0_full {V : Valuation τ sig (Elt F)} {G : sProp 𝕄} (ht : V (dr main_arg8) = X.tab d) (hi : V (dr main_v24) = X.idx0 d) :
    full X κ d 0 V G ⊢ wp frame (wpE ((K (F := F)).defs (D (F := F))) 𝒱 (T d) none) Set.univ ((K (F := F)).run d 0)
      fun _ => full X κ d 1 (Function.update V (dr main_v25) (gath (X.tab d) (X.idx0 d))) G := by
  unfold full
  iintro ⟨#Hc, Hst, Hb, Ha, Hs, HG⟩
  iapply (wp_wand_r frame _ _)
  isplitl [Hst Ha]
  · iapply (gather0 X κ d V ht hi)
    isplitr; · iexact Hc
    isplitl [Hst]; · iexact Hst
    iexact Ha
  iintro %_ ⟨Hst, Ha⟩
  isplitr; · iexact Hc
  isplitl [Hst]; · iexact Hst
  isplitl [Hb]; · iexact Hb
  isplitl [Ha]; · iexact Ha
  isplitl [Hs]; · iexact Hs
  iexact HG

theorem gather1_full {V : Valuation τ sig (Elt F)} {G : sProp 𝕄} (ht : V (dr main_arg8) = X.tab d) (hi : V (dr main_v27) = X.idx1 d) :
    full X κ d 1 V G ⊢ wp frame (wpE ((K (F := F)).defs (D (F := F))) 𝒱 (T d) none) Set.univ ((K (F := F)).run d 1)
      fun _ => full X κ d 2 (Function.update V (dr main_v28) (gath (X.tab d) (X.idx1 d))) G := by
  unfold full
  iintro ⟨#Hc, Hst, Hb, Ha, Hs, HG⟩
  iapply (wp_wand_r frame _ _)
  isplitl [Hst Ha]
  · iapply (gather1 X κ d V ht hi)
    isplitr; · iexact Hc
    isplitl [Hst]; · iexact Hst
    iexact Ha
  iintro %_ ⟨Hst, Ha⟩
  isplitr; · iexact Hc
  isplitl [Hst]; · iexact Hst
  isplitl [Hb]; · iexact Hb
  isplitl [Ha]; · iexact Ha
  isplitl [Hs]; · iexact Hs
  iexact HG

/-- After both gather calls nothing is owed for them any more. -/
theorem settled : (K (F := F)).tcSt EH d 2
    ⊢ (iprop((∃ W, owes (d.tc : Thread nD τ) (0 : CellTallies nD τ sig (HIx 2)) W)
      ∗ ((∃ W, owes (d.tc : Thread nD τ) (0 : CellTallies nD τ sig (HIx 2)) W) -∗ (K (F := F)).tcSt EH d 2)) : sProp 𝕄) := by
  unfold SparseCore.Cfg.tcSt
  rw [(K (F := F)).Otc_end d (Nat.le_refl 2)]
  iintro ⟨⟨%W, %hW, HO⟩, Hr⟩
  isplitl [HO]; · iexists W; iexact HO
  iintro ⟨%W', HO⟩
  isplitl [HO]
  · iexists W'; isplitr; rotate_left; · iexact HO
    ipureintro
    intro p _
    rcases hp : p.2 with _ | q
    · exact Nat.zero_le _
    · have h1 := (K (F := F)).lev_some_le (T d, p.1) q
      have h2 := q.isLt
      exact h1.trans (by show _ ≤ 8 * 2; omega)
  iexact Hr

/-- The ghost state of one scoring call. -/
abbrev ghost (p : Fin 2) : sProp 𝕄 :=
  iprop(Pipeline.cellsGhost (Pipeline.pin (pcfgs (F := F)) (fun p => (cfgs p).toPCfg_adm)) EP p d ∗ Pipeline.toksInit (Pipeline.pin (pcfgs (F := F)) (fun p => (cfgs p).toPCfg_adm)) EP p d)

theorem score2_full {V : Valuation τ sig (Elt F)} {G : sProp 𝕄} :
    full X κ d 2 V iprop(ghost d 0 ∗ G) ⊢ wp frame (wpE ((K (F := F)).defs (D (F := F))) 𝒱 (T d) none) Set.univ (Host.scoring 0)
      fun _ => full X κ d 2 (out2 V d) G := by
  unfold full
  iintro ⟨#Hc, Hst, Hb, Ha, Hs, ⟨Hg, Ht⟩, HG⟩
  ihave H := (settled d) $$ Hst
  icases H with ⟨HO, Hst⟩
  ihave #Hl := (SparseCore.Cfg.ctx_levAts (K := K (F := F)) (EH := EH) (P := P X) κ) $$ Hc
  iapply (wp_wand_r frame _ _)
  isplitl [Hb Ha HO Hg Ht]
  · iapply (scored2 (fun _ => V) (fun _ => V) d)
    isplitl [Hb]; · iexact Hb
    isplitl [Ha]; · iexact Ha
    isplitl [HO]; · iexact HO
    isplitr; · iexact Hl
    isplitl [Hg]; · iexact Hg
    iexact Ht
  iintro %_ ⟨Hb, Ha, HO⟩
  isplitr; · iexact Hc
  isplitl [Hst HO]; · iapply Hst; iexact HO
  isplitl [Hb]; · iexact Hb
  isplitl [Ha]; · iexact Ha
  isplitl [Hs]; · iexact Hs
  iexact HG

theorem score3_full {V : Valuation τ sig (Elt F)} {G : sProp 𝕄} :
    full X κ d 2 V iprop(ghost d 1 ∗ G) ⊢ wp frame (wpE ((K (F := F)).defs (D (F := F))) 𝒱 (T d) none) Set.univ (Host.scoring 1)
      fun _ => full X κ d 2 (out3 V d) G := by
  unfold full
  iintro ⟨#Hc, Hst, Hb, Ha, Hs, ⟨Hg, Ht⟩, HG⟩
  ihave H := (settled d) $$ Hst
  icases H with ⟨HO, Hst⟩
  ihave #Hl := (SparseCore.Cfg.ctx_levAts (K := K (F := F)) (EH := EH) (P := P X) κ) $$ Hc
  iapply (wp_wand_r frame _ _)
  isplitl [Hb Ha HO Hg Ht]
  · iapply (scored3 (fun _ => V) (fun _ => V) d)
    isplitl [Hb]; · iexact Hb
    isplitl [Ha]; · iexact Ha
    isplitl [HO]; · iexact HO
    isplitr; · iexact Hl
    isplitl [Hg]; · iexact Hg
    iexact Ht
  iintro %_ ⟨Hb, Ha, HO⟩
  isplitr; · iexact Hc
  isplitl [Hst HO]; · iapply Hst; iexact HO
  isplitl [Hb]; · iexact Hb
  isplitl [Ha]; · iexact Ha
  isplitl [Hs]; · iexact Hs
  iexact HG

end Steps

/-- A family over the two scoring calls, taken apart. -/
theorem both (Φ : Fin 2 → sProp 𝕄) : bigSep Finset.univ Φ ⊢ (iprop(Φ 0 ∗ Φ 1) : sProp 𝕄) := Entails.of_eq (bigSep_fin_two Φ)

theorem tab_keep (V : Valuation τ sig (Elt F)) : W3 V (dr main_arg8) = V (dr main_arg8) := by
  unfold W3
  rw [opsB_keep _ _ (by decide)]
  unfold W2
  rw [put_keep _ _ _ _ (by decide)]
  exact W1_keep _ _ (by decide) (by decide) (by decide)

theorem starts (κ : GSem nD τ sig → ℕ) (d : Dev nD) : iprop((K (F := F)).ctx EH (P (given m)) κ ∗ (K (F := F)).tcSt EH d 0 ∗ (K (F := F)).tcRes m ρ d ∗ ghosts d)
    ⊢ full (given m) κ d 0 (W0 m d) iprop(ghost d 0 ∗ ghost d 1 ∗ emp) := by
  unfold SparseCore.Cfg.tcRes full ghosts
  rw [show (unscopedBufs d (fun b => m ((d.tc : Thread nD τ).loc b)) : sProp 𝕄) = arrs d (W0 m d) from Pipeline.unscopedBufs_held d (W0 m d)]
  iintro ⟨Hc, Hst, ⟨Hb, Ha, Hs, -⟩, Hg, Ht⟩
  ihave Hg := (both _) $$ Hg
  ihave Ht := (both _) $$ Ht
  icases Hg with ⟨Hg, Hg'⟩
  icases Ht with ⟨Ht, Ht'⟩
  isplitl [Hc]; · iexact Hc
  isplitl [Hst]; · iexact Hst
  isplitl [Hb]; · iexact Hb
  isplitl [Ha]; · iexact Ha
  isplitl [Hs]; · iexact Hs
  isplitl [Hg Ht]
  · isplitl [Hg]; · iexact Hg
    iexact Ht
  isplitl [Hg' Ht']
  · isplitl [Hg']; · iexact Hg'
    iexact Ht'
  iempintro

theorem stops (X : Given F) (κ : GSem nD τ sig → ℕ) (d : Dev nD) (V : Valuation τ sig (Elt F)) :
    full X κ d 2 V iprop(emp) ⊢ iprop((K (F := F)).tcSt EH d 2 ∗ arrs d V ∗ (K (F := F)).tcEnd d) := by
  unfold SparseCore.Cfg.tcEnd full
  iintro ⟨-, Hst, Hb, Ha, Hs, -⟩
  isplitl [Hst]; · iexact Hst
  isplitl [Ha]; · iexact Ha
  isplitl [Hb]; · iexact Hb
  iexact Hs

/-- The eleven steps one after another. -/
theorem steps (d : Dev nD) {p0 p1 p2 p3 p4 p5 p6 p7 p8 p9 p10 : Prog (TpuEff nD τ sig (Elt F) (SparseCore.Sig (ΛP (F := F)) 2) .tc) PUnit} {S A0 A1 A2 A3 A4 A5 A6 A7 A8 A9 A10 A11 E : sProp 𝕄}
    (hS : S ⊢ A0) (hE : A11 ⊢ E)
    (h0 : A0 ⊢ wp frame (wpE ((K (F := F)).defs (D (F := F))) 𝒱 (T d) none) Set.univ (p0) fun _ => A1)
    (h1 : A1 ⊢ wp frame (wpE ((K (F := F)).defs (D (F := F))) 𝒱 (T d) none) Set.univ (p1) fun _ => A2)
    (h2 : A2 ⊢ wp frame (wpE ((K (F := F)).defs (D (F := F))) 𝒱 (T d) none) Set.univ (p2) fun _ => A3)
    (h3 : A3 ⊢ wp frame (wpE ((K (F := F)).defs (D (F := F))) 𝒱 (T d) none) Set.univ (p3) fun _ => A4)
    (h4 : A4 ⊢ wp frame (wpE ((K (F := F)).defs (D (F := F))) 𝒱 (T d) none) Set.univ (p4) fun _ => A5)
    (h5 : A5 ⊢ wp frame (wpE ((K (F := F)).defs (D (F := F))) 𝒱 (T d) none) Set.univ (p5) fun _ => A6)
    (h6 : A6 ⊢ wp frame (wpE ((K (F := F)).defs (D (F := F))) 𝒱 (T d) none) Set.univ (p6) fun _ => A7)
    (h7 : A7 ⊢ wp frame (wpE ((K (F := F)).defs (D (F := F))) 𝒱 (T d) none) Set.univ (p7) fun _ => A8)
    (h8 : A8 ⊢ wp frame (wpE ((K (F := F)).defs (D (F := F))) 𝒱 (T d) none) Set.univ (p8) fun _ => A9)
    (h9 : A9 ⊢ wp frame (wpE ((K (F := F)).defs (D (F := F))) 𝒱 (T d) none) Set.univ (p9) fun _ => A10)
    (h10 : A10 ⊢ wp frame (wpE ((K (F := F)).defs (D (F := F))) 𝒱 (T d) none) Set.univ (p10) fun _ => A11) :
    S ⊢ wp frame (wpE ((K (F := F)).defs (D (F := F))) 𝒱 (T d) none) Set.univ (do p0; p1; p2; p3; p4; p5; p6; p7; p8; p9; p10) fun _ => E :=
  hS.trans <| chain d h0 <| chain d h1 <| chain d h2 <| chain d h3 <| chain d h4 <| chain d h5 <| chain d h6 <| chain d h7 <| chain d h8 <| chain d h9 <| h10.trans (wp_mono frame _ _ fun _ => hE)

theorem became (X : Given F) (κ : GSem nD τ sig → ℕ) (d : Dev nD) {n : ℕ} {V V' : Valuation τ sig (Elt F)} {A G : sProp 𝕄}
    {p : Prog (TpuEff nD τ sig (Elt F) (SparseCore.Sig (ΛP (F := F)) 2) .tc) PUnit}
    (h : A ⊢ wp frame (wpE ((K (F := F)).defs (D (F := F))) 𝒱 (T d) none) Set.univ p fun _ => full X κ d n V G) (e : V = V') :
    A ⊢ wp frame (wpE ((K (F := F)).defs (D (F := F))) 𝒱 (T d) none) Set.univ p fun _ => full X κ d n V' G := by
  subst e; exact h

set_option maxRecDepth 65536 in
set_option maxHeartbeats 4000000 in
/-- The host's program on a device, from the launch to the last array. -/
theorem hmain (κ : GSem nD τ sig → ℕ) (d : Dev nD) :
    iprop((K (F := F)).ctx EH (P (given m)) κ ∗ (K (F := F)).tcSt EH d 0 ∗ (K (F := F)).tcRes m ρ d ∗ ghosts d)
      ⊢ wp frame (wpE ((K (F := F)).defs (D (F := F))) 𝒱 (T d) none) Set.univ (main d) fun _ => iprop((K (F := F)).tcSt EH d 2 ∗ arrs d (W9 (W0 m d) d) ∗ (K (F := F)).tcEnd d) := by
  rw [main_eq]
  have e1 : StableHlo.after opsA3 (StableHlo.after opsA2 (StableHlo.after opsA1 (W0 m d))) = W1 (W0 m d) := by unfold W1; rfl
  have e2 : Function.update (W1 (W0 m d)) (dr main_v25) (gath ((given m).tab d) ((given m).idx0 d)) = W2 (W0 m d) := by unfold W2 given; rfl
  have e3 : StableHlo.after opsB (W2 (W0 m d)) = W3 (W0 m d) := by unfold W3; rfl
  have e4 : Function.update (W3 (W0 m d)) (dr main_v28) (gath ((given m).tab d) ((given m).idx1 d)) = W4 (W0 m d) := by unfold W4 given; rfl
  have e5 : StableHlo.after opsC (W4 (W0 m d)) = W5 (W0 m d) := by unfold W5; rfl
  have e6 : out2 (W5 (W0 m d)) d = W6 (W0 m d) d := by unfold W6; rfl
  have e7 : StableHlo.after opsD (W6 (W0 m d) d) = W7 (W0 m d) d := by unfold W7; rfl
  have e8 : out3 (W7 (W0 m d) d) d = W8 (W0 m d) d := by unfold W8; rfl
  have e9 : StableHlo.after opsE (W8 (W0 m d) d) = W9 (W0 m d) d := by unfold W9; rfl
  have s1 := host_full (given m) κ d (n := 0) (V := W0 m d) (G := iprop(ghost d 0 ∗ ghost d 1 ∗ emp)) opsA1 opsA1_sub opsA1_fresh
  have s2 := host_full (given m) κ d (n := 0) (V := StableHlo.after opsA1 (W0 m d)) (G := iprop(ghost d 0 ∗ ghost d 1 ∗ emp)) opsA2 opsA2_sub opsA2_fresh
  have s3 := host_full (given m) κ d (n := 0) (V := StableHlo.after opsA2 (StableHlo.after opsA1 (W0 m d))) (G := iprop(ghost d 0 ∗ ghost d 1 ∗ emp)) opsA3 opsA3_sub opsA3_fresh
  have s4 := gather0_full (given m) κ d (V := W1 (W0 m d)) (G := iprop(ghost d 0 ∗ ghost d 1 ∗ emp)) (W1_keep _ _ (by decide) (by decide) (by decide)) rfl
  have s5 := host_full (given m) κ d (n := 1) (V := W2 (W0 m d)) (G := iprop(ghost d 0 ∗ ghost d 1 ∗ emp)) opsB opsB_sub opsB_fresh
  have s6 := gather1_full (given m) κ d (V := W3 (W0 m d)) (G := iprop(ghost d 0 ∗ ghost d 1 ∗ emp)) (tab_keep _) rfl
  have s7 := host_full (given m) κ d (n := 2) (V := W4 (W0 m d)) (G := iprop(ghost d 0 ∗ ghost d 1 ∗ emp)) opsC opsC_sub opsC_fresh
  have s8 := score2_full (given m) κ d (V := W5 (W0 m d)) (G := iprop(ghost d 1 ∗ emp))
  have s9 := host_full (given m) κ d (n := 2) (V := W6 (W0 m d) d) (G := iprop(ghost d 1 ∗ emp)) opsD opsD_sub opsD_fresh
  have s10 := score3_full (given m) κ d (V := W7 (W0 m d) d) (G := iprop(emp))
  have s11 := host_full (given m) κ d (n := 2) (V := W8 (W0 m d) d) (G := iprop(emp)) opsE opsE_sub opsE_fresh
  have all := steps d (starts m ρ κ d) (stops (given m) κ d (W9 (W0 m d) d)) s1 s2 (became (given m) κ d s3 e1) (became (given m) κ d s4 e2) (became (given m) κ d s5 e3)
    (became (given m) κ d s6 e4) (became (given m) κ d s7 e5) (became (given m) κ d s8 e6) (became (given m) κ d s9 e7) (became (given m) κ d s10 e8) (became (given m) κ d s11 e9)
  exact all

/-! ## The run -/

/-- What the final memory has on a device: every array outside the calls' own storage at its contents after the last step. -/
def fq (d : Dev nD) (s' : Phys nD τ sig (Elt F)) : Prop := ∀ b ∈ Pipeline.ucRefs τ sig, s'.mem.mem (d, b) = W9 (W0 m d) d b

theorem hfin (d : Dev nD) (s' : Phys nD τ sig (Elt F)) : iprop(arrs d (W9 (W0 m d) d) ∗ SI s') ⊢ (⌜fq m d s'⌝ : sProp 𝕄) := by
  unfold fq arrs StableHlo.held
  iintro ⟨Ha, HS⟩
  iapply (SI_pointsTo_bufs_agree (st := s') (c := d) (qs := fun _ => fullShare) (F := W9 (W0 m d) d) (Pipeline.ucRefs τ sig))
  isplitl [HS]; · iexact HS
  iexact Ha

/-- The run's end: every array outside the calls' own storage as the last step leaves it, every semaphore at zero. -/
def QC : PUnit × MemSt nD τ sig (Elt F) → Prop := fun r =>
  (∀ d : Dev nD, ∀ b ∈ Pipeline.ucRefs τ sig, r.2.mem (d, b) = W9 (W0 m d) d b) ∧ r.2.sem = fun _ => 0

theorem run_main [∀ e, Nonempty (Elt F e)] (hX : (given m).Ok) :
    θ_run (defs (F := F)) (threads (F := F)) ⟨m, fun _ => 0, ρ⟩ (QC m) :=
  SparseCore.Cfg.θ_run_sc_quiescent (K := K (F := F)) (D := D (F := F)) (𝒱 := 𝒱) (EH := EH) (P := P (given m)) (A := ∅) facts v₀
    (fun q hq => match q with | 0 => nomatch hq | 1 => nomatch hq)
    (fun q _ => match q with | 0 => obl0 hX | 1 => obl1 hX)
    (fun q _ => match q with | 0 => SparseCore.Cfg.VecSplit.of_plain (split0 (given m)) | 1 => SparseCore.Cfg.VecSplit.of_plain (split1 (given m)))
    m ρ main (fun d => ghosts d) (fun d => arrs d (W9 (W0 m d) d)) (u₀ (F := F)) (sep_elim_left.trans (hu₀ (given m))) (hmain m ρ) (fq m) (hfin m) (QC m) (fun _ h hz => ⟨h, hz⟩)

end Cert.KernelIdeal.Run

end
-- ==== Proof.Range.lean ====
/-
  The numbers of the table's rows that the kernel gathers, as the host computes them, and that the precondition keeps
  them inside the table.
-/
module

public import proofs.«01_k».proof.Proof.Run
public import proofs.«01_k».proof.Defs
public import Idealize.ShloMosaic.Lib.StableHlo.RunClose
public import Idealize.ShloMosaic.Lib.ReduceAll
public import Idealize.ShloMosaic.Lib.WordCmp

@[expose] public noncomputable section

namespace Cert.KernelIdeal.Range

open Cert.KernelIdeal Cert.KernelIdeal.Gen Cert.KernelIdeal.Launch Cert.KernelIdeal.Host Cert.KernelIdeal.Segs Cert.KernelIdeal.Run Cert.KernelIdeal.Calls
open Idealize.ShloMosaic Idealize.ShloMosaic.Tactic
open Idealize.SL.Sem
open TcCoe

variable {F : FTy → Type} [FloatOps F]

/-- The categories: the input's last columns as words. -/
def cats (x : S4096x39.Idx → F .f32) : S4096x26.Idx → BitVec 32 :=
  fptosi 32 (extractStridedSlice S4096x26 ![0, 13] x slices_S4096x39_S4096x26_0_13)

/-- Where each category's rows begin in the table. -/
def starts : S4096x26.Idx → BitVec 32 :=
  broadcastInDim S4096x26 ![0, 1] bcast_S1x26_S4096x26_0_1 (broadcastInDim S1x26 ![1] bcast_S26_S1x26_1
    (muli (iotaInDim S26 32 0) (broadcastInDim S26 ![] bcast_S_S26 (constantI S_ 32 100000#32))))

/-- Every row number, in one list. -/
def nums (x : S4096x39.Idx → F .f32) : S106496.Idx → BitVec 32 :=
  shapeCast S106496 (addi (cats x) starts) shapeCasts_S4096x26_S106496

/-- The list's half that begins at `c`, as a row. -/
def half (n : S106496.Idx → BitVec 32) (c : BitVec 32) : S1x53248.Idx → BitVec 32 :=
  shapeCast S1x53248 (Idealize.ShloMosaic.Host.dynamicSlice S53248 n (fun k => BitVec.toInt ((![constantI S_ 32 c] : Fin 1 → S_.Idx → BitVec 32) k (Shape.Idx.first h_S_))) sliceFits_S106496_S53248)
    shapeCasts_S53248_S1x53248

set_option maxRecDepth 8192 in
theorem A1_v9 (V : Valuation τ sig (Elt F)) : StableHlo.after opsA1 V (dr main_v9) = nums (V (dr main_arg0)) := by
  unfold opsA1
  after_results_simp_entrywise
  rfl

set_option maxRecDepth 8192 in
theorem A3_v24 (V : Valuation τ sig (Elt F)) : StableHlo.after opsA3 V (dr main_v24) = half (V (dr main_v9)) 0#32 := by
  unfold opsA3
  after_results_simp_entrywise
  rfl

set_option maxRecDepth 8192 in
theorem B_v27 (V : Valuation τ sig (Elt F)) : StableHlo.after opsB V (dr main_v27) = half (V (dr main_v9)) 53248#32 := by
  unfold opsB
  after_results_simp_entrywise
  rfl

theorem W1_v9 (V : Valuation τ sig (Elt F)) : W1 V (dr main_v9) = nums (V (dr main_arg0)) := by
  unfold W1
  rw [opsA3_keep _ _ (by decide), opsA2_keep _ _ (by decide), A1_v9]

theorem W1_v24 (V : Valuation τ sig (Elt F)) : W1 V (dr main_v24) = half (nums (V (dr main_arg0))) 0#32 := by
  unfold W1
  rw [A3_v24, opsA2_keep _ _ (by decide), A1_v9]

theorem W3_v27 (V : Valuation τ sig (Elt F)) : W3 V (dr main_v27) = half (nums (V (dr main_arg0))) 53248#32 := by
  unfold W3
  rw [B_v27]
  unfold W2
  rw [put_keep _ _ _ _ (by decide), W1_v9]

/-! ## In range -/

/-- Every category is below 100000. -/
def InRange (x : S4096x39.Idx → F .f32) : Prop := ∀ i, (cats x i).toNat < 100000

theorem starts_at (i : S4096x26.Idx) : starts i = BitVec.ofNat 32 ((i 1).val * 100000) := by
  show (BitVec.ofNat 32 (i 1).val * 100000#32 : BitVec 32) = _
  rw [BitVec.ofNat_mul]

theorem nums_lt {x : S4096x39.Idx → F .f32} (h : InRange x) (k : S106496.Idx) : (nums x k).toNat < 2600000 := by
  have key : ∀ i : S4096x26.Idx, (addi (cats x) starts i : BitVec 32).toNat < 2600000 := by
    intro i
    show (cats x i + starts i : BitVec 32).toNat < _
    have h1 := h i
    have h2 : (i 1).val < 26 := (i 1).isLt
    have h3 : (i 1).val * 100000 ≤ 2500000 := Nat.mul_le_mul_right 100000 (Nat.le_of_lt_succ h2)
    rw [starts_at, BitVec.toNat_add, BitVec.toNat_ofNat, Nat.mod_eq_of_lt (a := (i 1).val * 100000) (by omega), Nat.mod_eq_of_lt (by omega)]
    omega
  exact key _

theorem half_lt {n : S106496.Idx → BitVec 32} (h : ∀ k, (n k).toNat < 2600000) (c : BitVec 32) (z : S1x53248.Idx) : (half n c z).toNat < 2600000 := h _

theorem ok {m : (ℓ : Loc nD τ sig) → Buf (Elt F) ℓ} (h : ∀ d, InRange (W0 m d (dr main_arg0))) : (given m).Ok := by
  constructor
  · intro d z
    show (W1 (W0 m d) (dr main_v24) z : BitVec 32).toNat < _
    rw [W1_v24]
    exact half_lt (nums_lt (h d)) _ _
  · intro d z
    show (W3 (W0 m d) (dr main_v27) z : BitVec 32).toNat < _
    rw [W3_v27]
    exact half_lt (nums_lt (h d)) _ _

/-- The precondition, as the function that states it computes it. -/
theorem inRange_of_pre [Cert.Pre_cat_in_range.Facts] (x0 : S4096x39.Idx → F .f32) (x1 x2 x3 x4 x5 x6 x7 x8 x9 x10 x11 x12 x13 x14 x15 x16 x17 x18)
    (h : Cert.Pre_cat_in_range.fn (F := F) x0 x1 x2 x3 x4 x5 x6 x7 x8 x9 x10 x11 x12 x13 x14 x15 x16 x17 x18 = fun _ => 1#1) : InRange x0 := by
  intro i
  have e := congrFun h (fun a : Fin 0 => a.elim0)
  haveI : Subsingleton Cert.Pre_cat_in_range.S_.Idx := ⟨fun a b => funext fun k => Fin.elim0 k⟩
  have e' := Idealize.ShloMosaic.Host.reduce_andi_all _ _ _ _ _ e i
  have e2 : IntOp.andi (IntOp.cmpi .sge (cats x0 i) 0#32) (IntOp.cmpi .slt (cats x0 i) 100000#32) = 1#1 := e'
  rw [show (100000#32 : BitVec 32) = BitVec.ofNat 32 100000 from rfl, WordCmp.andi_sge_zero_slt_ofNat (by decide)] at e2
  by_contra hn
  rw [decide_eq_false hn] at e2
  exact absurd e2 (by decide)

end Cert.KernelIdeal.Range

end
-- ==== Proof.Same.lean ====
/-
  The kernel as written and the kernel over ideal numbers are one program: same procedures, same threads.
-/
module

public import proofs.«01_k».proof.Proof.Gen.KernelIdeal
public import proofs.«01_k».proof.Proof.Gen.Kernel

@[expose] public noncomputable section

namespace Cert.KernelIdeal.Same

open Idealize.ShloMosaic Idealize.SL.Sem

attribute [local instance] Cert.KernelIdeal.Gen.facts Cert.Kernel.Gen.facts

variable {F : FTy → Type} [FloatOps F]

set_option maxHeartbeats 0 in
set_option maxRecDepth 100000 in
/-- Label by label and processor by processor, the kernels' bodies are the same text. -/
theorem bodies : Cert.Kernel.defs₀ (F := F) = Cert.KernelIdeal.defs₀ := by
  funext thr l a
  match thr, l, a with
  | .tc, 0, _ => rfl
  | .tc, 1, _ => rfl
  | .tc, 2, (_, _) => rfl
  | .tc, 3, (_, _) => rfl
  | .scVector _ _, 0, _ => rfl
  | .scVector _ _, 1, _ => rfl
  | .scVector _ _, 2, _ => rfl
  | .scVector _ _, 3, _ => rfl
  | .scScalar _, 0, _ => rfl
  | .scScalar _, 1, _ => rfl
  | .scScalar _, 2, _ => rfl
  | .scScalar _, 3, _ => rfl

set_option maxHeartbeats 0 in
set_option maxRecDepth 100000 in
/-- Hence the procedures of the whole programs. -/
theorem procedures : Cert.Kernel.defs (F := F) = Cert.KernelIdeal.defs :=
  congrArg (fun D => Cert.KernelIdeal.sc.defs (Pipeline.defs Cert.KernelIdeal.pcfgs D)) bodies

set_option maxHeartbeats 0 in
set_option maxRecDepth 100000 in
/-- And what each thread runs. -/
theorem starts : Cert.Kernel.threads (F := F) = Cert.KernelIdeal.threads := rfl

set_option maxHeartbeats 0 in
set_option maxRecDepth 100000 in
/-- What is true of the runs of one is true of the runs of the other. -/
theorem transport {s : MemSt Cert.KernelIdeal.nD Cert.KernelIdeal.τ Cert.KernelIdeal.sig (Elt F)} {Q}
    (h : θ_run (Cert.KernelIdeal.defs (F := F)) Cert.KernelIdeal.threads s Q) :
    θ_run (Cert.Kernel.defs (F := F)) Cert.Kernel.threads s Q := by
  have e : θ_run (Cert.Kernel.defs (F := F)) Cert.Kernel.threads s Q
      = θ_run (Cert.KernelIdeal.defs (F := F)) Cert.KernelIdeal.threads s Q :=
    (congrArg (fun D => θ_run D Cert.Kernel.threads s Q) procedures).trans
      (congrArg (fun T => θ_run (Cert.KernelIdeal.defs (F := F)) T s Q) starts)
  exact e ▸ h

end Cert.KernelIdeal.Same

end
-- ==== Proof.Frames.lean ====
/-
  The frames: both programs run to the end, their arguments unchanged and every semaphore at zero.
-/
module

public import proofs.«01_k».proof.Proof.Range
public import proofs.«01_k».proof.Proof.Same
public import proofs.«01_k».proof.Proof.Gen.ReferenceIdeal
public import proofs.«01_k».proof.Proof.Gen.ReferenceIdeal.Run
public import proofs.«01_k».proof.Proof.Gen.Kernel
public import proofs.«01_k».proof.Proof.Gen.Pre_cat_in_range

@[expose] public noncomputable section

namespace Cert.KernelIdeal.Frames

open Cert.KernelIdeal Cert.KernelIdeal.Gen Cert.KernelIdeal.Launch Cert.KernelIdeal.Segs Cert.KernelIdeal.Run Cert.KernelIdeal.Range
open Idealize.ShloMosaic
open Idealize.SL.Sem
open TcCoe

variable {F : FTy → Type} [FloatOps F]
variable {m : (ℓ : Loc nD τ sig) → Buf (Elt F) ℓ}

/-- An array no step writes is in the final memory as it was in the first. -/
theorem QC_keep {r : PUnit × MemSt nD τ sig (Elt F)} (h : QC m r) (c : Dev nD) (b : Ref sig .tc) (hb : b.isScoped = false) (hw : b ∉ written) :
    r.2.mem ((c.tc : Thread nD τ).loc b) = m ((c.tc : Thread nD τ).loc b) :=
  (h.1 c (dr b) (mem_arrs hb)).trans (W9_keep _ c b hw)

/-- Every argument at once. -/
theorem QC_args {r : PUnit × MemSt nD τ sig (Elt F)} (h : QC m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨QC_keep h c main_arg0 rfl (by decide), QC_keep h c main_arg1 rfl (by decide), QC_keep h c main_arg2 rfl (by decide), QC_keep h c main_arg3 rfl (by decide), QC_keep h c main_arg4 rfl (by decide), QC_keep h c main_arg5 rfl (by decide), QC_keep h c main_arg6 rfl (by decide), QC_keep h c main_arg7 rfl (by decide), QC_keep h c main_arg8 rfl (by decide), QC_keep h c main_arg9 rfl (by decide), QC_keep h c main_arg10 rfl (by decide), QC_keep h c main_arg11 rfl (by decide), QC_keep h c main_arg12 rfl (by decide), QC_keep h c main_arg13 rfl (by decide), QC_keep h c main_arg14 rfl (by decide), QC_keep h c main_arg15 rfl (by decide), QC_keep h c main_arg16 rfl (by decide), QC_keep h c main_arg17 rfl (by decide), QC_keep h c main_arg18 rfl (by decide)⟩

/-- The run with the frame's own statement. -/
theorem frame_run [∀ e, Nonempty (Elt F e)] (ρ : Dev nD → PrngReg) (hm : ∀ d, InRange (W0 m d (dr main_arg0))) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) ∧ r.2.sem = fun _ => 0) :=
  (θ_run (defs (F := F)) (threads (F := F)) ⟨m, fun _ => 0, ρ⟩).mono (fun _ h => ⟨fun c => QC_args h c, h.2⟩) (run_main m ρ (ok hm))

/-- `Cert.quiescent_KernelIdeal` (Defs.lean). -/
theorem frame_kernelIdeal : Cert.quiescent_KernelIdeal := fun _ ρ hpre =>
  frame_run ρ fun d => inRange_of_pre _ _ _ _ _ _ _ _ _ _ _ _ _ _ _ _ _ _ _ (hpre d)

/-- `Cert.quiescent_Kernel` (Defs.lean): the two programs' procedures and threads are the same. -/
theorem frame_kernel : Cert.quiescent_Kernel := fun m ρ hpre =>
  Same.transport <| frame_run (F := Bits) (m := m) ρ fun d => inRange_of_pre _ _ _ _ _ _ _ _ _ _ _ _ _ _ _ _ _ _ _ (hpre d)

end Cert.KernelIdeal.Frames

end
-- ==== Proof.Refs.lean ====
/-
  The reference's frame: it is host code alone, without a semaphore, and writes none of its arguments.
-/
module

public import proofs.«01_k».proof.Defs
public import proofs.«01_k».proof.Proof.Gen.ReferenceIdeal
public import proofs.«01_k».proof.Proof.Gen.ReferenceIdeal.Run
public import Idealize.ShloMosaic.Lib.Quiescent

@[expose] public noncomputable section

namespace Cert.ReferenceIdeal.Refs

open Cert.ReferenceIdeal Cert.ReferenceIdeal.Gen
open Idealize.ShloMosaic Idealize.SL.Sem
open TcCoe

attribute [local instance] Cert.ReferenceIdeal.Gen.facts

/-- `Cert.quiescent_ReferenceIdeal` (Defs.lean). -/
theorem frame_reference : Cert.quiescent_ReferenceIdeal := fun m ρ _ =>
  (θ_run _ _ _).mono (fun _ h => ⟨fun c => (h c).2, sem_eq_zero_of_no_sems rfl _⟩) (Cert.ReferenceIdeal.Value.run (F := Ideal) m ρ)

end Cert.ReferenceIdeal.Refs

end
-- ==== Proof.Grid.lean ====
/-
  The blocks that the two scoring calls read and write: which entries of the calls' arrays they hold.
-/
module

public import proofs.«01_k».proof.Proof.Segs
public import Idealize.ShloMosaic.Lib.Pointwise
public import Idealize.ShloMosaic.Lib.Pipeline.ValueKit

@[expose] public noncomputable section

namespace Cert.KernelIdeal.Grid

open Cert.KernelIdeal Cert.KernelIdeal.Gen Cert.KernelIdeal.Launch Cert.KernelIdeal.Body Cert.KernelIdeal.Score Cert.KernelIdeal.Segs
open Idealize.ShloMosaic Idealize.ShloMosaic.Tactic
open TcCoe

variable {F : FTy → Type} [FloatOps F]

/-! ## The first scoring call -/

theorem N_2 : cfg2.N = 4 := by decide

theorem at2_0 : ∀ t : Fin grid2.N, win2_0.index t = ![t.val, 0] := by decide +kernel
theorem blk2_0 (V : Valuation τ sig (Elt F)) (t : Fin cfg2.N) (a : Fin 512) (b : Fin 39) (h : t.val * 512 + a.val < 2048) :
    blk2 V 0 t (ix2 a b) = V (dr main_v29) (ix2 ⟨t.val * 512 + a.val, h⟩ b) := by
  show V (dr main_v29) ((win2_0.blk t).view.emb (ix2 a b)) = _
  congr 1
  blk_ext [at2_0]

theorem at2_1 : ∀ t : Fin grid2.N, win2_1.index t = ![t.val, 0] := by decide +kernel
theorem blk2_1 (V : Valuation τ sig (Elt F)) (t : Fin cfg2.N) (a : Fin 13312) (b : Fin 128) (h : t.val * 13312 + a.val < 53248) :
    blk2 V 1 t (ix2 a b) = V (dr main_v25) (ix2 ⟨t.val * 13312 + a.val, h⟩ b) := by
  show V (dr main_v25) ((win2_1.blk t).view.emb (ix2 a b)) = _
  congr 1
  blk_ext [at2_1]

theorem at2_2 : ∀ t : Fin grid2.N, win2_2.index t = ![0, 0] := by decide +kernel
theorem blk2_2 (V : Valuation τ sig (Elt F)) (t : Fin cfg2.N) (a : Fin 13) (b : Fin 512) :
    blk2 V 2 t (ix2 a b) = V (dr main_arg2) (ix2 a b) := by
  show V (dr main_arg2) ((win2_2.blk t).view.emb (ix2 a b)) = _
  congr 1
  blk_ext [at2_2]

theorem at2_3 : ∀ t : Fin grid2.N, win2_3.index t = ![0, 0] := by decide +kernel
theorem blk2_3 (V : Valuation τ sig (Elt F)) (t : Fin cfg2.N) (a : Fin 1) (b : Fin 512) :
    blk2 V 3 t (ix2 a b) = V (dr main_v15) (ix2 a b) := by
  show V (dr main_v15) ((win2_3.blk t).view.emb (ix2 a b)) = _
  congr 1
  blk_ext [at2_3]

theorem at2_4 : ∀ t : Fin grid2.N, win2_4.index t = ![0, 0] := by decide +kernel
theorem blk2_4 (V : Valuation τ sig (Elt F)) (t : Fin cfg2.N) (a : Fin 512) (b : Fin 256) :
    blk2 V 4 t (ix2 a b) = V (dr main_arg4) (ix2 a b) := by
  show V (dr main_arg4) ((win2_4.blk t).view.emb (ix2 a b)) = _
  congr 1
  blk_ext [at2_4]

theorem at2_5 : ∀ t : Fin grid2.N, win2_5.index t = ![0, 0] := by decide +kernel
theorem blk2_5 (V : Valuation τ sig (Elt F)) (t : Fin cfg2.N) (a : Fin 1) (b : Fin 256) :
    blk2 V 5 t (ix2 a b) = V (dr main_v16) (ix2 a b) := by
  show V (dr main_v16) ((win2_5.blk t).view.emb (ix2 a b)) = _
  congr 1
  blk_ext [at2_5]

theorem at2_6 : ∀ t : Fin grid2.N, win2_6.index t = ![0, 0] := by decide +kernel
theorem blk2_6 (V : Valuation τ sig (Elt F)) (t : Fin cfg2.N) (a : Fin 256) (b : Fin 128) :
    blk2 V 6 t (ix2 a b) = V (dr main_arg6) (ix2 a b) := by
  show V (dr main_arg6) ((win2_6.blk t).view.emb (ix2 a b)) = _
  congr 1
  blk_ext [at2_6]

theorem at2_7 : ∀ t : Fin grid2.N, win2_7.index t = ![0, 0] := by decide +kernel
theorem blk2_7 (V : Valuation τ sig (Elt F)) (t : Fin cfg2.N) (a : Fin 1) (b : Fin 128) :
    blk2 V 7 t (ix2 a b) = V (dr main_v17) (ix2 a b) := by
  show V (dr main_v17) ((win2_7.blk t).view.emb (ix2 a b)) = _
  congr 1
  blk_ext [at2_7]

theorem at2_8 : ∀ t : Fin grid2.N, win2_8.index t = ![0, 0] := by decide +kernel
theorem blk2_8 (V : Valuation τ sig (Elt F)) (t : Fin cfg2.N) (a : Fin 128) (b : Fin 1024) :
    blk2 V 8 t (ix2 a b) = V (dr main_v10) (ix2 a b) := by
  show V (dr main_v10) ((win2_8.blk t).view.emb (ix2 a b)) = _
  congr 1
  blk_ext [at2_8]

theorem at2_9 : ∀ t : Fin grid2.N, win2_9.index t = ![0, 0] := by decide +kernel
theorem blk2_9 (V : Valuation τ sig (Elt F)) (t : Fin cfg2.N) (a : Fin 729) (b : Fin 1024) :
    blk2 V 9 t (ix2 a b) = V (dr main_v14) (ix2 a b) := by
  show V (dr main_v14) ((win2_9.blk t).view.emb (ix2 a b)) = _
  congr 1
  blk_ext [at2_9]

theorem at2_10 : ∀ t : Fin grid2.N, win2_10.index t = ![0, 0] := by decide +kernel
theorem blk2_10 (V : Valuation τ sig (Elt F)) (t : Fin cfg2.N) (a : Fin 1) (b : Fin 1024) :
    blk2 V 10 t (ix2 a b) = V (dr main_v18) (ix2 a b) := by
  show V (dr main_v18) ((win2_10.blk t).view.emb (ix2 a b)) = _
  congr 1
  blk_ext [at2_10]

theorem at2_11 : ∀ t : Fin grid2.N, win2_11.index t = ![0, 0] := by decide +kernel
theorem blk2_11 (V : Valuation τ sig (Elt F)) (t : Fin cfg2.N) (a : Fin 1024) (b : Fin 1024) :
    blk2 V 11 t (ix2 a b) = V (dr main_arg11) (ix2 a b) := by
  show V (dr main_arg11) ((win2_11.blk t).view.emb (ix2 a b)) = _
  congr 1
  blk_ext [at2_11]

theorem at2_12 : ∀ t : Fin grid2.N, win2_12.index t = ![0, 0] := by decide +kernel
theorem blk2_12 (V : Valuation τ sig (Elt F)) (t : Fin cfg2.N) (a : Fin 1) (b : Fin 1024) :
    blk2 V 12 t (ix2 a b) = V (dr main_v19) (ix2 a b) := by
  show V (dr main_v19) ((win2_12.blk t).view.emb (ix2 a b)) = _
  congr 1
  blk_ext [at2_12]

theorem at2_13 : ∀ t : Fin grid2.N, win2_13.index t = ![0, 0] := by decide +kernel
theorem blk2_13 (V : Valuation τ sig (Elt F)) (t : Fin cfg2.N) (a : Fin 1024) (b : Fin 512) :
    blk2 V 13 t (ix2 a b) = V (dr main_arg13) (ix2 a b) := by
  show V (dr main_arg13) ((win2_13.blk t).view.emb (ix2 a b)) = _
  congr 1
  blk_ext [at2_13]

theorem at2_14 : ∀ t : Fin grid2.N, win2_14.index t = ![0, 0] := by decide +kernel
theorem blk2_14 (V : Valuation τ sig (Elt F)) (t : Fin cfg2.N) (a : Fin 1) (b : Fin 512) :
    blk2 V 14 t (ix2 a b) = V (dr main_v20) (ix2 a b) := by
  show V (dr main_v20) ((win2_14.blk t).view.emb (ix2 a b)) = _
  congr 1
  blk_ext [at2_14]

theorem at2_15 : ∀ t : Fin grid2.N, win2_15.index t = ![0, 0] := by decide +kernel
theorem blk2_15 (V : Valuation τ sig (Elt F)) (t : Fin cfg2.N) (a : Fin 512) (b : Fin 256) :
    blk2 V 15 t (ix2 a b) = V (dr main_arg15) (ix2 a b) := by
  show V (dr main_arg15) ((win2_15.blk t).view.emb (ix2 a b)) = _
  congr 1
  blk_ext [at2_15]

theorem at2_16 : ∀ t : Fin grid2.N, win2_16.index t = ![0, 0] := by decide +kernel
theorem blk2_16 (V : Valuation τ sig (Elt F)) (t : Fin cfg2.N) (a : Fin 1) (b : Fin 256) :
    blk2 V 16 t (ix2 a b) = V (dr main_v21) (ix2 a b) := by
  show V (dr main_v21) ((win2_16.blk t).view.emb (ix2 a b)) = _
  congr 1
  blk_ext [at2_16]

theorem at2_17 : ∀ t : Fin grid2.N, win2_17.index t = ![0, 0] := by decide +kernel
theorem blk2_17 (V : Valuation τ sig (Elt F)) (t : Fin cfg2.N) (a : Fin 256) (b : Fin 1) :
    blk2 V 17 t (ix2 a b) = V (dr main_arg17) (ix2 a b) := by
  show V (dr main_arg17) ((win2_17.blk t).view.emb (ix2 a b)) = _
  congr 1
  blk_ext [at2_17]

theorem at2_18 : ∀ t : Fin grid2.N, win2_18.index t = ![0, 0] := by decide +kernel
theorem blk2_18 (V : Valuation τ sig (Elt F)) (t : Fin cfg2.N) (a : Fin 1) (b : Fin 1) :
    blk2 V 18 t (ix2 a b) = V (dr main_v22) (ix2 a b) := by
  show V (dr main_v22) ((win2_18.blk t).view.emb (ix2 a b)) = _
  congr 1
  blk_ext [at2_18]

theorem at2_19 : ∀ t : Fin grid2.N, win2_19.index t = ![t.val, 0] := by decide +kernel

/-- What the call leaves in its result. -/
def rows2 (V : Valuation τ sig (Elt F)) : S2048x1.Idx → F .f32 := fun i =>
  score (ins2 V ⟨(i 0).val / 512, by have h : (i 0).val < 2048 := (i 0).isLt; rw [N_2]; omega⟩) (ix2 ⟨(i 0).val % 512, Nat.mod_lt _ (by decide)⟩ 0)

theorem final2 (V : Valuation τ sig (Elt F)) (c : Dev nD) : (dat2 V c).arrAt 19 cfg2.N = rows2 V := by
  refine (dat2 V c).arrAt_eq_of_covers 19 _ (by decide +kernel) fun t hf y => ?_
  have ht : t.val < 4 := N_2 ▸ t.isLt
  obtain ⟨a, b, rfl⟩ : ∃ (a : Fin 512) (b : Fin 1), y = ix2 a b := ⟨y 0, y 1, eq_ix2 y⟩
  show score (ins2 V t) (ix2 a b) = rows2 V ((win2_19.blk t).view.emb (ix2 a b))
  have e : (win2_19.blk t).view.emb (ix2 a b) = ix2 (⟨t.val * 512 + a.val, by omega⟩ : Fin 2048) b := by blk_ext [at2_19]
  rw [e]
  unfold rows2
  have e1 : (⟨((ix2 (⟨t.val * 512 + a.val, by omega⟩ : Fin 2048) b : S2048x1.Idx) 0).val / 512, by
      show (t.val * 512 + a.val) / 512 < cfg2.N; rw [N_2]; omega⟩ : Fin cfg2.N) = t := Fin.ext (by show (t.val * 512 + a.val) / 512 = t.val; omega)
  have e2 : (⟨((ix2 (⟨t.val * 512 + a.val, by omega⟩ : Fin 2048) b : S2048x1.Idx) 0).val % 512, Nat.mod_lt _ (by decide)⟩ : Fin 512) = a :=
    Fin.ext (by show (t.val * 512 + a.val) % 512 = a.val; omega)
  rw [e1, e2, Subsingleton.elim b 0]

theorem out2_apply (V : Valuation τ sig (Elt F)) (c : Dev nD) : out2 V c (dr main_v30) = rows2 V := by
  unfold out2
  rw [Function.update_self]
  exact final2 V c

/-! ## The second scoring call -/

theorem N_3 : cfg3.N = 4 := by decide

theorem at3_0 : ∀ t : Fin grid3.N, win3_0.index t = ![t.val, 0] := by decide +kernel
theorem blk3_0 (V : Valuation τ sig (Elt F)) (t : Fin cfg3.N) (a : Fin 512) (b : Fin 39) (h : t.val * 512 + a.val < 2048) :
    blk3 V 0 t (ix2 a b) = V (dr main_v31) (ix2 ⟨t.val * 512 + a.val, h⟩ b) := by
  show V (dr main_v31) ((win3_0.blk t).view.emb (ix2 a b)) = _
  congr 1
  blk_ext [at3_0]

theorem at3_1 : ∀ t : Fin grid3.N, win3_1.index t = ![t.val, 0] := by decide +kernel
theorem blk3_1 (V : Valuation τ sig (Elt F)) (t : Fin cfg3.N) (a : Fin 13312) (b : Fin 128) (h : t.val * 13312 + a.val < 53248) :
    blk3 V 1 t (ix2 a b) = V (dr main_v28) (ix2 ⟨t.val * 13312 + a.val, h⟩ b) := by
  show V (dr main_v28) ((win3_1.blk t).view.emb (ix2 a b)) = _
  congr 1
  blk_ext [at3_1]

theorem at3_2 : ∀ t : Fin grid3.N, win3_2.index t = ![0, 0] := by decide +kernel
theorem blk3_2 (V : Valuation τ sig (Elt F)) (t : Fin cfg3.N) (a : Fin 13) (b : Fin 512) :
    blk3 V 2 t (ix2 a b) = V (dr main_arg2) (ix2 a b) := by
  show V (dr main_arg2) ((win3_2.blk t).view.emb (ix2 a b)) = _
  congr 1
  blk_ext [at3_2]

theorem at3_3 : ∀ t : Fin grid3.N, win3_3.index t = ![0, 0] := by decide +kernel
theorem blk3_3 (V : Valuation τ sig (Elt F)) (t : Fin cfg3.N) (a : Fin 1) (b : Fin 512) :
    blk3 V 3 t (ix2 a b) = V (dr main_v15) (ix2 a b) := by
  show V (dr main_v15) ((win3_3.blk t).view.emb (ix2 a b)) = _
  congr 1
  blk_ext [at3_3]

theorem at3_4 : ∀ t : Fin grid3.N, win3_4.index t = ![0, 0] := by decide +kernel
theorem blk3_4 (V : Valuation τ sig (Elt F)) (t : Fin cfg3.N) (a : Fin 512) (b : Fin 256) :
    blk3 V 4 t (ix2 a b) = V (dr main_arg4) (ix2 a b) := by
  show V (dr main_arg4) ((win3_4.blk t).view.emb (ix2 a b)) = _
  congr 1
  blk_ext [at3_4]

theorem at3_5 : ∀ t : Fin grid3.N, win3_5.index t = ![0, 0] := by decide +kernel
theorem blk3_5 (V : Valuation τ sig (Elt F)) (t : Fin cfg3.N) (a : Fin 1) (b : Fin 256) :
    blk3 V 5 t (ix2 a b) = V (dr main_v16) (ix2 a b) := by
  show V (dr main_v16) ((win3_5.blk t).view.emb (ix2 a b)) = _
  congr 1
  blk_ext [at3_5]

theorem at3_6 : ∀ t : Fin grid3.N, win3_6.index t = ![0, 0] := by decide +kernel
theorem blk3_6 (V : Valuation τ sig (Elt F)) (t : Fin cfg3.N) (a : Fin 256) (b : Fin 128) :
    blk3 V 6 t (ix2 a b) = V (dr main_arg6) (ix2 a b) := by
  show V (dr main_arg6) ((win3_6.blk t).view.emb (ix2 a b)) = _
  congr 1
  blk_ext [at3_6]

theorem at3_7 : ∀ t : Fin grid3.N, win3_7.index t = ![0, 0] := by decide +kernel
theorem blk3_7 (V : Valuation τ sig (Elt F)) (t : Fin cfg3.N) (a : Fin 1) (b : Fin 128) :
    blk3 V 7 t (ix2 a b) = V (dr main_v17) (ix2 a b) := by
  show V (dr main_v17) ((win3_7.blk t).view.emb (ix2 a b)) = _
  congr 1
  blk_ext [at3_7]

theorem at3_8 : ∀ t : Fin grid3.N, win3_8.index t = ![0, 0] := by decide +kernel
theorem blk3_8 (V : Valuation τ sig (Elt F)) (t : Fin cfg3.N) (a : Fin 128) (b : Fin 1024) :
    blk3 V 8 t (ix2 a b) = V (dr main_v10) (ix2 a b) := by
  show V (dr main_v10) ((win3_8.blk t).view.emb (ix2 a b)) = _
  congr 1
  blk_ext [at3_8]

theorem at3_9 : ∀ t : Fin grid3.N, win3_9.index t = ![0, 0] := by decide +kernel
theorem blk3_9 (V : Valuation τ sig (Elt F)) (t : Fin cfg3.N) (a : Fin 729) (b : Fin 1024) :
    blk3 V 9 t (ix2 a b) = V (dr main_v14) (ix2 a b) := by
  show V (dr main_v14) ((win3_9.blk t).view.emb (ix2 a b)) = _
  congr 1
  blk_ext [at3_9]

theorem at3_10 : ∀ t : Fin grid3.N, win3_10.index t = ![0, 0] := by decide +kernel
theorem blk3_10 (V : Valuation τ sig (Elt F)) (t : Fin cfg3.N) (a : Fin 1) (b : Fin 1024) :
    blk3 V 10 t (ix2 a b) = V (dr main_v18) (ix2 a b) := by
  show V (dr main_v18) ((win3_10.blk t).view.emb (ix2 a b)) = _
  congr 1
  blk_ext [at3_10]

theorem at3_11 : ∀ t : Fin grid3.N, win3_11.index t = ![0, 0] := by decide +kernel
theorem blk3_11 (V : Valuation τ sig (Elt F)) (t : Fin cfg3.N) (a : Fin 1024) (b : Fin 1024) :
    blk3 V 11 t (ix2 a b) = V (dr main_arg11) (ix2 a b) := by
  show V (dr main_arg11) ((win3_11.blk t).view.emb (ix2 a b)) = _
  congr 1
  blk_ext [at3_11]

theorem at3_12 : ∀ t : Fin grid3.N, win3_12.index t = ![0, 0] := by decide +kernel
theorem blk3_12 (V : Valuation τ sig (Elt F)) (t : Fin cfg3.N) (a : Fin 1) (b : Fin 1024) :
    blk3 V 12 t (ix2 a b) = V (dr main_v19) (ix2 a b) := by
  show V (dr main_v19) ((win3_12.blk t).view.emb (ix2 a b)) = _
  congr 1
  blk_ext [at3_12]

theorem at3_13 : ∀ t : Fin grid3.N, win3_13.index t = ![0, 0] := by decide +kernel
theorem blk3_13 (V : Valuation τ sig (Elt F)) (t : Fin cfg3.N) (a : Fin 1024) (b : Fin 512) :
    blk3 V 13 t (ix2 a b) = V (dr main_arg13) (ix2 a b) := by
  show V (dr main_arg13) ((win3_13.blk t).view.emb (ix2 a b)) = _
  congr 1
  blk_ext [at3_13]

theorem at3_14 : ∀ t : Fin grid3.N, win3_14.index t = ![0, 0] := by decide +kernel
theorem blk3_14 (V : Valuation τ sig (Elt F)) (t : Fin cfg3.N) (a : Fin 1) (b : Fin 512) :
    blk3 V 14 t (ix2 a b) = V (dr main_v20) (ix2 a b) := by
  show V (dr main_v20) ((win3_14.blk t).view.emb (ix2 a b)) = _
  congr 1
  blk_ext [at3_14]

theorem at3_15 : ∀ t : Fin grid3.N, win3_15.index t = ![0, 0] := by decide +kernel
theorem blk3_15 (V : Valuation τ sig (Elt F)) (t : Fin cfg3.N) (a : Fin 512) (b : Fin 256) :
    blk3 V 15 t (ix2 a b) = V (dr main_arg15) (ix2 a b) := by
  show V (dr main_arg15) ((win3_15.blk t).view.emb (ix2 a b)) = _
  congr 1
  blk_ext [at3_15]

theorem at3_16 : ∀ t : Fin grid3.N, win3_16.index t = ![0, 0] := by decide +kernel
theorem blk3_16 (V : Valuation τ sig (Elt F)) (t : Fin cfg3.N) (a : Fin 1) (b : Fin 256) :
    blk3 V 16 t (ix2 a b) = V (dr main_v21) (ix2 a b) := by
  show V (dr main_v21) ((win3_16.blk t).view.emb (ix2 a b)) = _
  congr 1
  blk_ext [at3_16]

theorem at3_17 : ∀ t : Fin grid3.N, win3_17.index t = ![0, 0] := by decide +kernel
theorem blk3_17 (V : Valuation τ sig (Elt F)) (t : Fin cfg3.N) (a : Fin 256) (b : Fin 1) :
    blk3 V 17 t (ix2 a b) = V (dr main_arg17) (ix2 a b) := by
  show V (dr main_arg17) ((win3_17.blk t).view.emb (ix2 a b)) = _
  congr 1
  blk_ext [at3_17]

theorem at3_18 : ∀ t : Fin grid3.N, win3_18.index t = ![0, 0] := by decide +kernel
theorem blk3_18 (V : Valuation τ sig (Elt F)) (t : Fin cfg3.N) (a : Fin 1) (b : Fin 1) :
    blk3 V 18 t (ix2 a b) = V (dr main_v22) (ix2 a b) := by
  show V (dr main_v22) ((win3_18.blk t).view.emb (ix2 a b)) = _
  congr 1
  blk_ext [at3_18]

theorem at3_19 : ∀ t : Fin grid3.N, win3_19.index t = ![t.val, 0] := by decide +kernel

/-- What the call leaves in its result. -/
def rows3 (V : Valuation τ sig (Elt F)) : S2048x1.Idx → F .f32 := fun i =>
  score (ins3 V ⟨(i 0).val / 512, by have h : (i 0).val < 2048 := (i 0).isLt; rw [N_3]; omega⟩) (ix2 ⟨(i 0).val % 512, Nat.mod_lt _ (by decide)⟩ 0)

theorem final3 (V : Valuation τ sig (Elt F)) (c : Dev nD) : (dat3 V c).arrAt 19 cfg3.N = rows3 V := by
  refine (dat3 V c).arrAt_eq_of_covers 19 _ (by decide +kernel) fun t hf y => ?_
  have ht : t.val < 4 := N_3 ▸ t.isLt
  obtain ⟨a, b, rfl⟩ : ∃ (a : Fin 512) (b : Fin 1), y = ix2 a b := ⟨y 0, y 1, eq_ix2 y⟩
  show score (ins3 V t) (ix2 a b) = rows3 V ((win3_19.blk t).view.emb (ix2 a b))
  have e : (win3_19.blk t).view.emb (ix2 a b) = ix2 (⟨t.val * 512 + a.val, by omega⟩ : Fin 2048) b := by blk_ext [at3_19]
  rw [e]
  unfold rows3
  have e1 : (⟨((ix2 (⟨t.val * 512 + a.val, by omega⟩ : Fin 2048) b : S2048x1.Idx) 0).val / 512, by
      show (t.val * 512 + a.val) / 512 < cfg3.N; rw [N_3]; omega⟩ : Fin cfg3.N) = t := Fin.ext (by show (t.val * 512 + a.val) / 512 = t.val; omega)
  have e2 : (⟨((ix2 (⟨t.val * 512 + a.val, by omega⟩ : Fin 2048) b : S2048x1.Idx) 0).val % 512, Nat.mod_lt _ (by decide)⟩ : Fin 512) = a :=
    Fin.ext (by show (t.val * 512 + a.val) % 512 = a.val; omega)
  rw [e1, e2, Subsingleton.elim b 0]

theorem out3_apply (V : Valuation τ sig (Elt F)) (c : Dev nD) : out3 V c (dr main_v32) = rows3 V := by
  unfold out3
  rw [Function.update_self]
  exact final3 V c

end Cert.KernelIdeal.Grid
-- ==== Proof.Take.lean ====
/-
  Taking rows of a matrix at numbers that lie inside it, and taking entries of square matrices at pairs of numbers.
-/
module

public import Idealize.ShloMosaic.Lib.ValueIdxCore
public import Idealize.ShloMosaic.Lib.Pointwise
public import Idealize.ShloMosaic.Lib.ReduceAll
public import Idealize.ShloMosaic.Lib.WordCmp
public import Idealize.ShloMosaic.Lib.Tactic.WordOmega

@[expose] public noncomputable section

namespace Cert.Take

open Idealize.ShloMosaic Idealize.ShloMosaic.Tactic

variable {α : Type}

/-! ## Rows -/

/-- The dimensions of a gather of `B` rows of an `M` by `C` matrix, the numbers of the rows in a column. -/
abbrev rowsOf (M C B : ℕ) (wf : GatherDims.WF ⟨2, ![M, C]⟩ ⟨2, ![B, 1]⟩ ⟨2, ![B, C]⟩ [1] [0] [] [0] [] 1 ![1, C]) :
    GatherDims ⟨2, ![M, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

theorem rows_apply {M C B w : ℕ} (wf : GatherDims.WF ⟨2, ![M, C]⟩ ⟨2, ![B, 1]⟩ ⟨2, ![B, C]⟩ [1] [0] [] [0] [] 1 ![1, C])
    (x : (⟨2, ![M, C]⟩ : Shape).Idx → α) (n : IVec ⟨2, ![B, 1]⟩ w) (q : Fin B) (d : Fin C) (hM : (n (ix2 q 0)).toInt.toNat < M) :
    Host.gather (rowsOf M C B wf) x n (ix2 q d) = x (ix2 ⟨(n (ix2 q 0)).toInt.toNat, hM⟩ d) := by
  unfold Host.gather
  congr 1
  funext a
  refine Fin.ext ?_
  show (rowsOf M C B wf).start (ix2 q d) n a + (rowsOf M C B wf).batchCoord (ix2 q d) a + (rowsOf M C B wf).offCoord (ix2 q d) a = _
  rw [GatherDims.batchCoord_eq_zero _ _ _ List.not_mem_nil, Nat.add_zero]
  match a with
  | ⟨0, _⟩ =>
    have hs : (rowsOf M C B wf).start (ix2 q d) n 0 = min (n (ix2 q 0)).toInt.toNat (M - 1) := by
      unfold GatherDims.start
      rw [dif_pos (List.mem_singleton.mpr rfl)]
      refine congrArg (fun z => min (n z).toInt.toNat (M - 1)) (funext fun b => ?_)
      match b with
      | ⟨0, _⟩ => rfl
      | ⟨1, _⟩ => rfl
    have ho : (rowsOf M C B wf).offCoord (ix2 q d) 0 = 0 := rfl
    show (rowsOf M C B wf).start (ix2 q d) n 0 + (rowsOf M C B wf).offCoord (ix2 q d) 0 = (n (ix2 q 0)).toInt.toNat
    rw [hs, ho]
    omega
  | ⟨1, _⟩ => exact (Nat.zero_add _).trans rfl

/-! ## Entries -/

/-- The dimensions of a gather of `K` entries of each of `R` square matrices, the entries' places in rows of two. -/
abbrev entriesOf (R A K : ℕ) (wf : GatherDims.WF ⟨3, ![R, A, A]⟩ ⟨2, ![K, 2]⟩ ⟨2, ![R, K]⟩ [0] [1, 2] [] [1, 2] [] 1 ![R, 1, 1]) :
    GatherDims ⟨3, ![R, A, A]⟩ ⟨2, ![K, 2]⟩ ⟨2, ![R, K]⟩ where
  offsetDims := [0]
  collapsedSliceDims := [1, 2]
  operandBatchingDims := []
  startIndicesBatchingDims := []
  startIndexMap := [1, 2]
  indexVectorDim := 1
  sliceSizes := ![R, 1, 1]
  wf := wf

theorem entries_apply {R A K w : ℕ}
    (wf : GatherDims.WF ⟨3, ![R, A, A]⟩ ⟨2, ![K, 2]⟩ ⟨2, ![R, K]⟩ [0] [1, 2] [] [1, 2] [] 1 ![R, 1, 1])
    (x : (⟨3, ![R, A, A]⟩ : Shape).Idx → α) (n : IVec ⟨2, ![K, 2]⟩ w) (r : Fin R) (k : Fin K)
    (h0 : (n (ix2 k 0)).toInt.toNat < A) (h1 : (n (ix2 k 1)).toInt.toNat < A) :
    Host.gather (entriesOf R A K wf) x n (ix2 r k)
      = x (ix3 r ⟨(n (ix2 k 0)).toInt.toNat, h0⟩ ⟨(n (ix2 k 1)).toInt.toNat, h1⟩) := by
  unfold Host.gather
  congr 1
  funext a
  refine Fin.ext ?_
  show (entriesOf R A K wf).start (ix2 r k) n a + (entriesOf R A K wf).batchCoord (ix2 r k) a + (entriesOf R A K wf).offCoord (ix2 r k) a = _
  rw [GatherDims.batchCoord_eq_zero _ _ _ List.not_mem_nil, Nat.add_zero]
  match a with
  | ⟨0, _⟩ => exact (Nat.zero_add _).trans rfl
  | ⟨1, _⟩ =>
    have hs : (entriesOf R A K wf).start (ix2 r k) n 1 = min (n (ix2 k 0)).toInt.toNat (A - 1) := by
      unfold GatherDims.start
      rw [dif_pos (show (1 : Fin 3) ∈ ([1, 2] : List (Fin 3)) from by decide)]
      refine congrArg (fun z => min (n z).toInt.toNat (A - 1)) (funext fun b => ?_)
      match b with
      | ⟨0, _⟩ => rfl
      | ⟨1, _⟩ => rfl
    have ho : (entriesOf R A K wf).offCoord (ix2 r k) 1 = 0 := rfl
    show (entriesOf R A K wf).start (ix2 r k) n 1 + (entriesOf R A K wf).offCoord (ix2 r k) 1 = (n (ix2 k 0)).toInt.toNat
    rw [hs, ho]
    omega
  | ⟨2, _⟩ =>
    have hs : (entriesOf R A K wf).start (ix2 r k) n 2 = min (n (ix2 k 1)).toInt.toNat (A - 1) := by
      unfold GatherDims.start
      rw [dif_pos (show (2 : Fin 3) ∈ ([1, 2] : List (Fin 3)) from by decide)]
      refine congrArg (fun z => min (n z).toInt.toNat (A - 1)) (funext fun b => ?_)
      match b with
      | ⟨0, _⟩ => rfl
      | ⟨1, _⟩ => rfl
    have ho : (entriesOf R A K wf).offCoord (ix2 r k) 2 = 0 := rfl
    show (entriesOf R A K wf).start (ix2 r k) n 2 + (entriesOf R A K wf).offCoord (ix2 r k) 2 = (n (ix2 k 1)).toInt.toNat
    rw [hs, ho]
    omega

/-! ## Numbers as words -/

/-- A number below 2³¹ read off its word. -/
theorem toInt_toNat (v : BitVec 32) (h : v.toNat < 2 ^ 31) : v.toInt.toNat = v.toNat := by
  rw [BitVec.toInt_eq_toNat_of_lt (by omega), Int.toNat_natCast]

/-- A number that is not negative is not moved up by the length. -/
theorem wrap_eq (v s : BitVec 32) (h : v.toNat < 2 ^ 31) :
    Scalar.select (IntOp.cmpi .slt v 0#32) s v = v := by
  word_omega

/-- A number below the length is inside. -/
theorem inside (v : BitVec 32) (m : BitVec 32) (h : v.toNat ≤ m.toNat) (hm : m.toNat < 2 ^ 31) :
    IntOp.andi (IntOp.cmpi .sge v 0#32) (IntOp.cmpi .sle v m) = 1#1 := by
  word_omega

end Cert.Take
-- ==== Proof.Model.lean ====
/-
  One sample's score in plain mathematics over the extended reals: dense layers, the pairwise products of the features, the
  top network.
-/
module

public import Idealize.ShloMosaic.Lib.ValueIdxCore
public import Idealize.ShloMosaic.PureOps.Ideal.Laws

@[expose] public noncomputable section

namespace Cert.Model

/-- A dense layer with its cut at zero. -/
def dense {n p : ℕ} (h : Fin n → EReal) (w : Fin n → Fin p → EReal) (b : Fin p → EReal) (j : Fin p) : EReal :=
  max (∑ k, h k * w k j + b j) 0

/-- The weights of the two networks; of the top network's first layer, the part that meets the dense features. -/
structure Net where
  w1 : Fin 13 → Fin 512 → EReal
  b1 : Fin 512 → EReal
  w2 : Fin 512 → Fin 256 → EReal
  b2 : Fin 256 → EReal
  w3 : Fin 256 → Fin 128 → EReal
  b3 : Fin 128 → EReal
  u1 : Fin 128 → Fin 1024 → EReal
  c1 : Fin 1024 → EReal
  u2 : Fin 1024 → Fin 1024 → EReal
  c2 : Fin 1024 → EReal
  u3 : Fin 1024 → Fin 512 → EReal
  c3 : Fin 512 → EReal
  u4 : Fin 512 → Fin 256 → EReal
  c4 : Fin 256 → EReal
  u5 : Fin 256 → EReal
  c5 : EReal

/-- The bottom network. -/
def Net.bot (N : Net) (x : Fin 13 → EReal) : Fin 128 → EReal :=
  dense (dense (dense x N.w1 N.b1) N.w2 N.b2) N.w3 N.b3

/-- The 27 feature vectors of a sample: the bottom network's, then the 26 looked up. -/
def feat (bt : Fin 128 → EReal) (e : Fin 26 → Fin 128 → EReal) (a : Fin 27) (d : Fin 128) : EReal :=
  if h : a.val < 1 then bt d else e ⟨a.val - 1, by omega⟩ d

/-- The inner product of two of the feature vectors. -/
def pair (f : Fin 27 → Fin 128 → EReal) (a b : Fin 27) : EReal := ∑ d, f a d * f b d

/-- The top network after its first layer. -/
def Net.top (N : Net) (h : Fin 1024 → EReal) : EReal :=
  ∑ k, dense (dense (dense h N.u2 N.c2) N.u3 N.c3) N.u4 N.c4 k * N.u5 k + N.c5

/-- The first layer of the top network, `P` the part that the inner products of the features contribute. -/
def Net.first (N : Net) (bt : Fin 128 → EReal) (P : Fin 1024 → EReal) (j : Fin 1024) : EReal :=
  max (∑ k, bt k * N.u1 k j + P j + N.c1 j) 0

/-- The score of a sample with dense features `x` and looked up vectors `e`. -/
def Net.score (N : Net) (x : Fin 13 → EReal) (e : Fin 26 → Fin 128 → EReal)
    (P : (Fin 27 → Fin 27 → EReal) → Fin 1024 → EReal) : EReal :=
  N.top (N.first (N.bot x) (P (pair (feat (N.bot x) e))))

end Cert.Model
-- ==== Proof.Pairs.lean ====
/-
  The inner products of the features, met by the top network's first layer in two ways: every one of the 27 × 27 products
  against a masked and repeated weight, or the 378 on and above the diagonal against the weights themselves. The two agree.
-/
module

public import proofs.«01_k».proof.Proof.Model
public import proofs.«01_k».proof.KernelIdeal
public import proofs.«01_k».proof.ReferenceIdeal
public import Idealize.ShloMosaic.Lib.IdealHost
public import Idealize.ShloMosaic.PureOps.Ideal.Laws

@[expose] public noncomputable section

namespace Cert.Pairs

open Idealize.ShloMosaic

set_option maxRecDepth 65536 in
theorem pos_lt (p : Fin 729) : (Cert.KernelIdeal.lit0 p).toNat < 378 := by
  revert p; decide +kernel

set_option maxRecDepth 65536 in
theorem row_lt (k : Fin 378) : (Cert.ReferenceIdeal.lit0 k).toNat < 27 := by
  revert k; decide +kernel

set_option maxRecDepth 65536 in
theorem col_lt (k : Fin 378) : (Cert.ReferenceIdeal.lit1 k).toNat < 27 := by
  revert k; decide +kernel

/-- The weight's row for product `p` of the 27 × 27. -/
def pos (p : Fin 729) : Fin 378 := ⟨_, pos_lt p⟩
/-- The mask for product `p`, as its bits. -/
def bits (p : Fin 729) : BitVec 32 := Cert.KernelIdeal.lit1 p
/-- The first feature of pair `k`. -/
def row (k : Fin 378) : Fin 27 := ⟨_, row_lt k⟩
/-- The second feature of pair `k`. -/
def col (k : Fin 378) : Fin 27 := ⟨_, col_lt k⟩
/-- The place of pair `k` among the 27 × 27. -/
def cell (k : Fin 378) : Fin 729 := ⟨27 * (row k).val + (col k).val, by have := (row k).isLt; have := (col k).isLt; omega⟩

/-- The features of place `p`. -/
def fst (p : Fin 729) : Fin 27 := ⟨p.val / 27, by omega⟩
def snd (p : Fin 729) : Fin 27 := ⟨p.val % 27, by omega⟩

set_option maxRecDepth 65536 in
theorem pos_cell (k : Fin 378) : pos (cell k) = k := by
  revert k; decide +kernel

set_option maxRecDepth 65536 in
theorem bits_cell (k : Fin 378) : bits (cell k) = 0x3F800000#32 := by
  revert k; decide +kernel

set_option maxRecDepth 65536 in
theorem off_cell (p : Fin 729) : bits p = 0x00000000#32 ∨ cell (pos p) = p := by
  revert p; decide +kernel

theorem fst_cell (k : Fin 378) : fst (cell k) = row k :=
  Fin.ext (by have := (col k).isLt; show (27 * (row k).val + (col k).val) / 27 = _; omega)

theorem snd_cell (k : Fin 378) : snd (cell k) = col k :=
  Fin.ext (by have := (col k).isLt; show (27 * (row k).val + (col k).val) % 27 = _; omega)

/-- The two ways agree. -/
theorem sum_eq (X : Fin 27 → Fin 27 → EReal) (w : Fin 378 → EReal) :
    ∑ p : Fin 729, X (fst p) (snd p) * (Ideal.ofBits .f32 (bits p) * w (pos p))
      = ∑ k : Fin 378, X (row k) (col k) * w k := by
  symm
  refine Finset.sum_of_injOn cell ?_ ?_ ?_ ?_
  · intro a _ b _ h
    simpa only [pos_cell] using congrArg pos h
  · intro _ _; exact Finset.mem_univ _
  · intro p _ hp
    rcases off_cell p with h | h
    · rw [h, Ideal.ofBits_zero_f32, zero_mul, mul_zero]
    · exact absurd ⟨pos p, Finset.mem_coe.2 (Finset.mem_univ _), h⟩ hp
  · intro k _
    rw [pos_cell, bits_cell, Ideal.ofBits_one_f32, one_mul, fst_cell, snd_cell]

end Cert.Pairs
-- ==== Proof.HostValue.lean ====
/-
  What the host's operations around the calls leave in the arrays that the calls read, and what the calls leave there.
-/
module

public import proofs.«01_k».proof.Proof.Range
public import proofs.«01_k».proof.Proof.Grid
public import proofs.«01_k».proof.Proof.Take
public import proofs.«01_k».proof.Proof.Pairs
public import Idealize.ShloMosaic.Lib.DynamicIndex

@[expose] public noncomputable section

namespace Cert.KernelIdeal.HostValue

open Cert.KernelIdeal Cert.KernelIdeal.Gen Cert.KernelIdeal.Launch Cert.KernelIdeal.Host Cert.KernelIdeal.Segs Cert.KernelIdeal.Run
open Cert.KernelIdeal.Range Cert.KernelIdeal.Rows Cert.KernelIdeal.Grid Cert.Take Cert.Pairs
open Idealize.ShloMosaic Idealize.ShloMosaic.Tactic
open TcCoe

variable {F : FTy → Type} [FloatOps F]

/-! ## The masked weights -/

/-- The rows of the weights that the 27 × 27 products meet. -/
def nos : S729.Idx → BitVec 32 := fun i => lit0 (S729.rowMajor i)

/-- The same, a negative one moved up by the length, as a column. -/
def column (n : S729.Idx → BitVec 32) : S729x1.Idx → BitVec 32 :=
  broadcastInDim S729x1 ![0] bcast_S729_S729x1_0
    (select (cmpi .slt n (broadcastInDim S729 ![] bcast_S_S729 (constantI S_ 32 0#32)))
      (addi n (broadcastInDim S729 ![] bcast_S_S729 (constantI S_ 32 378#32))) n)

/-- Which of them lie inside. -/
def inner (k : S729x1.Idx → BitVec 32) : S729.Idx → BitVec 1 :=
  Idealize.ShloMosaic.Host.reduce IntOp.andi (andi (cmpi .sge k (broadcastInDim S729x1 ![] bcast_S_S729x1 (constantI S_ 32 0#32)))
    (cmpi .sle k (broadcastInDim S729x1 ![0, 1] bcast_S1x1_S729x1_0_1 (broadcastInDim S1x1 ![1] bcast_S1_S1x1_1 (constantI S1 32 377#32)))))
    (constantI S_ 1 1#1) reducesTo_S729x1_S729_d1 h_S_

/-- The weights' rows, taken at the numbers. -/
def take (w : S506x1024.Idx → F .f32) (k : S729x1.Idx → BitVec 32) : S729x1024.Idx → F .f32 :=
  select (broadcastInDim S729x1024 ![0] bcast_S729_S729x1024_0 (inner k))
    (Idealize.ShloMosaic.Host.gather gather_S378x1024_S729x1_S729x1024_1_0_n_n_0_1_11024
      (extractStridedSlice S378x1024 ![128, 0] w slices_S506x1024_S378x1024_128_0) k)
    (broadcastInDim S729x1024 ![] bcast_S_S729x1024 (constant S_ .f32 0x7FC00000#32))

/-- The mask. -/
def mask : S729x1024.Idx → F .f32 :=
  broadcastInDim S729x1024 ![0, 1] bcast_S729x1_S729x1024_0_1
    (broadcastInDim S729x1 ![0] bcast_S729_S729x1_0 (fun i => FloatOps.ofBits .f32 (lit1 (S729.rowMajor i))))

set_option maxRecDepth 8192 in
theorem A1_c (V : Valuation τ sig (Elt F)) : StableHlo.after opsA1 V (dr main_c) = nos := by
  unfold opsA1
  after_results_simp_entrywise
  rfl

set_option maxRecDepth 8192 in
theorem A1_v0 (V : Valuation τ sig (Elt F)) : StableHlo.after opsA1 V (dr main_v0)
    = broadcastInDim S729x1 ![0] bcast_S729_S729x1_0 (fun i => FloatOps.ofBits .f32 (lit1 (S729.rowMajor i))) := by
  unfold opsA1
  after_results_simp_entrywise
  rfl

set_option maxRecDepth 8192 in
theorem A1_v10 (V : Valuation τ sig (Elt F)) : StableHlo.after opsA1 V (dr main_v10)
    = extractStridedSlice S128x1024 ![0, 0] (V (dr main_arg9)) slices_S506x1024_S128x1024_0_0 := by
  unfold opsA1
  after_results_simp_entrywise

set_option maxRecDepth 8192 in
theorem A1_v11 (V : Valuation τ sig (Elt F)) : StableHlo.after opsA1 V (dr main_v11)
    = extractStridedSlice S378x1024 ![128, 0] (V (dr main_arg9)) slices_S506x1024_S378x1024_128_0 := by
  unfold opsA1
  after_results_simp_entrywise

set_option maxRecDepth 8192 in
theorem A1_neg (V : Valuation τ sig (Elt F)) : StableHlo.after opsA1 V (dr main_call0_v1)
    = cmpi .slt nos (broadcastInDim S729 ![] bcast_S_S729 (constantI S_ 32 0#32)) := by
  unfold opsA1
  after_results_simp_entrywise
  rfl

set_option maxRecDepth 8192 in
theorem A2_v5 (V : Valuation τ sig (Elt F)) : StableHlo.after opsA2 V (dr main_call0_v5)
    = broadcastInDim S729x1 ![0] bcast_S729_S729x1_0
        (select (V (dr main_call0_v1)) (addi (V (dr main_c)) (broadcastInDim S729 ![] bcast_S_S729 (constantI S_ 32 378#32))) (V (dr main_c))) := by
  unfold opsA2
  after_results_simp_entrywise
  rfl

set_option maxRecDepth 8192 in
theorem A2_v13 (V : Valuation τ sig (Elt F)) : StableHlo.after opsA2 V (dr main_call0_v13)
    = Idealize.ShloMosaic.Host.gather gather_S378x1024_S729x1_S729x1024_1_0_n_n_0_1_11024 (V (dr main_v11))
        (StableHlo.after opsA2 V (dr main_call0_v5)) := by
  unfold opsA2
  after_results_simp_entrywise
  rfl

set_option maxRecDepth 8192 in
theorem A2_v14 (V : Valuation τ sig (Elt F)) : StableHlo.after opsA2 V (dr main_call0_v14)
    = broadcastInDim S729x1024 ![0] bcast_S729_S729x1024_0 (inner (StableHlo.after opsA2 V (dr main_call0_v5))) := by
  unfold opsA2
  after_results_simp_entrywise
  rfl

set_option maxRecDepth 8192 in
theorem A2_cst (V : Valuation τ sig (Elt F)) : StableHlo.after opsA2 V (dr main_call0_cst) = constant S_ .f32 0x7FC00000#32 := by
  unfold opsA2
  after_results_simp_entrywise
  rfl

set_option maxRecDepth 8192 in
theorem A3_v14 (V : Valuation τ sig (Elt F)) : StableHlo.after opsA3 V (dr main_v14)
    = mulf (select (V (dr main_call0_v14)) (V (dr main_call0_v13)) (broadcastInDim S729x1024 ![] bcast_S_S729x1024 (V (dr main_call0_cst))))
        (broadcastInDim S729x1024 ![0, 1] bcast_S729x1_S729x1024_0_1 (V (dr main_v0))) := by
  unfold opsA3
  after_results_simp_entrywise
  rfl

theorem W1_v14 (V : Valuation τ sig (Elt F)) : W1 V (dr main_v14) = mulf (take (V (dr main_arg9)) (column nos)) mask := by
  have e5 : StableHlo.after opsA2 (StableHlo.after opsA1 V) (dr main_call0_v5) = column nos := by
    rw [A2_v5, A1_neg, A1_c]; rfl
  unfold W1
  rw [A3_v14, A2_v14, A2_v13, A2_cst, e5, A1_v11, opsA2_keep _ _ (by decide), A1_v0]
  rfl

theorem W1_v10 (V : Valuation τ sig (Elt F)) : W1 V (dr main_v10)
    = extractStridedSlice S128x1024 ![0, 0] (V (dr main_arg9)) slices_S506x1024_S128x1024_0_0 := by
  unfold W1
  rw [opsA3_keep _ _ (by decide), opsA2_keep _ _ (by decide), A1_v10]

/-! ## The biases as rows -/

set_option maxRecDepth 8192 in
theorem W1_v15 (V : Valuation τ sig (Elt F)) : W1 V (dr main_v15) = shapeCast S1x512 (V (dr main_arg3)) shapeCasts_S512_S1x512 := by
  have e : ∀ U : Valuation τ sig (Elt F), StableHlo.after opsA3 U (dr main_v15) = shapeCast S1x512 (U (dr main_arg3)) shapeCasts_S512_S1x512 := by
    intro U
    unfold opsA3
    after_results_simp_entrywise
    rfl
  unfold W1
  rw [e, opsA2_keep _ _ (by decide), opsA1_keep _ _ (by decide)]

set_option maxRecDepth 8192 in
theorem W1_v16 (V : Valuation τ sig (Elt F)) : W1 V (dr main_v16) = shapeCast S1x256 (V (dr main_arg5)) shapeCasts_S256_S1x256 := by
  have e : ∀ U : Valuation τ sig (Elt F), StableHlo.after opsA3 U (dr main_v16) = shapeCast S1x256 (U (dr main_arg5)) shapeCasts_S256_S1x256 := by
    intro U
    unfold opsA3
    after_results_simp_entrywise
    rfl
  unfold W1
  rw [e, opsA2_keep _ _ (by decide), opsA1_keep _ _ (by decide)]

set_option maxRecDepth 8192 in
theorem W1_v17 (V : Valuation τ sig (Elt F)) : W1 V (dr main_v17) = shapeCast S1x128 (V (dr main_arg7)) shapeCasts_S128_S1x128 := by
  have e : ∀ U : Valuation τ sig (Elt F), StableHlo.after opsA3 U (dr main_v17) = shapeCast S1x128 (U (dr main_arg7)) shapeCasts_S128_S1x128 := by
    intro U
    unfold opsA3
    after_results_simp_entrywise
    rfl
  unfold W1
  rw [e, opsA2_keep _ _ (by decide), opsA1_keep _ _ (by decide)]

set_option maxRecDepth 8192 in
theorem W1_v18 (V : Valuation τ sig (Elt F)) : W1 V (dr main_v18) = shapeCast S1x1024 (V (dr main_arg10)) shapeCasts_S1024_S1x1024 := by
  have e : ∀ U : Valuation τ sig (Elt F), StableHlo.after opsA3 U (dr main_v18) = shapeCast S1x1024 (U (dr main_arg10)) shapeCasts_S1024_S1x1024 := by
    intro U
    unfold opsA3
    after_results_simp_entrywise
    rfl
  unfold W1
  rw [e, opsA2_keep _ _ (by decide), opsA1_keep _ _ (by decide)]

set_option maxRecDepth 8192 in
theorem W1_v19 (V : Valuation τ sig (Elt F)) : W1 V (dr main_v19) = shapeCast S1x1024 (V (dr main_arg12)) shapeCasts_S1024_S1x1024 := by
  have e : ∀ U : Valuation τ sig (Elt F), StableHlo.after opsA3 U (dr main_v19) = shapeCast S1x1024 (U (dr main_arg12)) shapeCasts_S1024_S1x1024 := by
    intro U
    unfold opsA3
    after_results_simp_entrywise
    rfl
  unfold W1
  rw [e, opsA2_keep _ _ (by decide), opsA1_keep _ _ (by decide)]

set_option maxRecDepth 8192 in
theorem W1_v20 (V : Valuation τ sig (Elt F)) : W1 V (dr main_v20) = shapeCast S1x512 (V (dr main_arg14)) shapeCasts_S512_S1x512 := by
  have e : ∀ U : Valuation τ sig (Elt F), StableHlo.after opsA3 U (dr main_v20) = shapeCast S1x512 (U (dr main_arg14)) shapeCasts_S512_S1x512 := by
    intro U
    unfold opsA3
    after_results_simp_entrywise
    rfl
  unfold W1
  rw [e, opsA2_keep _ _ (by decide), opsA1_keep _ _ (by decide)]

set_option maxRecDepth 8192 in
theorem W1_v21 (V : Valuation τ sig (Elt F)) : W1 V (dr main_v21) = shapeCast S1x256 (V (dr main_arg16)) shapeCasts_S256_S1x256 := by
  have e : ∀ U : Valuation τ sig (Elt F), StableHlo.after opsA3 U (dr main_v21) = shapeCast S1x256 (U (dr main_arg16)) shapeCasts_S256_S1x256 := by
    intro U
    unfold opsA3
    after_results_simp_entrywise
    rfl
  unfold W1
  rw [e, opsA2_keep _ _ (by decide), opsA1_keep _ _ (by decide)]

set_option maxRecDepth 8192 in
theorem W1_v22 (V : Valuation τ sig (Elt F)) : W1 V (dr main_v22) = shapeCast S1x1 (V (dr main_arg18)) shapeCasts_S1_S1x1 := by
  have e : ∀ U : Valuation τ sig (Elt F), StableHlo.after opsA3 U (dr main_v22) = shapeCast S1x1 (U (dr main_arg18)) shapeCasts_S1_S1x1 := by
    intro U
    unfold opsA3
    after_results_simp_entrywise
    rfl
  unfold W1
  rw [e, opsA2_keep _ _ (by decide), opsA1_keep _ _ (by decide)]

/-! ## Through the chain -/

theorem W5_keep (V : Valuation τ sig (Elt F)) (r : Ref sig .tc) (h : r ∉ opsBW ++ opsCW ++ [main_v25, main_v28]) : W5 V (dr r) = W1 V (dr r) := by
  simp only [List.mem_append, not_or, List.mem_cons, List.not_mem_nil, or_false] at h
  obtain ⟨⟨hB, hC⟩, h25, h28⟩ := h
  unfold W5
  rw [opsC_keep _ _ (by simpa using hC)]
  unfold W4
  rw [put_keep _ _ _ _ h28]
  unfold W3
  rw [opsB_keep _ _ (by simpa using hB)]
  unfold W2
  rw [put_keep _ _ _ _ h25]

theorem W7_keep (V : Valuation τ sig (Elt F)) (d : Dev nD) (r : Ref sig .tc) (h : r ∉ opsDW ++ [main_v30]) : W7 V d (dr r) = W5 V (dr r) := by
  simp only [List.mem_append, not_or, List.mem_cons, List.not_mem_nil, or_false] at h
  obtain ⟨hD, h30⟩ := h
  unfold W7
  rw [opsD_keep _ _ (by simpa using hD)]
  unfold W6 out2
  rw [put_keep _ _ _ _ h30]

theorem W5_v25 (V : Valuation τ sig (Elt F)) : W5 V (dr main_v25) = gath (V (dr main_arg8)) (half (nums (V (dr main_arg0))) 0#32) := by
  unfold W5
  rw [opsC_keep _ _ (by decide)]
  unfold W4
  rw [put_keep _ _ _ _ (by decide)]
  unfold W3
  rw [opsB_keep _ _ (by decide)]
  unfold W2
  rw [Function.update_self, W1_v24]

theorem W5_v28 (V : Valuation τ sig (Elt F)) : W5 V (dr main_v28) = gath (V (dr main_arg8)) (half (nums (V (dr main_arg0))) 53248#32) := by
  unfold W5
  rw [opsC_keep _ _ (by decide)]
  unfold W4
  rw [Function.update_self, W3_v27]

/-- Half of the samples, from sample `c` on. -/
def some2048 (x : S4096x39.Idx → F .f32) (c : BitVec 32) : S2048x39.Idx → F .f32 :=
  Idealize.ShloMosaic.Host.dynamicSlice S2048x39 x (fun k => BitVec.toInt ((![constantI S_ 32 c, constantI S_ 32 0#32] : Fin 2 → S_.Idx → BitVec 32) k (Shape.Idx.first h_S_))) sliceFits_S4096x39_S2048x39

set_option maxRecDepth 8192 in
theorem W5_v29 (V : Valuation τ sig (Elt F)) : W5 V (dr main_v29) = some2048 (V (dr main_arg0)) 0#32 := by
  have e : ∀ U : Valuation τ sig (Elt F), StableHlo.after opsC U (dr main_v29) = some2048 (U (dr main_arg0)) 0#32 := by
    intro U
    unfold opsC
    after_results_simp_entrywise
    rfl
  unfold W5
  rw [e]
  unfold W4
  rw [put_keep _ _ _ _ (by decide)]
  unfold W3
  rw [opsB_keep _ _ (by decide)]
  unfold W2
  rw [put_keep _ _ _ _ (by decide), W1_keep V _ (by decide) (by decide) (by decide)]

set_option maxRecDepth 8192 in
theorem W7_v31 (V : Valuation τ sig (Elt F)) (d : Dev nD) : W7 V d (dr main_v31) = some2048 (V (dr main_arg0)) 2048#32 := by
  have e : ∀ U : Valuation τ sig (Elt F), StableHlo.after opsD U (dr main_v31) = some2048 (U (dr main_arg0)) 2048#32 := by
    intro U
    unfold opsD
    after_results_simp_entrywise
    rfl
  unfold W7
  rw [e]
  unfold W6 out2
  rw [put_keep _ _ _ _ (by decide), W5_keep V _ (by decide), W1_keep V _ (by decide) (by decide) (by decide)]

theorem W9_v33 (V : Valuation τ sig (Elt F)) (d : Dev nD) : W9 V d (dr main_v33)
    = concatenate S4096x1 0 [⟨S2048x1, rows2 (W5 V)⟩, ⟨S2048x1, rows3 (W7 V d)⟩] concatenates_S2048x1_S2048x1_S4096x1_d0 := by
  have e : ∀ U : Valuation τ sig (Elt F), StableHlo.after opsE U (dr main_v33)
      = concatenate S4096x1 0 [⟨S2048x1, U (dr main_v30)⟩, ⟨S2048x1, U (dr main_v32)⟩] concatenates_S2048x1_S2048x1_S4096x1_d0 := by
    intro U
    unfold opsE
    after_results_simp_entrywise
  have e30 : W8 V d (dr main_v30) = rows2 (W5 V) := by
    unfold W8 out3
    rw [put_keep _ _ _ _ (by decide)]
    unfold W7
    rw [opsD_keep _ _ (by decide)]
    unfold W6
    exact out2_apply (W5 V) d
  have e32 : W8 V d (dr main_v32) = rows3 (W7 V d) := by
    unfold W8
    exact out3_apply (W7 V d) d
  unfold W9
  rw [e, e30, e32]

end Cert.KernelIdeal.HostValue
-- ==== Proof.Entries.lean ====
/-
  The entries of the arrays that the scoring calls read, in the entries of the program's arguments.
-/
module

public import proofs.«01_k».proof.Proof.HostValue
public import Idealize.ShloMosaic.PureOps.Ideal.Laws

@[expose] public noncomputable section

namespace Cert.KernelIdeal.Entries

open Cert.KernelIdeal Cert.KernelIdeal.Gen Cert.KernelIdeal.Range Cert.KernelIdeal.Rows Cert.KernelIdeal.HostValue Cert.Take Cert.Pairs
open Idealize.ShloMosaic Idealize.ShloMosaic.Tactic
open TcCoe

/-! ## The masked weights -/

theorem nos_eq (p : Fin 729) : nos (ix1 p) = lit0 p := congrArg lit0 (Fin.ext (Shape.rowMajor_val_one (d := ![729]) (ix1 p)))

theorem nos_lt (q : S729.Idx) : (nos q).toNat < 378 := pos_lt _

theorem column_apply (p : Fin 729) (z : Fin 1) : column nos (ix2 p z) = lit0 p := by
  have e : select (cmpi .slt nos (broadcastInDim S729 ![] bcast_S_S729 (constantI S_ 32 0#32))) (addi nos (broadcastInDim S729 ![] bcast_S_S729 (constantI S_ 32 378#32))) nos = nos :=
    funext fun k => wrap_eq (nos k) _ (by have := nos_lt k; omega)
  rw [← nos_eq]
  unfold column
  rw [e]
  generalize nos = f
  pointwise []

theorem inner_eq : inner (column nos) = fun _ => 1#1 := by
  funext k
  refine Host.reduce_andi_one _ _ _ _ _ rfl fun i => ?_
  obtain ⟨a, b, rfl⟩ : ∃ a b, i = ix2 a b := ⟨i 0, i 1, eq_ix2 i⟩
  show IntOp.andi (IntOp.cmpi .sge (column nos (ix2 a b)) 0#32) (IntOp.cmpi .sle (column nos (ix2 a b)) 377#32) = 1#1
  rw [column_apply]
  exact inside _ _ (by have := pos_lt a; show _ ≤ 377; omega) (by decide)

theorem lower_apply (w : FVec Ideal S506x1024 .f32) (q : Fin 378) (j : Fin 1024) :
    extractStridedSlice S378x1024 ![128, 0] w slices_S506x1024_S378x1024_128_0 (ix2 q j) = w (ix2 ⟨128 + q.val, by omega⟩ j) := by
  pointwise []

theorem take_apply (w : FVec Ideal S506x1024 .f32) (p : Fin 729) (j : Fin 1024) :
    take (F := Ideal) w (column nos) (ix2 p j) = w (ix2 ⟨128 + (pos p).val, by omega⟩ j) := by
  unfold take
  rw [inner_eq]
  have hc : (column nos (ix2 p 0)).toInt.toNat = (pos p).val := by
    rw [column_apply]; exact toInt_toNat _ (by have := pos_lt p; omega)
  refine (show _ = Host.gather gather_S378x1024_S729x1_S729x1024_1_0_n_n_0_1_11024
      (extractStridedSlice S378x1024 ![128, 0] w slices_S506x1024_S378x1024_128_0) (column nos) (ix2 p j) from rfl).trans ?_
  refine (rows_apply _ _ (column nos) p j (by rw [hc]; exact (pos p).isLt)).trans ?_
  have e : (⟨(column nos (ix2 p 0)).toInt.toNat, by rw [hc]; exact (pos p).isLt⟩ : Fin 378) = pos p := Fin.ext hc
  rw [e]
  exact lower_apply w (pos p) j

theorem mask_apply (p : Fin 729) (j : Fin 1024) : mask (F := Ideal) (ix2 p j) = Ideal.ofBits .f32 (bits p) := by
  have e : (fun i => (FloatOps.ofBits .f32 (lit1 (S729.rowMajor i)) : Ideal .f32)) (ix1 p) = Ideal.ofBits .f32 (bits p) :=
    congrArg (fun z => Ideal.ofBits .f32 (lit1 z)) (Fin.ext (Shape.rowMajor_val_one (d := ![729]) (ix1 p)))
  rw [← e]
  unfold mask
  generalize (fun i => (FloatOps.ofBits .f32 (lit1 (S729.rowMajor i)) : Ideal .f32)) = f
  pointwise []

theorem masked_apply (w : FVec Ideal S506x1024 .f32) (p : Fin 729) (j : Fin 1024) :
    mulf (F := Ideal) (take w (column nos)) mask (ix2 p j) = Ideal.ofBits .f32 (bits p) * w (ix2 ⟨128 + (pos p).val, by omega⟩ j) := by
  show take (F := Ideal) w (column nos) (ix2 p j) * mask (F := Ideal) (ix2 p j) = _
  rw [take_apply, mask_apply, mul_comm]

/-! ## The slices -/

theorem half0_apply (n : S106496.Idx → BitVec 32) (q : Fin 53248) : half n 0#32 (Rows.idxAt q) = n (ix1 ⟨q.val, by omega⟩) := by
  have hi : Rows.idxAt q = ix2 0 q := (idxAt_eq (ix2 0 q) q rfl).symm
  unfold half
  rw [Host.dynamicSlice_eq_extractStridedSlice _ _ _ ![0] _ (by decide) (by decide), hi]
  pointwise []

theorem half1_apply (n : S106496.Idx → BitVec 32) (q : Fin 53248) : half n 53248#32 (Rows.idxAt q) = n (ix1 ⟨53248 + q.val, by omega⟩) := by
  have hi : Rows.idxAt q = ix2 0 q := (idxAt_eq (ix2 0 q) q rfl).symm
  unfold half
  rw [Host.dynamicSlice_eq_extractStridedSlice _ _ _ ![53248] _ (by decide) (by decide), hi]
  pointwise []

theorem some0_apply (x : FVec Ideal S4096x39 .f32) (r : Fin 2048) (k : Fin 39) :
    some2048 (F := Ideal) x 0#32 (ix2 r k) = x (ix2 ⟨r.val, by omega⟩ k) := by
  unfold some2048
  rw [Host.dynamicSlice_eq_extractStridedSlice _ _ _ ![0, 0] _ (by decide) (by decide)]
  pointwise []

theorem some1_apply (x : FVec Ideal S4096x39 .f32) (r : Fin 2048) (k : Fin 39) :
    some2048 (F := Ideal) x 2048#32 (ix2 r k) = x (ix2 ⟨2048 + r.val, by omega⟩ k) := by
  unfold some2048
  rw [Host.dynamicSlice_eq_extractStridedSlice _ _ _ ![2048, 0] _ (by decide) (by decide)]
  pointwise []

theorem gath_apply (t : FVec Ideal S2600000x128 .f32) (v : S1x53248.Idx → BitVec 32) (q : Fin 53248) (d : Fin 128)
    (h : (v (Rows.idxAt q)).toNat < 2600000) : gath (F := Ideal) t v (ix2 q d) = t (ix2 ⟨(v (Rows.idxAt q)).toNat, h⟩ d) := by
  have e : rowOf (v (Rows.idxAt q)) = ⟨(v (Rows.idxAt q)).toNat, h⟩ := Fin.ext (rowOf_val h)
  show t (tabAt (rowOf (v (Rows.idxAt q))) d) = _
  rw [e]
  exact congrArg t (tabAt_eq (ix2 _ d) _ d rfl rfl).symm

/-! ## The biases -/

theorem row512_apply (b : FVec Ideal S512 .f32) (j : Fin 512) : shapeCast S1x512 b shapeCasts_S512_S1x512 (ix2 0 j) = b (ix1 j) := by
  pointwise []

theorem row256_apply (b : FVec Ideal S256 .f32) (j : Fin 256) : shapeCast S1x256 b shapeCasts_S256_S1x256 (ix2 0 j) = b (ix1 j) := by
  pointwise []

theorem row128_apply (b : FVec Ideal S128 .f32) (j : Fin 128) : shapeCast S1x128 b shapeCasts_S128_S1x128 (ix2 0 j) = b (ix1 j) := by
  pointwise []

theorem row1024_apply (b : FVec Ideal S1024 .f32) (j : Fin 1024) : shapeCast S1x1024 b shapeCasts_S1024_S1x1024 (ix2 0 j) = b (ix1 j) := by
  pointwise []

theorem row1_apply (b : FVec Ideal S1 .f32) (j : Fin 1) : shapeCast S1x1 b shapeCasts_S1_S1x1 (ix2 0 j) = b (ix1 j) := by
  rw [Subsingleton.elim j 0]
  pointwise []

theorem upper_apply (w : FVec Ideal S506x1024 .f32) (k : Fin 128) (j : Fin 1024) :
    extractStridedSlice S128x1024 ![0, 0] w slices_S506x1024_S128x1024_0_0 (ix2 k j) = w (ix2 ⟨k.val, by omega⟩ j) := by
  pointwise []

end Cert.KernelIdeal.Entries
-- ==== Proof.Value.lean ====
/-
  What the scoring call's body computes, sample by sample, over the extended reals.
-/
module

public import proofs.«01_k».proof.Proof.Pairs
public import proofs.«01_k».proof.Proof.Score
public import Idealize.ShloMosaic.Lib.Pointwise
public import Idealize.ShloMosaic.Lib.MatmulPlain

@[expose] public noncomputable section

namespace Cert.KernelIdeal.Value

open Cert.KernelIdeal Cert.KernelIdeal.Gen Cert.KernelIdeal.Body Cert.Model Cert.Pairs
open Idealize.ShloMosaic
open Idealize.ShloMosaic.Tactic
open TcCoe

set_option maxRecDepth 16384 in
/-- The bottom network. -/
theorem pay2_apply (v0 : Vec Ideal S512x13 .f32) (v2 : Vec Ideal S13x512 .f32) (v4 : Vec Ideal S1x512 .f32)
    (v10 : Vec Ideal S512x256 .f32) (v12 : Vec Ideal S1x256 .f32) (v18 : Vec Ideal S256x128 .f32) (v20 : Vec Ideal S1x128 .f32)
    (r : Fin 512) (j : Fin 128) :
    k2_pay2 (F := Ideal) v0 v2 v4 v10 v12 v18 v20 (ix2 r j)
      = dense (dense (dense (fun k => v0 (ix2 r k)) (fun k j => v2 (ix2 k j)) (fun j => v4 (ix2 0 j)))
          (fun k j => v10 (ix2 k j)) (fun j => v12 (ix2 0 j))) (fun k j => v18 (ix2 k j)) (fun j => v20 (ix2 0 j)) j := by
  pointwise [k2_pay2, dense]

set_option maxRecDepth 16384 in
/-- The features' inner products. -/
theorem pay3_apply (v0 : Vec Ideal S512x13 .f32) (v2 : Vec Ideal S13x512 .f32) (v4 : Vec Ideal S1x512 .f32)
    (v10 : Vec Ideal S512x256 .f32) (v12 : Vec Ideal S1x256 .f32) (v18 : Vec Ideal S256x128 .f32) (v20 : Vec Ideal S1x128 .f32)
    (v26 : Vec Ideal S13312x128 .f32) (r : Fin 512) (p : Fin 729) :
    k2_pay3 (F := Ideal) v0 v2 v4 v10 v12 v18 v20 v26 (ix2 r p)
      = pair (feat (fun d => k2_pay2 (F := Ideal) v0 v2 v4 v10 v12 v18 v20 (ix2 r d))
          (fun a d => v26 (ix2 ⟨r.val * 26 + a.val, by omega⟩ d))) (fst p) (snd p) := by
  unfold k2_pay3
  generalize k2_pay2 (F := Ideal) v0 v2 v4 v10 v12 v18 v20 = B
  pointwise [pair, feat, fst, snd]

set_option maxRecDepth 16384 in
/-- The top network up to its last layers. -/
theorem pay4_apply (v25 : FVec Ideal S512x128 .f32) (v32 : FVec Ideal S512x729 .f32) (v33 : Vec Ideal S128x1024 .f32)
    (v36 : Vec Ideal S729x1024 .f32) (v40 : Vec Ideal S1x1024 .f32) (v46 : Vec Ideal S1024x1024 .f32) (v48 : Vec Ideal S1x1024 .f32)
    (v54 : Vec Ideal S1024x512 .f32) (v56 : Vec Ideal S1x512 .f32) (v62 : Vec Ideal S512x256 .f32) (v64 : Vec Ideal S1x256 .f32)
    (v70 : Vec Ideal S256x1 .f32) (v72 : Vec Ideal S1x1 .f32) (r : Fin 512) :
    k2_pay1 (F := Ideal) (k2_pay4 (F := Ideal) v25 v32 v33 v36 v40 v46 v48 v54 v56 v62 v64) k2_pay5 v70 v72 (ix2 r 0)
      = ∑ k, dense (dense (dense (fun j => max (∑ k, v25 (ix2 r k) * v33 (ix2 k j) + ∑ p, v32 (ix2 r p) * v36 (ix2 p j) + v40 (ix2 0 j)) 0)
          (fun k j => v46 (ix2 k j)) (fun j => v48 (ix2 0 j))) (fun k j => v54 (ix2 k j)) (fun j => v56 (ix2 0 j)))
          (fun k j => v62 (ix2 k j)) (fun j => v64 (ix2 0 j)) k * v70 (ix2 k 0) + v72 (ix2 0 0) := by
  pointwise [k2_pay1, k2_pay4, k2_pay5, dense]

/-- The weights a run of the body has in its blocks. -/
def netOf (x : Ins Ideal) : Net where
  w1 k j := x.x3 (ix2 k j)
  b1 j := x.x4 (ix2 0 j)
  w2 k j := x.x5 (ix2 k j)
  b2 j := x.x6 (ix2 0 j)
  w3 k j := x.x7 (ix2 k j)
  b3 j := x.x8 (ix2 0 j)
  u1 k j := x.x9 (ix2 k j)
  c1 j := x.x11 (ix2 0 j)
  u2 k j := x.x12 (ix2 k j)
  c2 j := x.x13 (ix2 0 j)
  u3 k j := x.x14 (ix2 k j)
  c3 j := x.x15 (ix2 0 j)
  u4 k j := x.x16 (ix2 k j)
  c4 j := x.x17 (ix2 0 j)
  u5 k := x.x18 (ix2 k 0)
  c5 := x.x19 (ix2 0 0)

set_option maxRecDepth 16384 in
/-- Row `r` of what the body leaves is the score of the sample in row `r` of its blocks. -/
theorem score_apply (x : Ins Ideal) (r : Fin 512) :
    score (F := Ideal) x (ix2 r 0)
      = (netOf x).score (fun k => x.x1 (ix2 r ⟨k.val, by omega⟩)) (fun a d => x.x2 (ix2 ⟨r.val * 26 + a.val, by omega⟩ d))
          (fun X j => ∑ p : Fin 729, X (fst p) (snd p) * x.x10 (ix2 p j)) := by
  have hx (k : Fin 13) : View.ld x.x1 (Rect.unit (s := S512x39) ![0, 0] S512x13.size inb_S512x39_S512x13_0_0) (ix2 r k)
      = x.x1 (ix2 r ⟨k.val, by omega⟩) := by pointwise []
  unfold score
  rw [pay4_apply]
  simp only [pay3_apply, pay2_apply, hx]
  rfl

end Cert.KernelIdeal.Value
-- ==== Proof.RefValue.lean ====
/-
  What the reference computes, sample by sample, over the extended reals.
-/
module

public import proofs.«01_k».proof.Proof.Pairs
public import proofs.«01_k».proof.Proof.Take
public import proofs.«01_k».proof.Proof.Gen.ReferenceIdeal.Run

@[expose] public noncomputable section

namespace Cert.ReferenceIdeal.RefValue

open Cert.ReferenceIdeal Cert.ReferenceIdeal.Gen Cert.Model Cert.Pairs Cert.Take
open Idealize.ShloMosaic Idealize.ShloMosaic.Tactic
open TcCoe

/-! ## The stages -/

/-- The numbers of the table's rows. -/
def nums (x : FVec Ideal S4096x39 .f32) : IVec S106496 32 :=
  shapeCast S106496 (addi (fptosi 32 (extractStridedSlice S4096x26 ![0, 13] x slices_S4096x39_S4096x26_0_13)) (broadcastInDim S4096x26 ![0, 1] bcast_S1x26_S4096x26_0_1 (broadcastInDim S1x26 ![1] bcast_S26_S1x26_1 (muli (iotaInDim S26 32 0) (broadcastInDim S26 ![] bcast_S_S26 (constantI S_ 32 100000#32)))))) shapeCasts_S4096x26_S106496

/-- The numbers, a negative one moved up by the table's length, as a column. -/
def column (n : IVec S106496 32) : IVec S106496x1 32 :=
  broadcastInDim S106496x1 ![0] bcast_S106496_S106496x1_0 (select (cmpi .slt n (broadcastInDim S106496 ![] bcast_S_S106496 (constantI S_ 32 0#32))) (addi n (broadcastInDim S106496 ![] bcast_S_S106496 (constantI S_ 32 2600000#32))) n)

/-- The rows of the table at the numbers. -/
def take (t : FVec Ideal S2600000x128 .f32) (n : IVec S106496 32) : FVec Ideal S106496x128 .f32 :=
  select (broadcastInDim S106496x128 ![0] bcast_S106496_S106496x128_0 (Host.reduce IntOp.andi (andi (cmpi .sge (column n) (broadcastInDim S106496x1 ![] bcast_S_S106496x1 (constantI S_ 32 0#32))) (cmpi .sle (column n) (broadcastInDim S106496x1 ![0, 1] bcast_S1x1_S106496x1_0_1 (broadcastInDim S1x1 ![1] bcast_S1_S1x1_1 (constantI S1 32 2599999#32))))) (constantI S_ 1 1#1) reducesTo_S106496x1_S106496_d1 h_S_)) (Host.gather gather_S2600000x128_S106496x1_S106496x128_1_0_n_n_0_1_1128 t (column n)) (broadcastInDim S106496x128 ![] bcast_S_S106496x128 (constant S_ .f32 0x7FC00000#32))

/-- The bottom network. -/
def bottom (x : FVec Ideal S4096x39 .f32) (w1 : FVec Ideal S13x512 .f32) (b1 : FVec Ideal S512 .f32) (w2 : FVec Ideal S512x256 .f32)
    (b2 : FVec Ideal S256 .f32) (w3 : FVec Ideal S256x128 .f32) (b3 : FVec Ideal S128 .f32) : FVec Ideal S4096x128 .f32 :=
  maximumf (addf (Host.dotGeneral dot_S4096x256_S256x128_S4096x128_1_0_0_1_n_n none (maximumf (addf (Host.dotGeneral dot_S4096x512_S512x256_S4096x256_1_0_0_1_n_n none (maximumf (addf (Host.dotGeneral dot_S4096x13_S13x512_S4096x512_1_0_0_1_n_n none (extractStridedSlice S4096x13 ![0, 0] x slices_S4096x39_S4096x13_0_0) w1) (broadcastInDim S4096x512 ![0, 1] bcast_S1x512_S4096x512_0_1 (broadcastInDim S1x512 ![1] bcast_S512_S1x512_1 b1))) (broadcastInDim S4096x512 ![] bcast_S_S4096x512 (constant S_ .f32 0x00000000#32))) w2) (broadcastInDim S4096x256 ![0, 1] bcast_S1x256_S4096x256_0_1 (broadcastInDim S1x256 ![1] bcast_S256_S1x256_1 b2))) (broadcastInDim S4096x256 ![] bcast_S_S4096x256 (constant S_ .f32 0x00000000#32))) w3) (broadcastInDim S4096x128 ![0, 1] bcast_S1x128_S4096x128_0_1 (broadcastInDim S1x128 ![1] bcast_S128_S1x128_1 b3))) (broadcastInDim S4096x128 ![] bcast_S_S4096x128 (constant S_ .f32 0x00000000#32))

/-- The features. -/
def feats (B : FVec Ideal S4096x128 .f32) (E : FVec Ideal S106496x128 .f32) : FVec Ideal S4096x27x128 .f32 :=
  concatenate S4096x27x128 1 [⟨S4096x1x128, shapeCast _ B shapeCasts_S4096x128_S4096x1x128⟩, ⟨S4096x26x128, shapeCast _ E shapeCasts_S106496x128_S4096x26x128⟩] concatenates_S4096x1x128_S4096x26x128_S4096x27x128_d1

/-- The features' inner products. -/
def prods (S : FVec Ideal S4096x27x128 .f32) : FVec Ideal S4096x27x27 .f32 :=
  Host.dotGeneral dot_S4096x27x128_S4096x128x27_S4096x27x27_2_1_1_2_0_0 none S (transpose S4096x128x27 [0, 2, 1] S transposes_S4096x27x128_S4096x128x27_0_2_1)

/-- The places of the pairs. -/
def places : IVec S378x2 32 :=
  concatenate S378x2 1 [⟨S378x1, (broadcastInDim S378x1 ![0] bcast_S378_S378x1_0 (select (constantI S378 1 0#1) (addi ((fun i => lit0 (S378.rowMajor i))) (broadcastInDim S378 ![] bcast_S_S378 (constantI S_ 32 27#32))) ((fun i => lit0 (S378.rowMajor i)))))⟩, ⟨S378x1, (broadcastInDim S378x1 ![0] bcast_S378_S378x1_0 (select (constantI S378 1 0#1) (addi ((fun i => lit1 (S378.rowMajor i))) (broadcastInDim S378 ![] bcast_S_S378 (constantI S_ 32 27#32))) ((fun i => lit1 (S378.rowMajor i)))))⟩] concatenates_S378x1_S378x1_S378x2_d1

/-- The pairs' inner products. -/
def tri (X : FVec Ideal S4096x27x27 .f32) : FVec Ideal S4096x378 .f32 :=
  Host.gather gather_S4096x27x27_S378x2_S4096x378_0_12_n_n_12_1_409611 X places

/-- The top network's first layer. -/
def first (B : FVec Ideal S4096x128 .f32) (T : FVec Ideal S4096x378 .f32) (w : FVec Ideal S506x1024 .f32) (b : FVec Ideal S1024 .f32) :
    FVec Ideal S4096x1024 .f32 :=
  maximumf (addf (Host.dotGeneral dot_S4096x506_S506x1024_S4096x1024_1_0_0_1_n_n none (concatenate S4096x506 1 [⟨S4096x128, B⟩, ⟨S4096x378, T⟩] concatenates_S4096x128_S4096x378_S4096x506_d1) w) (broadcastInDim S4096x1024 ![0, 1] bcast_S1x1024_S4096x1024_0_1 (broadcastInDim S1x1024 ![1] bcast_S1024_S1x1024_1 b))) (broadcastInDim S4096x1024 ![] bcast_S_S4096x1024 (constant S_ .f32 0x00000000#32))

/-- The top network after it. -/
def top (H : FVec Ideal S4096x1024 .f32) (w2 : FVec Ideal S1024x1024 .f32) (b2 : FVec Ideal S1024 .f32) (w3 : FVec Ideal S1024x512 .f32)
    (b3 : FVec Ideal S512 .f32) (w4 : FVec Ideal S512x256 .f32) (b4 : FVec Ideal S256 .f32) (w5 : FVec Ideal S256x1 .f32) (b5 : FVec Ideal S1 .f32) :
    FVec Ideal S4096x1 .f32 :=
  addf (Host.dotGeneral dot_S4096x256_S256x1_S4096x1_1_0_0_1_n_n none (maximumf (addf (Host.dotGeneral dot_S4096x512_S512x256_S4096x256_1_0_0_1_n_n none (maximumf (addf (Host.dotGeneral dot_S4096x1024_S1024x512_S4096x512_1_0_0_1_n_n none (maximumf (addf (Host.dotGeneral dot_S4096x1024_S1024x1024_S4096x1024_1_0_0_1_n_n none H w2) (broadcastInDim S4096x1024 ![0, 1] bcast_S1x1024_S4096x1024_0_1 (broadcastInDim S1x1024 ![1] bcast_S1024_S1x1024_1 b2))) (broadcastInDim S4096x1024 ![] bcast_S_S4096x1024 (constant S_ .f32 0x00000000#32))) w3) (broadcastInDim S4096x512 ![0, 1] bcast_S1x512_S4096x512_0_1 (broadcastInDim S1x512 ![1] bcast_S512_S1x512_1 b3))) (broadcastInDim S4096x512 ![] bcast_S_S4096x512 (constant S_ .f32 0x00000000#32))) w4) (broadcastInDim S4096x256 ![0, 1] bcast_S1x256_S4096x256_0_1 (broadcastInDim S1x256 ![1] bcast_S256_S1x256_1 b4))) (broadcastInDim S4096x256 ![] bcast_S_S4096x256 (constant S_ .f32 0x00000000#32))) w5) (broadcastInDim S4096x1 ![0, 1] bcast_S1x1_S4096x1_0_1 (broadcastInDim S1x1 ![1] bcast_S1_S1x1_1 b5))

/-- The whole of the reference, as a function of its arguments. -/
def whole (x : FVec Ideal S4096x39 .f32) (w1 : FVec Ideal S13x512 .f32) (b1 : FVec Ideal S512 .f32) (w2 : FVec Ideal S512x256 .f32)
    (b2 : FVec Ideal S256 .f32) (w3 : FVec Ideal S256x128 .f32) (b3 : FVec Ideal S128 .f32) (t : FVec Ideal S2600000x128 .f32)
    (u1 : FVec Ideal S506x1024 .f32) (c1 : FVec Ideal S1024 .f32)
    (u2 : FVec Ideal S1024x1024 .f32) (c2 : FVec Ideal S1024 .f32) (u3 : FVec Ideal S1024x512 .f32)
    (c3 : FVec Ideal S512 .f32) (u4 : FVec Ideal S512x256 .f32) (c4 : FVec Ideal S256 .f32) (u5 : FVec Ideal S256x1 .f32) (c5 : FVec Ideal S1 .f32) :
    FVec Ideal S4096x1 .f32 :=
  top (first (bottom x w1 b1 w2 b2 w3 b3) (tri (prods (feats (bottom x w1 b1 w2 b2 w3 b3) (take t (nums x))))) u1 c1) u2 c2 u3 c3 u4 c4 u5 c5

set_option maxRecDepth 8192 in
theorem res_eq (m : (ℓ : Loc nD τ sig) → Buf (Elt Ideal) ℓ) (c : Dev nD) :
    Cert.ReferenceIdeal.Value.res_main_v65 (F := Ideal) m c
      = whole (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18)) := by
  unfold Cert.ReferenceIdeal.Value.res_main_v65
  rfl

/-! ## Their values -/

theorem column_eq (n : IVec S106496 32) (h : ∀ q, (n q).toNat < 2600000) (q : Fin 106496) (z : Fin 1) : column n (ix2 q z) = n (ix1 q) := by
  have e : select (cmpi .slt n (broadcastInDim S106496 ![] bcast_S_S106496 (constantI S_ 32 0#32))) (addi n (broadcastInDim S106496 ![] bcast_S_S106496 (constantI S_ 32 2600000#32))) n = n :=
    funext fun k => wrap_eq (n k) _ (by have := h k; omega)
  unfold column
  rw [e]
  pointwise []

theorem take_apply (t : FVec Ideal S2600000x128 .f32) (n : IVec S106496 32) (h : ∀ q, (n q).toNat < 2600000) (q : Fin 106496) (d : Fin 128) :
    take t n (ix2 q d) = t (ix2 ⟨(n (ix1 q)).toNat, h _⟩ d) := by
  unfold take
  have hr : Host.reduce IntOp.andi (andi (cmpi .sge (column n) (broadcastInDim S106496x1 ![] bcast_S_S106496x1 (constantI S_ 32 0#32))) (cmpi .sle (column n) (broadcastInDim S106496x1 ![0, 1] bcast_S1x1_S106496x1_0_1 (broadcastInDim S1x1 ![1] bcast_S1_S1x1_1 (constantI S1 32 2599999#32))))) (constantI S_ 1 1#1) reducesTo_S106496x1_S106496_d1 h_S_ = fun _ => 1#1 := by
    funext k
    refine Host.reduce_andi_one _ _ _ _ _ rfl fun i => ?_
    obtain ⟨a, b, rfl⟩ : ∃ a b, i = ix2 a b := ⟨i 0, i 1, eq_ix2 i⟩
    show IntOp.andi (IntOp.cmpi .sge (column n (ix2 a b)) 0#32) (IntOp.cmpi .sle (column n (ix2 a b)) 2599999#32) = 1#1
    rw [column_eq n h]
    exact inside _ _ (by have := h (ix1 a); show _ ≤ 2599999; omega) (by decide)
  rw [hr]
  have hc : (column n (ix2 q 0)).toInt.toNat = (n (ix1 q)).toNat := by
    rw [column_eq n h]; exact toInt_toNat _ (by have := h (ix1 q); omega)
  refine (rows_apply _ t (column n) q d (by rw [hc]; exact h _)).trans ?_
  congr 2
  exact Fin.ext hc

theorem places_fst (k : Fin 378) : places (ix2 k 0) = lit0 k := by
  have e : (fun i => lit0 (S378.rowMajor i)) (ix1 k) = lit0 k := congrArg lit0 (Fin.ext (Shape.rowMajor_val_one (d := ![378]) (ix1 k)))
  rw [← e]
  unfold places
  generalize (fun i => lit0 (S378.rowMajor i)) = f
  generalize (fun i => lit1 (S378.rowMajor i)) = g
  pointwise []

theorem places_snd (k : Fin 378) : places (ix2 k 1) = lit1 k := by
  have e : (fun i => lit1 (S378.rowMajor i)) (ix1 k) = lit1 k := congrArg lit1 (Fin.ext (Shape.rowMajor_val_one (d := ![378]) (ix1 k)))
  rw [← e]
  unfold places
  generalize (fun i => lit0 (S378.rowMajor i)) = f
  generalize (fun i => lit1 (S378.rowMajor i)) = g
  pointwise []

theorem tri_apply (X : FVec Ideal S4096x27x27 .f32) (r : Fin 4096) (k : Fin 378) : tri X (ix2 r k) = X (ix3 r (row k) (col k)) := by
  have h0 : (places (ix2 k 0)).toInt.toNat = (row k).val := by
    rw [places_fst]; exact toInt_toNat _ (by have := row_lt k; omega)
  have h1 : (places (ix2 k 1)).toInt.toNat = (col k).val := by
    rw [places_snd]; exact toInt_toNat _ (by have := col_lt k; omega)
  refine (entries_apply _ X places r k (by rw [h0]; exact (row k).isLt) (by rw [h1]; exact (col k).isLt)).trans ?_
  congr 2
  · exact Fin.ext h0
  · exact Fin.ext h1

set_option maxRecDepth 16384 in
theorem bottom_apply (x : FVec Ideal S4096x39 .f32) (w1 : FVec Ideal S13x512 .f32) (b1 : FVec Ideal S512 .f32) (w2 : FVec Ideal S512x256 .f32)
    (b2 : FVec Ideal S256 .f32) (w3 : FVec Ideal S256x128 .f32) (b3 : FVec Ideal S128 .f32) (r : Fin 4096) (j : Fin 128) :
    bottom x w1 b1 w2 b2 w3 b3 (ix2 r j)
      = dense (dense (dense (fun k : Fin 13 => x (ix2 r ⟨k.val, by omega⟩)) (fun k j => w1 (ix2 k j)) (fun j => b1 (ix1 j)))
          (fun k j => w2 (ix2 k j)) (fun j => b2 (ix1 j))) (fun k j => w3 (ix2 k j)) (fun j => b3 (ix1 j)) j := by
  pointwise [bottom, dense]

set_option maxRecDepth 16384 in
theorem prods_apply (B : FVec Ideal S4096x128 .f32) (E : FVec Ideal S106496x128 .f32) (r : Fin 4096) (a b : Fin 27) :
    prods (feats B E) (ix3 r a b)
      = pair (feat (fun d => B (ix2 r d)) (fun a d => E (ix2 ⟨r.val * 26 + a.val, by omega⟩ d))) a b := by
  pointwise [prods, feats, pair, feat]

set_option maxRecDepth 16384 in
theorem first_apply (B : FVec Ideal S4096x128 .f32) (T : FVec Ideal S4096x378 .f32) (w : FVec Ideal S506x1024 .f32) (b : FVec Ideal S1024 .f32)
    (r : Fin 4096) (j : Fin 1024) :
    first B T w b (ix2 r j)
      = max (∑ k : Fin 128, B (ix2 r k) * w (ix2 ⟨k.val, by omega⟩ j) + ∑ k : Fin 378, T (ix2 r k) * w (ix2 ⟨128 + k.val, by omega⟩ j) + b (ix1 j)) 0 := by
  pointwise [first]

set_option maxRecDepth 16384 in
theorem top_apply (H : FVec Ideal S4096x1024 .f32) (w2 : FVec Ideal S1024x1024 .f32) (b2 : FVec Ideal S1024 .f32) (w3 : FVec Ideal S1024x512 .f32)
    (b3 : FVec Ideal S512 .f32) (w4 : FVec Ideal S512x256 .f32) (b4 : FVec Ideal S256 .f32) (w5 : FVec Ideal S256x1 .f32) (b5 : FVec Ideal S1 .f32)
    (r : Fin 4096) :
    top H w2 b2 w3 b3 w4 b4 w5 b5 (ix2 r 0)
      = ∑ k, dense (dense (dense (fun j => H (ix2 r j)) (fun k j => w2 (ix2 k j)) (fun j => b2 (ix1 j)))
          (fun k j => w3 (ix2 k j)) (fun j => b3 (ix1 j))) (fun k j => w4 (ix2 k j)) (fun j => b4 (ix1 j)) k * w5 (ix2 k 0) + b5 (ix1 0) := by
  pointwise [top, dense]

/-- The weights among the arguments. -/
def netOf (w1 : FVec Ideal S13x512 .f32) (b1 : FVec Ideal S512 .f32) (w2 : FVec Ideal S512x256 .f32)
    (b2 : FVec Ideal S256 .f32) (w3 : FVec Ideal S256x128 .f32) (b3 : FVec Ideal S128 .f32)
    (u1 : FVec Ideal S506x1024 .f32) (c1 : FVec Ideal S1024 .f32)
    (u2 : FVec Ideal S1024x1024 .f32) (c2 : FVec Ideal S1024 .f32) (u3 : FVec Ideal S1024x512 .f32)
    (c3 : FVec Ideal S512 .f32) (u4 : FVec Ideal S512x256 .f32) (c4 : FVec Ideal S256 .f32) (u5 : FVec Ideal S256x1 .f32) (c5 : FVec Ideal S1 .f32) :
    Net where
  w1 k j := w1 (ix2 k j)
  b1 j := b1 (ix1 j)
  w2 k j := w2 (ix2 k j)
  b2 j := b2 (ix1 j)
  w3 k j := w3 (ix2 k j)
  b3 j := b3 (ix1 j)
  u1 k j := u1 (ix2 ⟨k.val, by omega⟩ j)
  c1 j := c1 (ix1 j)
  u2 k j := u2 (ix2 k j)
  c2 j := c2 (ix1 j)
  u3 k j := u3 (ix2 k j)
  c3 j := c3 (ix1 j)
  u4 k j := u4 (ix2 k j)
  c4 j := c4 (ix1 j)
  u5 k := u5 (ix2 k 0)
  c5 := c5 (ix1 0)

/-- The reference's row `r` is the score of sample `r`. -/
theorem whole_apply (x : FVec Ideal S4096x39 .f32) (w1 : FVec Ideal S13x512 .f32) (b1 : FVec Ideal S512 .f32) (w2 : FVec Ideal S512x256 .f32)
    (b2 : FVec Ideal S256 .f32) (w3 : FVec Ideal S256x128 .f32) (b3 : FVec Ideal S128 .f32) (t : FVec Ideal S2600000x128 .f32)
    (u1 : FVec Ideal S506x1024 .f32) (c1 : FVec Ideal S1024 .f32)
    (u2 : FVec Ideal S1024x1024 .f32) (c2 : FVec Ideal S1024 .f32) (u3 : FVec Ideal S1024x512 .f32)
    (c3 : FVec Ideal S512 .f32) (u4 : FVec Ideal S512x256 .f32) (c4 : FVec Ideal S256 .f32) (u5 : FVec Ideal S256x1 .f32) (c5 : FVec Ideal S1 .f32)
    (h : ∀ q, (nums x q).toNat < 2600000) (r : Fin 4096) :
    whole x w1 b1 w2 b2 w3 b3 t u1 c1 u2 c2 u3 c3 u4 c4 u5 c5 (ix2 r 0)
      = (netOf w1 b1 w2 b2 w3 b3 u1 c1 u2 c2 u3 c3 u4 c4 u5 c5).score (fun k => x (ix2 r ⟨k.val, by omega⟩))
          (fun a d => t (ix2 ⟨(nums x (ix1 ⟨r.val * 26 + a.val, by omega⟩)).toNat, h _⟩ d))
          (fun X j => ∑ k : Fin 378, X (row k) (col k) * u1 (ix2 ⟨128 + k.val, by omega⟩ j)) := by
  unfold whole
  rw [top_apply]
  simp only [first_apply, tri_apply, prods_apply, bottom_apply, take_apply _ _ h]
  rfl

end Cert.ReferenceIdeal.RefValue
-- ==== Proof.Equal.lean ====
/-
  The kernel's result is the reference's, sample by sample, over the extended reals.
-/
module

public import proofs.«01_k».proof.Proof.Entries
public import proofs.«01_k».proof.Proof.Value
public import proofs.«01_k».proof.Proof.RefValue

@[expose] public noncomputable section

namespace Cert.KernelIdeal.Equal

open Cert.KernelIdeal Cert.KernelIdeal.Gen Cert.KernelIdeal.Launch Cert.KernelIdeal.Body Cert.KernelIdeal.Host Cert.KernelIdeal.Segs Cert.KernelIdeal.Run
open Cert.KernelIdeal.Range Cert.KernelIdeal.Rows Cert.KernelIdeal.Score Cert.KernelIdeal.Grid Cert.KernelIdeal.HostValue Cert.KernelIdeal.Entries
open Cert.Model Cert.Pairs
open Idealize.ShloMosaic Idealize.ShloMosaic.Tactic
open TcCoe

/-! ## The weights -/

/-- The weights of the two networks, among a device's arguments. -/
def weights (V : Valuation τ sig (Elt Ideal)) : Net :=
  Cert.ReferenceIdeal.RefValue.netOf (V (dr main_arg2)) (V (dr main_arg3)) (V (dr main_arg4)) (V (dr main_arg5)) (V (dr main_arg6)) (V (dr main_arg7))
    (V (dr main_arg9)) (V (dr main_arg10)) (V (dr main_arg11)) (V (dr main_arg12)) (V (dr main_arg13)) (V (dr main_arg14)) (V (dr main_arg15))
    (V (dr main_arg16)) (V (dr main_arg17)) (V (dr main_arg18))

/-- A state of the arrays after the host's first part, as to all that the later steps leave alone. -/
def Later (V U : Valuation τ sig (Elt Ideal)) : Prop :=
  ∀ r : Ref sig .tc, r ∉ opsBW ++ opsCW ++ opsDW ++ [main_v25, main_v28, main_v30] → U (dr r) = W1 V (dr r)

theorem later5 (V : Valuation τ sig (Elt Ideal)) : Later V (W5 V) := fun r h =>
  W5_keep V r (by simp only [List.mem_append, not_or, List.mem_cons, List.not_mem_nil, or_false] at h ⊢; exact ⟨h.1.1, h.2.1, h.2.2.1⟩)

theorem later7 (V : Valuation τ sig (Elt Ideal)) (d : Dev nD) : Later V (W7 V d) := fun r h => by
  simp only [List.mem_append, not_or, List.mem_cons, List.not_mem_nil, or_false] at h
  rw [W7_keep V d r (by simp only [List.mem_append, not_or, List.mem_cons, List.not_mem_nil, or_false]; exact ⟨h.1.2, h.2.2.2⟩)]
  exact W5_keep V r (by simp only [List.mem_append, not_or, List.mem_cons, List.not_mem_nil, or_false]; exact ⟨h.1.1, h.2.1, h.2.2.1⟩)

section

variable {V U : Valuation τ sig (Elt Ideal)} (h : Later V U)
include h

theorem Later.arg (r : Ref sig .tc) (hr : r ∉ opsBW ++ opsCW ++ opsDW ++ [main_v25, main_v28, main_v30])
    (h1 : r ∉ opsA1W) (h2 : r ∉ opsA2W) (h3 : r ∉ opsA3W) : U (dr r) = V (dr r) := (h r hr).trans (W1_keep V r h1 h2 h3)

theorem Later.v15 (j : Fin 512) : U (dr main_v15) (ix2 0 j) = V (dr main_arg3) (ix1 j) := by
  rw [h main_v15 (by decide), W1_v15]
  exact row512_apply _ j

theorem Later.v16 (j : Fin 256) : U (dr main_v16) (ix2 0 j) = V (dr main_arg5) (ix1 j) := by
  rw [h main_v16 (by decide), W1_v16]
  exact row256_apply _ j

theorem Later.v17 (j : Fin 128) : U (dr main_v17) (ix2 0 j) = V (dr main_arg7) (ix1 j) := by
  rw [h main_v17 (by decide), W1_v17]
  exact row128_apply _ j

theorem Later.v18 (j : Fin 1024) : U (dr main_v18) (ix2 0 j) = V (dr main_arg10) (ix1 j) := by
  rw [h main_v18 (by decide), W1_v18]
  exact row1024_apply _ j

theorem Later.v19 (j : Fin 1024) : U (dr main_v19) (ix2 0 j) = V (dr main_arg12) (ix1 j) := by
  rw [h main_v19 (by decide), W1_v19]
  exact row1024_apply _ j

theorem Later.v20 (j : Fin 512) : U (dr main_v20) (ix2 0 j) = V (dr main_arg14) (ix1 j) := by
  rw [h main_v20 (by decide), W1_v20]
  exact row512_apply _ j

theorem Later.v21 (j : Fin 256) : U (dr main_v21) (ix2 0 j) = V (dr main_arg16) (ix1 j) := by
  rw [h main_v21 (by decide), W1_v21]
  exact row256_apply _ j

theorem Later.v22 (j : Fin 1) : U (dr main_v22) (ix2 0 j) = V (dr main_arg18) (ix1 j) := by
  rw [h main_v22 (by decide), W1_v22]
  exact row1_apply _ j

theorem Later.v10 (k : Fin 128) (j : Fin 1024) : U (dr main_v10) (ix2 k j) = V (dr main_arg9) (ix2 ⟨k.val, by omega⟩ j) := by
  rw [h main_v10 (by decide), W1_v10]
  exact upper_apply _ k j

theorem Later.v14 (p : Fin 729) (j : Fin 1024) :
    U (dr main_v14) (ix2 p j) = Ideal.ofBits .f32 (bits p) * V (dr main_arg9) (ix2 ⟨128 + (pos p).val, by omega⟩ j) := by
  rw [h main_v14 (by decide), W1_v14]
  exact masked_apply _ p j

theorem net2 (t : Fin cfg2.N) : Value.netOf (ins2 U t) = weights V := by
  unfold Value.netOf weights Cert.ReferenceIdeal.RefValue.netOf
  rw [Net.mk.injEq]
  exact ⟨funext fun k => funext fun j => (blk2_2 U t k j).trans (congrFun (h.arg main_arg2 (by decide) (by decide) (by decide) (by decide)) (ix2 k j)),
    funext fun j => (blk2_3 U t 0 j).trans (h.v15 j),
    funext fun k => funext fun j => (blk2_4 U t k j).trans (congrFun (h.arg main_arg4 (by decide) (by decide) (by decide) (by decide)) (ix2 k j)),
    funext fun j => (blk2_5 U t 0 j).trans (h.v16 j),
    funext fun k => funext fun j => (blk2_6 U t k j).trans (congrFun (h.arg main_arg6 (by decide) (by decide) (by decide) (by decide)) (ix2 k j)),
    funext fun j => (blk2_7 U t 0 j).trans (h.v17 j),
    funext fun k => funext fun j => (blk2_8 U t k j).trans (h.v10 k j),
    funext fun j => (blk2_10 U t 0 j).trans (h.v18 j),
    funext fun k => funext fun j => (blk2_11 U t k j).trans (congrFun (h.arg main_arg11 (by decide) (by decide) (by decide) (by decide)) (ix2 k j)),
    funext fun j => (blk2_12 U t 0 j).trans (h.v19 j),
    funext fun k => funext fun j => (blk2_13 U t k j).trans (congrFun (h.arg main_arg13 (by decide) (by decide) (by decide) (by decide)) (ix2 k j)),
    funext fun j => (blk2_14 U t 0 j).trans (h.v20 j),
    funext fun k => funext fun j => (blk2_15 U t k j).trans (congrFun (h.arg main_arg15 (by decide) (by decide) (by decide) (by decide)) (ix2 k j)),
    funext fun j => (blk2_16 U t 0 j).trans (h.v21 j),
    funext fun k => (blk2_17 U t k 0).trans (congrFun (h.arg main_arg17 (by decide) (by decide) (by decide) (by decide)) (ix2 k 0)),
    (blk2_18 U t 0 0).trans (h.v22 0)⟩

theorem net3 (t : Fin cfg3.N) : Value.netOf (ins3 U t) = weights V := by
  unfold Value.netOf weights Cert.ReferenceIdeal.RefValue.netOf
  rw [Net.mk.injEq]
  exact ⟨funext fun k => funext fun j => (blk3_2 U t k j).trans (congrFun (h.arg main_arg2 (by decide) (by decide) (by decide) (by decide)) (ix2 k j)),
    funext fun j => (blk3_3 U t 0 j).trans (h.v15 j),
    funext fun k => funext fun j => (blk3_4 U t k j).trans (congrFun (h.arg main_arg4 (by decide) (by decide) (by decide) (by decide)) (ix2 k j)),
    funext fun j => (blk3_5 U t 0 j).trans (h.v16 j),
    funext fun k => funext fun j => (blk3_6 U t k j).trans (congrFun (h.arg main_arg6 (by decide) (by decide) (by decide) (by decide)) (ix2 k j)),
    funext fun j => (blk3_7 U t 0 j).trans (h.v17 j),
    funext fun k => funext fun j => (blk3_8 U t k j).trans (h.v10 k j),
    funext fun j => (blk3_10 U t 0 j).trans (h.v18 j),
    funext fun k => funext fun j => (blk3_11 U t k j).trans (congrFun (h.arg main_arg11 (by decide) (by decide) (by decide) (by decide)) (ix2 k j)),
    funext fun j => (blk3_12 U t 0 j).trans (h.v19 j),
    funext fun k => funext fun j => (blk3_13 U t k j).trans (congrFun (h.arg main_arg13 (by decide) (by decide) (by decide) (by decide)) (ix2 k j)),
    funext fun j => (blk3_14 U t 0 j).trans (h.v20 j),
    funext fun k => funext fun j => (blk3_15 U t k j).trans (congrFun (h.arg main_arg15 (by decide) (by decide) (by decide) (by decide)) (ix2 k j)),
    funext fun j => (blk3_16 U t 0 j).trans (h.v21 j),
    funext fun k => (blk3_17 U t k 0).trans (congrFun (h.arg main_arg17 (by decide) (by decide) (by decide) (by decide)) (ix2 k 0)),
    (blk3_18 U t 0 0).trans (h.v22 0)⟩

end

/-! ## The samples -/

/-- The score of sample `R`, the inner products met by the masked weights. -/
def sample (V : Valuation τ sig (Elt Ideal)) (h : ∀ q, (nums (F := Ideal) (V (dr main_arg0)) q).toNat < 2600000) (R : Fin 4096) : EReal :=
  (weights V).score (fun k => V (dr main_arg0) (ix2 R ⟨k.val, by omega⟩))
    (fun a d => V (dr main_arg8) (ix2 ⟨(nums (F := Ideal) (V (dr main_arg0)) (ix1 ⟨R.val * 26 + a.val, by omega⟩)).toNat, h _⟩ d))
    (fun X j => ∑ p : Fin 729, X (fst p) (snd p) * (Ideal.ofBits .f32 (bits p) * V (dr main_arg9) (ix2 ⟨128 + (pos p).val, by omega⟩ j)))

/-- The rows that the first gather leaves, in range. -/
theorem looked0 (t : FVec Ideal S2600000x128 .f32) (n : S106496.Idx → BitVec 32) (h : ∀ q, (n q).toNat < 2600000) (q : Fin 53248) (d : Fin 128)
    (Q : Fin 106496) (hQ : Q.val = q.val) : gath (F := Ideal) t (half n 0#32) (ix2 q d) = t (ix2 ⟨(n (ix1 Q)).toNat, h _⟩ d) := by
  have hq : Q = ⟨q.val, by omega⟩ := Fin.ext hQ
  simp only [hq]
  have e := half0_apply n q
  refine (gath_apply t _ q d (by rw [e]; exact h _)).trans ?_
  exact congrArg (fun z => t (ix2 z d)) (Fin.ext (congrArg BitVec.toNat e))

/-- The rows that the second gather leaves, in range. -/
theorem looked1 (t : FVec Ideal S2600000x128 .f32) (n : S106496.Idx → BitVec 32) (h : ∀ q, (n q).toNat < 2600000) (q : Fin 53248) (d : Fin 128)
    (Q : Fin 106496) (hQ : Q.val = 53248 + q.val) : gath (F := Ideal) t (half n 53248#32) (ix2 q d) = t (ix2 ⟨(n (ix1 Q)).toNat, h _⟩ d) := by
  have hq : Q = ⟨53248 + q.val, by omega⟩ := Fin.ext hQ
  simp only [hq]
  have e := half1_apply n q
  refine (gath_apply t _ q d (by rw [e]; exact h _)).trans ?_
  exact congrArg (fun z => t (ix2 z d)) (Fin.ext (congrArg BitVec.toNat e))

variable (V : Valuation τ sig (Elt Ideal)) (h : ∀ q, (nums (F := Ideal) (V (dr main_arg0)) q).toNat < 2600000)

/-- What the first scoring call finds of its samples' entries. -/
theorem entry2 (U : Valuation τ sig (Elt Ideal)) (hx : U (dr main_v29) = some2048 (F := Ideal) (V (dr main_arg0)) 0#32) (t : Fin cfg2.N) (a : Fin 512) (k : Fin 39)
    (R : Fin 4096) (hR : R.val = (t.val * 512 + a.val)) (ht : t.val < 4) : blk2 U 0 t (ix2 a k) = V (dr main_arg0) (ix2 R k) := by
  refine (blk2_0 U t a k (by omega)).trans ?_
  rw [hx]
  refine (some0_apply _ _ _).trans ?_
  exact congrArg (fun z => V (dr main_arg0) (ix2 z k)) (Fin.ext hR.symm)

/-- What it finds of their vectors. -/
theorem vector2 (U : Valuation τ sig (Elt Ideal)) (hx : U (dr main_v25) = gath (F := Ideal) (V (dr main_arg8)) (half (nums (F := Ideal) (V (dr main_arg0))) 0#32)) (t : Fin cfg2.N)
    (a : Fin 13312) (k : Fin 128) (Q : Fin 106496) (hQ : Q.val = (t.val * 13312 + a.val)) (ht : t.val < 4) :
    blk2 U 1 t (ix2 a k) = V (dr main_arg8) (ix2 ⟨(nums (F := Ideal) (V (dr main_arg0)) (ix1 Q)).toNat, h _⟩ k) := by
  refine (blk2_1 U t a k (by omega)).trans ?_
  rw [hx]
  exact looked0 _ _ h _ k Q hQ

/-- A row of the call's result. -/
theorem rows2_apply (U : Valuation τ sig (Elt Ideal)) (hU : Later V U) (hx : U (dr main_v29) = some2048 (F := Ideal) (V (dr main_arg0)) 0#32)
    (he : U (dr main_v25) = gath (F := Ideal) (V (dr main_arg8)) (half (nums (F := Ideal) (V (dr main_arg0))) 0#32))
    (r : Fin 2048) : rows2 U (ix2 r 0) = sample V h ⟨r.val, by omega⟩ := by
  have hN : r.val / 512 < cfg2.N := by rw [Grid.N_2]; omega
  have ht : r.val / 512 < 4 := by omega
  have hm : r.val / 512 * 512 + r.val % 512 = r.val := by omega
  show score (ins2 U ⟨r.val / 512, hN⟩) (ix2 ⟨r.val % 512, Nat.mod_lt _ (by decide)⟩ 0) = _
  rw [Value.score_apply, net2 hU]
  have e1 : (fun k : Fin 13 => (ins2 U ⟨r.val / 512, hN⟩).x1 (ix2 ⟨r.val % 512, Nat.mod_lt _ (by decide)⟩ ⟨k.val, by omega⟩))
      = fun k => V (dr main_arg0) (ix2 ⟨r.val, by omega⟩ ⟨k.val, by omega⟩) :=
    funext fun k => entry2 V U hx ⟨r.val / 512, hN⟩ ⟨r.val % 512, Nat.mod_lt _ (by decide)⟩ ⟨k.val, by omega⟩ ⟨r.val, by omega⟩
      (congrArg (fun z => z) hm.symm) ht
  have e2 : (fun (a : Fin 26) (d : Fin 128) => (ins2 U ⟨r.val / 512, hN⟩).x2 (ix2 ⟨r.val % 512 * 26 + a.val, by omega⟩ d))
      = fun a d => V (dr main_arg8) (ix2 ⟨(nums (F := Ideal) (V (dr main_arg0)) (ix1 ⟨(r.val) * 26 + a.val, by omega⟩)).toNat, h _⟩ d) :=
    funext fun a => funext fun d => vector2 V h U he ⟨r.val / 512, hN⟩ ⟨r.val % 512 * 26 + a.val, by omega⟩ d ⟨(r.val) * 26 + a.val, by omega⟩
      (by show (r.val) * 26 + a.val = (r.val / 512 * 13312 + (r.val % 512 * 26 + a.val)); omega) ht
  have e3 : (fun (X : Fin 27 → Fin 27 → EReal) (j : Fin 1024) => ∑ p : Fin 729, X (fst p) (snd p) * (ins2 U ⟨r.val / 512, hN⟩).x10 (ix2 p j))
      = fun X j => ∑ p : Fin 729, X (fst p) (snd p) * (Ideal.ofBits .f32 (bits p) * V (dr main_arg9) (ix2 ⟨128 + (pos p).val, by omega⟩ j)) :=
    funext fun X => funext fun j => Finset.sum_congr rfl fun p _ => congrArg (fun z : EReal => X (fst p) (snd p) * z) ((blk2_9 U ⟨r.val / 512, hN⟩ p j).trans (hU.v14 p j))
  exact congr (congr (congrArg (weights V).score e1) e2) e3

/-- What the second scoring call finds of its samples' entries. -/
theorem entry3 (U : Valuation τ sig (Elt Ideal)) (hx : U (dr main_v31) = some2048 (F := Ideal) (V (dr main_arg0)) 2048#32) (t : Fin cfg3.N) (a : Fin 512) (k : Fin 39)
    (R : Fin 4096) (hR : R.val = 2048 + (t.val * 512 + a.val)) (ht : t.val < 4) : blk3 U 0 t (ix2 a k) = V (dr main_arg0) (ix2 R k) := by
  refine (blk3_0 U t a k (by omega)).trans ?_
  rw [hx]
  refine (some1_apply _ _ _).trans ?_
  exact congrArg (fun z => V (dr main_arg0) (ix2 z k)) (Fin.ext hR.symm)

/-- What it finds of their vectors. -/
theorem vector3 (U : Valuation τ sig (Elt Ideal)) (hx : U (dr main_v28) = gath (F := Ideal) (V (dr main_arg8)) (half (nums (F := Ideal) (V (dr main_arg0))) 53248#32)) (t : Fin cfg3.N)
    (a : Fin 13312) (k : Fin 128) (Q : Fin 106496) (hQ : Q.val = 53248 + (t.val * 13312 + a.val)) (ht : t.val < 4) :
    blk3 U 1 t (ix2 a k) = V (dr main_arg8) (ix2 ⟨(nums (F := Ideal) (V (dr main_arg0)) (ix1 Q)).toNat, h _⟩ k) := by
  refine (blk3_1 U t a k (by omega)).trans ?_
  rw [hx]
  exact looked1 _ _ h _ k Q hQ

/-- A row of the call's result. -/
theorem rows3_apply (U : Valuation τ sig (Elt Ideal)) (hU : Later V U) (hx : U (dr main_v31) = some2048 (F := Ideal) (V (dr main_arg0)) 2048#32)
    (he : U (dr main_v28) = gath (F := Ideal) (V (dr main_arg8)) (half (nums (F := Ideal) (V (dr main_arg0))) 53248#32))
    (r : Fin 2048) : rows3 U (ix2 r 0) = sample V h ⟨2048 + r.val, by omega⟩ := by
  have hN : r.val / 512 < cfg3.N := by rw [Grid.N_3]; omega
  have ht : r.val / 512 < 4 := by omega
  have hm : r.val / 512 * 512 + r.val % 512 = r.val := by omega
  show score (ins3 U ⟨r.val / 512, hN⟩) (ix2 ⟨r.val % 512, Nat.mod_lt _ (by decide)⟩ 0) = _
  rw [Value.score_apply, net3 hU]
  have e1 : (fun k : Fin 13 => (ins3 U ⟨r.val / 512, hN⟩).x1 (ix2 ⟨r.val % 512, Nat.mod_lt _ (by decide)⟩ ⟨k.val, by omega⟩))
      = fun k => V (dr main_arg0) (ix2 ⟨2048 + r.val, by omega⟩ ⟨k.val, by omega⟩) :=
    funext fun k => entry3 V U hx ⟨r.val / 512, hN⟩ ⟨r.val % 512, Nat.mod_lt _ (by decide)⟩ ⟨k.val, by omega⟩ ⟨2048 + r.val, by omega⟩
      (congrArg (fun z => 2048 + z) hm.symm) ht
  have e2 : (fun (a : Fin 26) (d : Fin 128) => (ins3 U ⟨r.val / 512, hN⟩).x2 (ix2 ⟨r.val % 512 * 26 + a.val, by omega⟩ d))
      = fun a d => V (dr main_arg8) (ix2 ⟨(nums (F := Ideal) (V (dr main_arg0)) (ix1 ⟨(2048 + r.val) * 26 + a.val, by omega⟩)).toNat, h _⟩ d) :=
    funext fun a => funext fun d => vector3 V h U he ⟨r.val / 512, hN⟩ ⟨r.val % 512 * 26 + a.val, by omega⟩ d ⟨(2048 + r.val) * 26 + a.val, by omega⟩
      (by show (2048 + r.val) * 26 + a.val = 53248 + (r.val / 512 * 13312 + (r.val % 512 * 26 + a.val)); omega) ht
  have e3 : (fun (X : Fin 27 → Fin 27 → EReal) (j : Fin 1024) => ∑ p : Fin 729, X (fst p) (snd p) * (ins3 U ⟨r.val / 512, hN⟩).x10 (ix2 p j))
      = fun X j => ∑ p : Fin 729, X (fst p) (snd p) * (Ideal.ofBits .f32 (bits p) * V (dr main_arg9) (ix2 ⟨128 + (pos p).val, by omega⟩ j)) :=
    funext fun X => funext fun j => Finset.sum_congr rfl fun p _ => congrArg (fun z : EReal => X (fst p) (snd p) * z) ((blk3_9 U ⟨r.val / 512, hN⟩ p j).trans (hU.v14 p j))
  exact congr (congr (congrArg (weights V).score e1) e2) e3

/-! ## The result -/

/-- The reference at a device's arguments. -/
def wanted (V : Valuation τ sig (Elt Ideal)) : FVec Ideal S4096x1 .f32 :=
  Cert.ReferenceIdeal.RefValue.whole (V (dr main_arg0)) (V (dr main_arg2)) (V (dr main_arg3)) (V (dr main_arg4)) (V (dr main_arg5)) (V (dr main_arg6))
    (V (dr main_arg7)) (V (dr main_arg8)) (V (dr main_arg9)) (V (dr main_arg10)) (V (dr main_arg11)) (V (dr main_arg12)) (V (dr main_arg13))
    (V (dr main_arg14)) (V (dr main_arg15)) (V (dr main_arg16)) (V (dr main_arg17)) (V (dr main_arg18))

theorem wanted_apply (R : Fin 4096) : wanted V (ix2 R 0) = sample V h R := by
  unfold wanted
  refine (Cert.ReferenceIdeal.RefValue.whole_apply _ _ _ _ _ _ _ _ _ _ _ _ _ _ _ _ _ _ h R).trans ?_
  unfold sample
  have e : (fun (X : Fin 27 → Fin 27 → EReal) (j : Fin 1024) => ∑ p : Fin 729, X (fst p) (snd p) * (Ideal.ofBits .f32 (bits p) * (V (dr main_arg9) (ix2 ⟨128 + (pos p).val, by omega⟩ j) : EReal)))
      = fun X j => ∑ k : Fin 378, X (row k) (col k) * (V (dr main_arg9) (ix2 ⟨128 + k.val, by omega⟩ j) : EReal) :=
    funext fun X => funext fun j => sum_eq X fun k => V (dr main_arg9) (ix2 ⟨128 + k.val, by omega⟩ j)
  rw [e]
  rfl

theorem joined_apply (a b : FVec Ideal S2048x1 .f32) (R : Fin 4096) :
    concatenate S4096x1 0 [⟨S2048x1, a⟩, ⟨S2048x1, b⟩] concatenates_S2048x1_S2048x1_S4096x1_d0 (ix2 R 0)
      = if hR : R.val < 2048 then a (ix2 ⟨R.val, hR⟩ 0) else b (ix2 ⟨R.val - 2048, by omega⟩ 0) := by
  pointwise []

include h in
/-- The kernel's result is the reference's. -/
theorem result_eq (d : Dev nD) : W9 V d (dr main_v33) = wanted V := by
  rw [W9_v33]
  funext i
  obtain ⟨R, z, rfl⟩ : ∃ (R : Fin 4096) (z : Fin 1), i = ix2 R z := ⟨i 0, i 1, eq_ix2 i⟩
  obtain rfl : z = 0 := Subsingleton.elim _ _
  refine (joined_apply _ _ R).trans ?_
  rw [wanted_apply V h]
  split
  · rename_i hR
    exact rows2_apply V h (W5 V) (later5 V) (W5_v29 V) (W5_v25 V) ⟨R.val, hR⟩
  · rename_i hR
    refine (rows3_apply V h (W7 V d) (later7 V d) (W7_v31 V d) ((W7_keep V d main_v28 (by decide)).trans (W5_v28 V)) ⟨R.val - 2048, by omega⟩).trans (congrArg (sample V h) (Fin.ext ?_))
    show 2048 + (R.val - 2048) = R.val
    omega

end Cert.KernelIdeal.Equal
-- ==== Proof.Agree.lean ====
/-
  From equal arguments the kernel and the reference end with equal results over the extended reals.
-/
module

public import proofs.«01_k».proof.Proof.Equal
public import proofs.«01_k».proof.Proof.Frames
public import proofs.«01_k».proof.Proof.Refs

@[expose] public noncomputable section

namespace Cert.Agree

open Cert.KernelIdeal.Segs Cert.KernelIdeal.Run Cert.KernelIdeal.Range Cert.KernelIdeal.Frames
open Idealize.ShloMosaic Idealize.SL.Sem
open TcCoe

attribute [local instance] Cert.KernelIdeal.Gen.facts Cert.ReferenceIdeal.Gen.facts

/-- The reference's frame under the precondition, which it does not need. -/
theorem frame_reference_pre : Cert.quiescent_ReferenceIdeal_pre_cat_in_range (hPre_cat_in_range := Cert.Pre_cat_in_range.Gen.facts) :=
  fun m ρ _ => Cert.ReferenceIdeal.Refs.frame_reference m ρ trivial

/-- `Cert.algebraic_KernelIdeal_ReferenceIdeal` (Defs.lean). -/
theorem agree : Cert.algebraic_KernelIdeal_ReferenceIdeal (hPre_cat_in_range := Cert.Pre_cat_in_range.Gen.facts) := by
  intro m g m' g' hpre hargs
  letI := Cert.Pre_cat_in_range.Gen.facts
  have hin : ∀ d, InRange (F := Ideal) (W0 m d (dr Cert.KernelIdeal.main_arg0)) := fun d => inRange_of_pre _ _ _ _ _ _ _ _ _ _ _ _ _ _ _ _ _ _ _ (hpre d)
  refine ⟨fun c => Cert.KernelIdeal.Equal.wanted (W0 m c), ?_, ?_⟩
  · refine (θ_run _ _ _).mono (fun r h => fun c => ⟨?_, QC_args h c⟩) (run_main (F := Ideal) m g (ok hin))
    exact (h.1 c (dr Cert.KernelIdeal.main_v33) (mem_arrs rfl)).trans (Cert.KernelIdeal.Equal.result_eq (W0 m c) (nums_lt (hin c)) c)
  · refine (θ_run _ _ _).mono (fun r h => fun c => ⟨?_, (h c).2⟩) (Cert.ReferenceIdeal.Value.run (F := Ideal) m' g')
    refine (h c).1.trans ?_
    rw [Cert.ReferenceIdeal.RefValue.res_eq]
    obtain ⟨h0, h1, h2, h3, h4, h5, h6, h7, h8, h9, h10, h11, h12, h13, h14, h15, h16, h17, h18⟩ := hargs c
    rw [h0, h2, h3, h4, h5, h6, h7, h8, h9, h10, h11, h12, h13, h14, h15, h16, h17, h18]
    rfl

end Cert.Agree

end
-- ==== Proof.lean ====
/-
  The claims: the kernel and its ideal reading run and leave their arguments and counters as they were, the reference too;
  and the kernel and the reference compute the same results over the extended reals.
-/
module

public import proofs.«01_k».proof.Defs
public import proofs.«01_k».proof.Proof.Frames
public import proofs.«01_k».proof.Proof.Refs
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_cat_in_range.Gen.facts,
    Cert.KernelIdeal.Frames.frame_kernel, Cert.KernelIdeal.Frames.frame_kernelIdeal, Cert.ReferenceIdeal.Refs.frame_reference,
    Cert.Agree.frame_reference_pre, trivial, Cert.Agree.agree⟩

end Cert.Proof

end
